-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Linear (m : (ℓ : Loc Cert.Linear.nD Cert.Linear.τ Cert.Linear.sig) → Buf (Elt Bits) ℓ) : Prop :=
  True

def Pre_LinearIdeal (m : (ℓ : Loc Cert.LinearIdeal.nD Cert.LinearIdeal.τ Cert.LinearIdeal.sig) → Buf (Elt Ideal) ℓ) : Prop :=
  True

def Pre_LinearRefIdeal (m : (ℓ : Loc Cert.LinearRefIdeal.nD Cert.LinearRefIdeal.τ Cert.LinearRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Readout (m : (ℓ : Loc Cert.Readout.nD Cert.Readout.τ Cert.Readout.sig) → Buf (Elt Bits) ℓ) : Prop :=
  True

def Pre_ReadoutIdeal (m : (ℓ : Loc Cert.ReadoutIdeal.nD Cert.ReadoutIdeal.τ Cert.ReadoutIdeal.sig) → Buf (Elt Ideal) ℓ) : Prop :=
  True

def Pre_ReadoutRefIdeal (m : (ℓ : Loc Cert.ReadoutRefIdeal.nD Cert.ReadoutRefIdeal.τ Cert.ReadoutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Linear [hLinear : Cert.Linear.Facts] : Prop :=
  ∀ (m : (ℓ : Loc Cert.Linear.nD Cert.Linear.τ Cert.Linear.sig) → Buf (Elt Bits) ℓ) (g : Dev Cert.Linear.nD → PrngReg), Pre_Linear m →
    θ_run (Cert.Linear.defs (F := Bits)) (onTc (τ := Cert.Linear.τ) (Cert.Linear.main (F := Bits))) ⟨m, fun _ => 0, g⟩ (fun r => (∀ c : Dev Cert.Linear.nD,
      r.2.mem ((c.tc : Thread Cert.Linear.nD Cert.Linear.τ).loc Cert.Linear.main_arg0) = m ((c.tc : Thread Cert.Linear.nD Cert.Linear.τ).loc Cert.Linear.main_arg0)
      ∧ r.2.mem ((c.tc : Thread Cert.Linear.nD Cert.Linear.τ).loc Cert.Linear.main_arg1) = m ((c.tc : Thread Cert.Linear.nD Cert.Linear.τ).loc Cert.Linear.main_arg1)
      ∧ r.2.mem ((c.tc : Thread Cert.Linear.nD Cert.Linear.τ).loc Cert.Linear.main_arg2) = m ((c.tc : Thread Cert.Linear.nD Cert.Linear.τ).loc Cert.Linear.main_arg2)
      ∧ r.2.mem ((c.tc : Thread Cert.Linear.nD Cert.Linear.τ).loc Cert.Linear.main_arg3) = m ((c.tc : Thread Cert.Linear.nD Cert.Linear.τ).loc Cert.Linear.main_arg3)
      ∧ r.2.mem ((c.tc : Thread Cert.Linear.nD Cert.Linear.τ).loc Cert.Linear.main_arg4) = m ((c.tc : Thread Cert.Linear.nD Cert.Linear.τ).loc Cert.Linear.main_arg4)
      ∧ r.2.mem ((c.tc : Thread Cert.Linear.nD Cert.Linear.τ).loc Cert.Linear.main_arg5) = m ((c.tc : Thread Cert.Linear.nD Cert.Linear.τ).loc Cert.Linear.main_arg5)
      ∧ r.2.mem ((c.tc : Thread Cert.Linear.nD Cert.Linear.τ).loc Cert.Linear.main_arg6) = m ((c.tc : Thread Cert.Linear.nD Cert.Linear.τ).loc Cert.Linear.main_arg6)
      ∧ r.2.mem ((c.tc : Thread Cert.Linear.nD Cert.Linear.τ).loc Cert.Linear.main_arg7) = m ((c.tc : Thread Cert.Linear.nD Cert.Linear.τ).loc Cert.Linear.main_arg7)
      ∧ r.2.mem ((c.tc : Thread Cert.Linear.nD Cert.Linear.τ).loc Cert.Linear.main_arg8) = m ((c.tc : Thread Cert.Linear.nD Cert.Linear.τ).loc Cert.Linear.main_arg8)
      ∧ r.2.mem ((c.tc : Thread Cert.Linear.nD Cert.Linear.τ).loc Cert.Linear.main_arg9) = m ((c.tc : Thread Cert.Linear.nD Cert.Linear.τ).loc Cert.Linear.main_arg9)
      ∧ r.2.mem ((c.tc : Thread Cert.Linear.nD Cert.Linear.τ).loc Cert.Linear.main_arg10) = m ((c.tc : Thread Cert.Linear.nD Cert.Linear.τ).loc Cert.Linear.main_arg10)
      ∧ r.2.mem ((c.tc : Thread Cert.Linear.nD Cert.Linear.τ).loc Cert.Linear.main_arg11) = m ((c.tc : Thread Cert.Linear.nD Cert.Linear.τ).loc Cert.Linear.main_arg11))
      ∧ r.2.sem = fun _ => 0)

def quiescent_LinearIdeal [hLinearIdeal : Cert.LinearIdeal.Facts] : Prop :=
  ∀ (m : (ℓ : Loc Cert.LinearIdeal.nD Cert.LinearIdeal.τ Cert.LinearIdeal.sig) → Buf (Elt Ideal) ℓ) (g : Dev Cert.LinearIdeal.nD → PrngReg), Pre_LinearIdeal m →
    θ_run (Cert.LinearIdeal.defs (F := Ideal)) (onTc (τ := Cert.LinearIdeal.τ) (Cert.LinearIdeal.main (F := Ideal))) ⟨m, fun _ => 0, g⟩ (fun r => (∀ c : Dev Cert.LinearIdeal.nD,
      r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
      ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
      ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
      ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3)
      ∧ r.2.mem ((c.tc : Thread Cert.LinearIdeal.nD Cert.LinearIdeal.τ).loc Cert.LinearIdeal.main_arg4) = m ((c.tc : Thread Cert.LinearIdeal.nD Cert.LinearIdeal.τ).loc Cert.LinearIdeal.main_arg4)
      ∧ r.2.mem ((c.tc : Thread Cert.LinearIdeal.nD Cert.LinearIdeal.τ).loc Cert.LinearIdeal.main_arg5) = m ((c.tc : Thread Cert.LinearIdeal.nD Cert.LinearIdeal.τ).loc Cert.LinearIdeal.main_arg5)
      ∧ r.2.mem ((c.tc : Thread Cert.LinearIdeal.nD Cert.LinearIdeal.τ).loc Cert.LinearIdeal.main_arg6) = m ((c.tc : Thread Cert.LinearIdeal.nD Cert.LinearIdeal.τ).loc Cert.LinearIdeal.main_arg6)
      ∧ r.2.mem ((c.tc : Thread Cert.LinearIdeal.nD Cert.LinearIdeal.τ).loc Cert.LinearIdeal.main_arg7) = m ((c.tc : Thread Cert.LinearIdeal.nD Cert.LinearIdeal.τ).loc Cert.LinearIdeal.main_arg7)
      ∧ r.2.mem ((c.tc : Thread Cert.LinearIdeal.nD Cert.LinearIdeal.τ).loc Cert.LinearIdeal.main_arg8) = m ((c.tc : Thread Cert.LinearIdeal.nD Cert.LinearIdeal.τ).loc Cert.LinearIdeal.main_arg8)
      ∧ r.2.mem ((c.tc : Thread Cert.LinearIdeal.nD Cert.LinearIdeal.τ).loc Cert.LinearIdeal.main_arg9) = m ((c.tc : Thread Cert.LinearIdeal.nD Cert.LinearIdeal.τ).loc Cert.LinearIdeal.main_arg9)
      ∧ r.2.mem ((c.tc : Thread Cert.LinearIdeal.nD Cert.LinearIdeal.τ).loc Cert.LinearIdeal.main_arg10) = m ((c.tc : Thread Cert.LinearIdeal.nD Cert.LinearIdeal.τ).loc Cert.LinearIdeal.main_arg10)
      ∧ r.2.mem ((c.tc : Thread Cert.LinearIdeal.nD Cert.LinearIdeal.τ).loc Cert.LinearIdeal.main_arg11) = m ((c.tc : Thread Cert.LinearIdeal.nD Cert.LinearIdeal.τ).loc Cert.LinearIdeal.main_arg11))
      ∧ r.2.sem = fun _ => 0)

def quiescent_LinearRefIdeal [hLinearRefIdeal : Cert.LinearRefIdeal.Facts] : Prop :=
  ∀ (m : (ℓ : Loc Cert.LinearRefIdeal.nD Cert.LinearRefIdeal.τ Cert.LinearRefIdeal.sig) → Buf (Elt Ideal) ℓ) (g : Dev Cert.LinearRefIdeal.nD → PrngReg), Pre_LinearRefIdeal m →
    θ_run (Cert.LinearRefIdeal.defs (F := Ideal)) (onTc (τ := Cert.LinearRefIdeal.τ) (Cert.LinearRefIdeal.main (F := Ideal))) ⟨m, fun _ => 0, g⟩ (fun r => (∀ c : Dev Cert.LinearRefIdeal.nD,
      r.2.mem ((c.tc : Thread Cert.LinearRefIdeal.nD Cert.LinearRefIdeal.τ).loc Cert.LinearRefIdeal.main_arg0) = m ((c.tc : Thread Cert.LinearRefIdeal.nD Cert.LinearRefIdeal.τ).loc Cert.LinearRefIdeal.main_arg0)
      ∧ r.2.mem ((c.tc : Thread Cert.LinearRefIdeal.nD Cert.LinearRefIdeal.τ).loc Cert.LinearRefIdeal.main_arg1) = m ((c.tc : Thread Cert.LinearRefIdeal.nD Cert.LinearRefIdeal.τ).loc Cert.LinearRefIdeal.main_arg1)
      ∧ r.2.mem ((c.tc : Thread Cert.LinearRefIdeal.nD Cert.LinearRefIdeal.τ).loc Cert.LinearRefIdeal.main_arg2) = m ((c.tc : Thread Cert.LinearRefIdeal.nD Cert.LinearRefIdeal.τ).loc Cert.LinearRefIdeal.main_arg2)
      ∧ r.2.mem ((c.tc : Thread Cert.LinearRefIdeal.nD Cert.LinearRefIdeal.τ).loc Cert.LinearRefIdeal.main_arg3) = m ((c.tc : Thread Cert.LinearRefIdeal.nD Cert.LinearRefIdeal.τ).loc Cert.LinearRefIdeal.main_arg3)
      ∧ r.2.mem ((c.tc : Thread Cert.LinearRefIdeal.nD Cert.LinearRefIdeal.τ).loc Cert.LinearRefIdeal.main_arg4) = m ((c.tc : Thread Cert.LinearRefIdeal.nD Cert.LinearRefIdeal.τ).loc Cert.LinearRefIdeal.main_arg4)
      ∧ r.2.mem ((c.tc : Thread Cert.LinearRefIdeal.nD Cert.LinearRefIdeal.τ).loc Cert.LinearRefIdeal.main_arg5) = m ((c.tc : Thread Cert.LinearRefIdeal.nD Cert.LinearRefIdeal.τ).loc Cert.LinearRefIdeal.main_arg5)
      ∧ r.2.mem ((c.tc : Thread Cert.LinearRefIdeal.nD Cert.LinearRefIdeal.τ).loc Cert.LinearRefIdeal.main_arg6) = m ((c.tc : Thread Cert.LinearRefIdeal.nD Cert.LinearRefIdeal.τ).loc Cert.LinearRefIdeal.main_arg6)
      ∧ r.2.mem ((c.tc : Thread Cert.LinearRefIdeal.nD Cert.LinearRefIdeal.τ).loc Cert.LinearRefIdeal.main_arg7) = m ((c.tc : Thread Cert.LinearRefIdeal.nD Cert.LinearRefIdeal.τ).loc Cert.LinearRefIdeal.main_arg7)
      ∧ r.2.mem ((c.tc : Thread Cert.LinearRefIdeal.nD Cert.LinearRefIdeal.τ).loc Cert.LinearRefIdeal.main_arg8) = m ((c.tc : Thread Cert.LinearRefIdeal.nD Cert.LinearRefIdeal.τ).loc Cert.LinearRefIdeal.main_arg8)
      ∧ r.2.mem ((c.tc : Thread Cert.LinearRefIdeal.nD Cert.LinearRefIdeal.τ).loc Cert.LinearRefIdeal.main_arg9) = m ((c.tc : Thread Cert.LinearRefIdeal.nD Cert.LinearRefIdeal.τ).loc Cert.LinearRefIdeal.main_arg9)
      ∧ r.2.mem ((c.tc : Thread Cert.LinearRefIdeal.nD Cert.LinearRefIdeal.τ).loc Cert.LinearRefIdeal.main_arg10) = m ((c.tc : Thread Cert.LinearRefIdeal.nD Cert.LinearRefIdeal.τ).loc Cert.LinearRefIdeal.main_arg10)
      ∧ r.2.mem ((c.tc : Thread Cert.LinearRefIdeal.nD Cert.LinearRefIdeal.τ).loc Cert.LinearRefIdeal.main_arg11) = m ((c.tc : Thread Cert.LinearRefIdeal.nD Cert.LinearRefIdeal.τ).loc Cert.LinearRefIdeal.main_arg11))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3)
      ∧ r.2.mem ((c.tc : Thread Cert.Adamw.nD Cert.Adamw.τ).loc Cert.Adamw.main_arg4) = m ((c.tc : Thread Cert.Adamw.nD Cert.Adamw.τ).loc Cert.Adamw.main_arg4)
      ∧ r.2.mem ((c.tc : Thread Cert.Adamw.nD Cert.Adamw.τ).loc Cert.Adamw.main_arg5) = m ((c.tc : Thread Cert.Adamw.nD Cert.Adamw.τ).loc Cert.Adamw.main_arg5)
      ∧ r.2.mem ((c.tc : Thread Cert.Adamw.nD Cert.Adamw.τ).loc Cert.Adamw.main_arg6) = m ((c.tc : Thread Cert.Adamw.nD Cert.Adamw.τ).loc Cert.Adamw.main_arg6)
      ∧ r.2.mem ((c.tc : Thread Cert.Adamw.nD Cert.Adamw.τ).loc Cert.Adamw.main_arg7) = m ((c.tc : Thread Cert.Adamw.nD Cert.Adamw.τ).loc Cert.Adamw.main_arg7)
      ∧ r.2.mem ((c.tc : Thread Cert.Adamw.nD Cert.Adamw.τ).loc Cert.Adamw.main_arg8) = m ((c.tc : Thread Cert.Adamw.nD Cert.Adamw.τ).loc Cert.Adamw.main_arg8)
      ∧ r.2.mem ((c.tc : Thread Cert.Adamw.nD Cert.Adamw.τ).loc Cert.Adamw.main_arg9) = m ((c.tc : Thread Cert.Adamw.nD Cert.Adamw.τ).loc Cert.Adamw.main_arg9)
      ∧ r.2.mem ((c.tc : Thread Cert.Adamw.nD Cert.Adamw.τ).loc Cert.Adamw.main_arg10) = m ((c.tc : Thread Cert.Adamw.nD Cert.Adamw.τ).loc Cert.Adamw.main_arg10)
      ∧ r.2.mem ((c.tc : Thread Cert.Adamw.nD Cert.Adamw.τ).loc Cert.Adamw.main_arg11) = m ((c.tc : Thread Cert.Adamw.nD Cert.Adamw.τ).loc Cert.Adamw.main_arg11)
      ∧ r.2.mem ((c.tc : Thread Cert.Adamw.nD Cert.Adamw.τ).loc Cert.Adamw.main_arg12) = m ((c.tc : Thread Cert.Adamw.nD Cert.Adamw.τ).loc Cert.Adamw.main_arg12)
      ∧ r.2.mem ((c.tc : Thread Cert.Adamw.nD Cert.Adamw.τ).loc Cert.Adamw.main_arg13) = m ((c.tc : Thread Cert.Adamw.nD Cert.Adamw.τ).loc Cert.Adamw.main_arg13)
      ∧ r.2.mem ((c.tc : Thread Cert.Adamw.nD Cert.Adamw.τ).loc Cert.Adamw.main_arg14) = m ((c.tc : Thread Cert.Adamw.nD Cert.Adamw.τ).loc Cert.Adamw.main_arg14)
      ∧ r.2.mem ((c.tc : Thread Cert.Adamw.nD Cert.Adamw.τ).loc Cert.Adamw.main_arg15) = m ((c.tc : Thread Cert.Adamw.nD Cert.Adamw.τ).loc Cert.Adamw.main_arg15)
      ∧ r.2.mem ((c.tc : Thread Cert.Adamw.nD Cert.Adamw.τ).loc Cert.Adamw.main_arg16) = m ((c.tc : Thread Cert.Adamw.nD Cert.Adamw.τ).loc Cert.Adamw.main_arg16)
      ∧ r.2.mem ((c.tc : Thread Cert.Adamw.nD Cert.Adamw.τ).loc Cert.Adamw.main_arg17) = m ((c.tc : Thread Cert.Adamw.nD Cert.Adamw.τ).loc Cert.Adamw.main_arg17)
      ∧ r.2.mem ((c.tc : Thread Cert.Adamw.nD Cert.Adamw.τ).loc Cert.Adamw.main_arg18) = m ((c.tc : Thread Cert.Adamw.nD Cert.Adamw.τ).loc Cert.Adamw.main_arg18)
      ∧ r.2.mem ((c.tc : Thread Cert.Adamw.nD Cert.Adamw.τ).loc Cert.Adamw.main_arg19) = m ((c.tc : Thread Cert.Adamw.nD Cert.Adamw.τ).loc Cert.Adamw.main_arg19)
      ∧ r.2.mem ((c.tc : Thread Cert.Adamw.nD Cert.Adamw.τ).loc Cert.Adamw.main_arg20) = m ((c.tc : Thread Cert.Adamw.nD Cert.Adamw.τ).loc Cert.Adamw.main_arg20)
      ∧ r.2.mem ((c.tc : Thread Cert.Adamw.nD Cert.Adamw.τ).loc Cert.Adamw.main_arg21) = m ((c.tc : Thread Cert.Adamw.nD Cert.Adamw.τ).loc Cert.Adamw.main_arg21)
      ∧ r.2.mem ((c.tc : Thread Cert.Adamw.nD Cert.Adamw.τ).loc Cert.Adamw.main_arg22) = m ((c.tc : Thread Cert.Adamw.nD Cert.Adamw.τ).loc Cert.Adamw.main_arg22)
      ∧ r.2.mem ((c.tc : Thread Cert.Adamw.nD Cert.Adamw.τ).loc Cert.Adamw.main_arg23) = m ((c.tc : Thread Cert.Adamw.nD Cert.Adamw.τ).loc Cert.Adamw.main_arg23)
      ∧ r.2.mem ((c.tc : Thread Cert.Adamw.nD Cert.Adamw.τ).loc Cert.Adamw.main_arg24) = m ((c.tc : Thread Cert.Adamw.nD Cert.Adamw.τ).loc Cert.Adamw.main_arg24)
      ∧ r.2.mem ((c.tc : Thread Cert.Adamw.nD Cert.Adamw.τ).loc Cert.Adamw.main_arg25) = m ((c.tc : Thread Cert.Adamw.nD Cert.Adamw.τ).loc Cert.Adamw.main_arg25)
      ∧ r.2.mem ((c.tc : Thread Cert.Adamw.nD Cert.Adamw.τ).loc Cert.Adamw.main_arg26) = m ((c.tc : Thread Cert.Adamw.nD Cert.Adamw.τ).loc Cert.Adamw.main_arg26)
      ∧ r.2.mem ((c.tc : Thread Cert.Adamw.nD Cert.Adamw.τ).loc Cert.Adamw.main_arg27) = m ((c.tc : Thread Cert.Adamw.nD Cert.Adamw.τ).loc Cert.Adamw.main_arg27))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
      ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
      ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
      ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
      ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
      ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
      ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
      ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
      ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11)
      ∧ r.2.mem ((c.tc : Thread Cert.AdamwIdeal.nD Cert.AdamwIdeal.τ).loc Cert.AdamwIdeal.main_arg12) = m ((c.tc : Thread Cert.AdamwIdeal.nD Cert.AdamwIdeal.τ).loc Cert.AdamwIdeal.main_arg12)
      ∧ r.2.mem ((c.tc : Thread Cert.AdamwIdeal.nD Cert.AdamwIdeal.τ).loc Cert.AdamwIdeal.main_arg13) = m ((c.tc : Thread Cert.AdamwIdeal.nD Cert.AdamwIdeal.τ).loc Cert.AdamwIdeal.main_arg13)
      ∧ r.2.mem ((c.tc : Thread Cert.AdamwIdeal.nD Cert.AdamwIdeal.τ).loc Cert.AdamwIdeal.main_arg14) = m ((c.tc : Thread Cert.AdamwIdeal.nD Cert.AdamwIdeal.τ).loc Cert.AdamwIdeal.main_arg14)
      ∧ r.2.mem ((c.tc : Thread Cert.AdamwIdeal.nD Cert.AdamwIdeal.τ).loc Cert.AdamwIdeal.main_arg15) = m ((c.tc : Thread Cert.AdamwIdeal.nD Cert.AdamwIdeal.τ).loc Cert.AdamwIdeal.main_arg15)
      ∧ r.2.mem ((c.tc : Thread Cert.AdamwIdeal.nD Cert.AdamwIdeal.τ).loc Cert.AdamwIdeal.main_arg16) = m ((c.tc : Thread Cert.AdamwIdeal.nD Cert.AdamwIdeal.τ).loc Cert.AdamwIdeal.main_arg16)
      ∧ r.2.mem ((c.tc : Thread Cert.AdamwIdeal.nD Cert.AdamwIdeal.τ).loc Cert.AdamwIdeal.main_arg17) = m ((c.tc : Thread Cert.AdamwIdeal.nD Cert.AdamwIdeal.τ).loc Cert.AdamwIdeal.main_arg17)
      ∧ r.2.mem ((c.tc : Thread Cert.AdamwIdeal.nD Cert.AdamwIdeal.τ).loc Cert.AdamwIdeal.main_arg18) = m ((c.tc : Thread Cert.AdamwIdeal.nD Cert.AdamwIdeal.τ).loc Cert.AdamwIdeal.main_arg18)
      ∧ r.2.mem ((c.tc : Thread Cert.AdamwIdeal.nD Cert.AdamwIdeal.τ).loc Cert.AdamwIdeal.main_arg19) = m ((c.tc : Thread Cert.AdamwIdeal.nD Cert.AdamwIdeal.τ).loc Cert.AdamwIdeal.main_arg19)
      ∧ r.2.mem ((c.tc : Thread Cert.AdamwIdeal.nD Cert.AdamwIdeal.τ).loc Cert.AdamwIdeal.main_arg20) = m ((c.tc : Thread Cert.AdamwIdeal.nD Cert.AdamwIdeal.τ).loc Cert.AdamwIdeal.main_arg20)
      ∧ r.2.mem ((c.tc : Thread Cert.AdamwIdeal.nD Cert.AdamwIdeal.τ).loc Cert.AdamwIdeal.main_arg21) = m ((c.tc : Thread Cert.AdamwIdeal.nD Cert.AdamwIdeal.τ).loc Cert.AdamwIdeal.main_arg21)
      ∧ r.2.mem ((c.tc : Thread Cert.AdamwIdeal.nD Cert.AdamwIdeal.τ).loc Cert.AdamwIdeal.main_arg22) = m ((c.tc : Thread Cert.AdamwIdeal.nD Cert.AdamwIdeal.τ).loc Cert.AdamwIdeal.main_arg22)
      ∧ r.2.mem ((c.tc : Thread Cert.AdamwIdeal.nD Cert.AdamwIdeal.τ).loc Cert.AdamwIdeal.main_arg23) = m ((c.tc : Thread Cert.AdamwIdeal.nD Cert.AdamwIdeal.τ).loc Cert.AdamwIdeal.main_arg23)
      ∧ r.2.mem ((c.tc : Thread Cert.AdamwIdeal.nD Cert.AdamwIdeal.τ).loc Cert.AdamwIdeal.main_arg24) = m ((c.tc : Thread Cert.AdamwIdeal.nD Cert.AdamwIdeal.τ).loc Cert.AdamwIdeal.main_arg24)
      ∧ r.2.mem ((c.tc : Thread Cert.AdamwIdeal.nD Cert.AdamwIdeal.τ).loc Cert.AdamwIdeal.main_arg25) = m ((c.tc : Thread Cert.AdamwIdeal.nD Cert.AdamwIdeal.τ).loc Cert.AdamwIdeal.main_arg25)
      ∧ r.2.mem ((c.tc : Thread Cert.AdamwIdeal.nD Cert.AdamwIdeal.τ).loc Cert.AdamwIdeal.main_arg26) = m ((c.tc : Thread Cert.AdamwIdeal.nD Cert.AdamwIdeal.τ).loc Cert.AdamwIdeal.main_arg26)
      ∧ r.2.mem ((c.tc : Thread Cert.AdamwIdeal.nD Cert.AdamwIdeal.τ).loc Cert.AdamwIdeal.main_arg27) = m ((c.tc : Thread Cert.AdamwIdeal.nD Cert.AdamwIdeal.τ).loc Cert.AdamwIdeal.main_arg27))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3)
      ∧ r.2.mem ((c.tc : Thread Cert.AdamwRefIdeal.nD Cert.AdamwRefIdeal.τ).loc Cert.AdamwRefIdeal.main_arg4) = m ((c.tc : Thread Cert.AdamwRefIdeal.nD Cert.AdamwRefIdeal.τ).loc Cert.AdamwRefIdeal.main_arg4)
      ∧ r.2.mem ((c.tc : Thread Cert.AdamwRefIdeal.nD Cert.AdamwRefIdeal.τ).loc Cert.AdamwRefIdeal.main_arg5) = m ((c.tc : Thread Cert.AdamwRefIdeal.nD Cert.AdamwRefIdeal.τ).loc Cert.AdamwRefIdeal.main_arg5)
      ∧ r.2.mem ((c.tc : Thread Cert.AdamwRefIdeal.nD Cert.AdamwRefIdeal.τ).loc Cert.AdamwRefIdeal.main_arg6) = m ((c.tc : Thread Cert.AdamwRefIdeal.nD Cert.AdamwRefIdeal.τ).loc Cert.AdamwRefIdeal.main_arg6)
      ∧ r.2.mem ((c.tc : Thread Cert.AdamwRefIdeal.nD Cert.AdamwRefIdeal.τ).loc Cert.AdamwRefIdeal.main_arg7) = m ((c.tc : Thread Cert.AdamwRefIdeal.nD Cert.AdamwRefIdeal.τ).loc Cert.AdamwRefIdeal.main_arg7)
      ∧ r.2.mem ((c.tc : Thread Cert.AdamwRefIdeal.nD Cert.AdamwRefIdeal.τ).loc Cert.AdamwRefIdeal.main_arg8) = m ((c.tc : Thread Cert.AdamwRefIdeal.nD Cert.AdamwRefIdeal.τ).loc Cert.AdamwRefIdeal.main_arg8)
      ∧ r.2.mem ((c.tc : Thread Cert.AdamwRefIdeal.nD Cert.AdamwRefIdeal.τ).loc Cert.AdamwRefIdeal.main_arg9) = m ((c.tc : Thread Cert.AdamwRefIdeal.nD Cert.AdamwRefIdeal.τ).loc Cert.AdamwRefIdeal.main_arg9)
      ∧ r.2.mem ((c.tc : Thread Cert.AdamwRefIdeal.nD Cert.AdamwRefIdeal.τ).loc Cert.AdamwRefIdeal.main_arg10) = m ((c.tc : Thread Cert.AdamwRefIdeal.nD Cert.AdamwRefIdeal.τ).loc Cert.AdamwRefIdeal.main_arg10)
      ∧ r.2.mem ((c.tc : Thread Cert.AdamwRefIdeal.nD Cert.AdamwRefIdeal.τ).loc Cert.AdamwRefIdeal.main_arg11) = m ((c.tc : Thread Cert.AdamwRefIdeal.nD Cert.AdamwRefIdeal.τ).loc Cert.AdamwRefIdeal.main_arg11)
      ∧ r.2.mem ((c.tc : Thread Cert.AdamwRefIdeal.nD Cert.AdamwRefIdeal.τ).loc Cert.AdamwRefIdeal.main_arg12) = m ((c.tc : Thread Cert.AdamwRefIdeal.nD Cert.AdamwRefIdeal.τ).loc Cert.AdamwRefIdeal.main_arg12)
      ∧ r.2.mem ((c.tc : Thread Cert.AdamwRefIdeal.nD Cert.AdamwRefIdeal.τ).loc Cert.AdamwRefIdeal.main_arg13) = m ((c.tc : Thread Cert.AdamwRefIdeal.nD Cert.AdamwRefIdeal.τ).loc Cert.AdamwRefIdeal.main_arg13)
      ∧ r.2.mem ((c.tc : Thread Cert.AdamwRefIdeal.nD Cert.AdamwRefIdeal.τ).loc Cert.AdamwRefIdeal.main_arg14) = m ((c.tc : Thread Cert.AdamwRefIdeal.nD Cert.AdamwRefIdeal.τ).loc Cert.AdamwRefIdeal.main_arg14)
      ∧ r.2.mem ((c.tc : Thread Cert.AdamwRefIdeal.nD Cert.AdamwRefIdeal.τ).loc Cert.AdamwRefIdeal.main_arg15) = m ((c.tc : Thread Cert.AdamwRefIdeal.nD Cert.AdamwRefIdeal.τ).loc Cert.AdamwRefIdeal.main_arg15)
      ∧ r.2.mem ((c.tc : Thread Cert.AdamwRefIdeal.nD Cert.AdamwRefIdeal.τ).loc Cert.AdamwRefIdeal.main_arg16) = m ((c.tc : Thread Cert.AdamwRefIdeal.nD Cert.AdamwRefIdeal.τ).loc Cert.AdamwRefIdeal.main_arg16)
      ∧ r.2.mem ((c.tc : Thread Cert.AdamwRefIdeal.nD Cert.AdamwRefIdeal.τ).loc Cert.AdamwRefIdeal.main_arg17) = m ((c.tc : Thread Cert.AdamwRefIdeal.nD Cert.AdamwRefIdeal.τ).loc Cert.AdamwRefIdeal.main_arg17)
      ∧ r.2.mem ((c.tc : Thread Cert.AdamwRefIdeal.nD Cert.AdamwRefIdeal.τ).loc Cert.AdamwRefIdeal.main_arg18) = m ((c.tc : Thread Cert.AdamwRefIdeal.nD Cert.AdamwRefIdeal.τ).loc Cert.AdamwRefIdeal.main_arg18)
      ∧ r.2.mem ((c.tc : Thread Cert.AdamwRefIdeal.nD Cert.AdamwRefIdeal.τ).loc Cert.AdamwRefIdeal.main_arg19) = m ((c.tc : Thread Cert.AdamwRefIdeal.nD Cert.AdamwRefIdeal.τ).loc Cert.AdamwRefIdeal.main_arg19)
      ∧ r.2.mem ((c.tc : Thread Cert.AdamwRefIdeal.nD Cert.AdamwRefIdeal.τ).loc Cert.AdamwRefIdeal.main_arg20) = m ((c.tc : Thread Cert.AdamwRefIdeal.nD Cert.AdamwRefIdeal.τ).loc Cert.AdamwRefIdeal.main_arg20)
      ∧ r.2.mem ((c.tc : Thread Cert.AdamwRefIdeal.nD Cert.AdamwRefIdeal.τ).loc Cert.AdamwRefIdeal.main_arg21) = m ((c.tc : Thread Cert.AdamwRefIdeal.nD Cert.AdamwRefIdeal.τ).loc Cert.AdamwRefIdeal.main_arg21)
      ∧ r.2.mem ((c.tc : Thread Cert.AdamwRefIdeal.nD Cert.AdamwRefIdeal.τ).loc Cert.AdamwRefIdeal.main_arg22) = m ((c.tc : Thread Cert.AdamwRefIdeal.nD Cert.AdamwRefIdeal.τ).loc Cert.AdamwRefIdeal.main_arg22)
      ∧ r.2.mem ((c.tc : Thread Cert.AdamwRefIdeal.nD Cert.AdamwRefIdeal.τ).loc Cert.AdamwRefIdeal.main_arg23) = m ((c.tc : Thread Cert.AdamwRefIdeal.nD Cert.AdamwRefIdeal.τ).loc Cert.AdamwRefIdeal.main_arg23)
      ∧ r.2.mem ((c.tc : Thread Cert.AdamwRefIdeal.nD Cert.AdamwRefIdeal.τ).loc Cert.AdamwRefIdeal.main_arg24) = m ((c.tc : Thread Cert.AdamwRefIdeal.nD Cert.AdamwRefIdeal.τ).loc Cert.AdamwRefIdeal.main_arg24)
      ∧ r.2.mem ((c.tc : Thread Cert.AdamwRefIdeal.nD Cert.AdamwRefIdeal.τ).loc Cert.AdamwRefIdeal.main_arg25) = m ((c.tc : Thread Cert.AdamwRefIdeal.nD Cert.AdamwRefIdeal.τ).loc Cert.AdamwRefIdeal.main_arg25)
      ∧ r.2.mem ((c.tc : Thread Cert.AdamwRefIdeal.nD Cert.AdamwRefIdeal.τ).loc Cert.AdamwRefIdeal.main_arg26) = m ((c.tc : Thread Cert.AdamwRefIdeal.nD Cert.AdamwRefIdeal.τ).loc Cert.AdamwRefIdeal.main_arg26)
      ∧ r.2.mem ((c.tc : Thread Cert.AdamwRefIdeal.nD Cert.AdamwRefIdeal.τ).loc Cert.AdamwRefIdeal.main_arg27) = m ((c.tc : Thread Cert.AdamwRefIdeal.nD Cert.AdamwRefIdeal.τ).loc Cert.AdamwRefIdeal.main_arg27))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3)
      ∧ r.2.mem ((c.tc : Thread Cert.Ada.nD Cert.Ada.τ).loc Cert.Ada.main_arg4) = m ((c.tc : Thread Cert.Ada.nD Cert.Ada.τ).loc Cert.Ada.main_arg4)
      ∧ r.2.mem ((c.tc : Thread Cert.Ada.nD Cert.Ada.τ).loc Cert.Ada.main_arg5) = m ((c.tc : Thread Cert.Ada.nD Cert.Ada.τ).loc Cert.Ada.main_arg5))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
      ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4)
      ∧ r.2.mem ((c.tc : Thread Cert.AdaIdeal.nD Cert.AdaIdeal.τ).loc Cert.AdaIdeal.main_arg5) = m ((c.tc : Thread Cert.AdaIdeal.nD Cert.AdaIdeal.τ).loc Cert.AdaIdeal.main_arg5))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3)
      ∧ r.2.mem ((c.tc : Thread Cert.AdaRefIdeal.nD Cert.AdaRefIdeal.τ).loc Cert.AdaRefIdeal.main_arg4) = m ((c.tc : Thread Cert.AdaRefIdeal.nD Cert.AdaRefIdeal.τ).loc Cert.AdaRefIdeal.main_arg4)
      ∧ r.2.mem ((c.tc : Thread Cert.AdaRefIdeal.nD Cert.AdaRefIdeal.τ).loc Cert.AdaRefIdeal.main_arg5) = m ((c.tc : Thread Cert.AdaRefIdeal.nD Cert.AdaRefIdeal.τ).loc Cert.AdaRefIdeal.main_arg5))
      ∧ r.2.sem = fun _ => 0)

def quiescent_Readout [hReadout : Cert.Readout.Facts] : Prop :=
  ∀ (m : (ℓ : Loc Cert.Readout.nD Cert.Readout.τ Cert.Readout.sig) → Buf (Elt Bits) ℓ) (g : Dev Cert.Readout.nD → PrngReg), Pre_Readout m →
    θ_run (Cert.Readout.defs (F := Bits)) (onTc (τ := Cert.Readout.τ) (Cert.Readout.main (F := Bits))) ⟨m, fun _ => 0, g⟩ (fun r => (∀ c : Dev Cert.Readout.nD,
      r.2.mem ((c.tc : Thread Cert.Readout.nD Cert.Readout.τ).loc Cert.Readout.main_arg0) = m ((c.tc : Thread Cert.Readout.nD Cert.Readout.τ).loc Cert.Readout.main_arg0)
      ∧ r.2.mem ((c.tc : Thread Cert.Readout.nD Cert.Readout.τ).loc Cert.Readout.main_arg1) = m ((c.tc : Thread Cert.Readout.nD Cert.Readout.τ).loc Cert.Readout.main_arg1)
      ∧ r.2.mem ((c.tc : Thread Cert.Readout.nD Cert.Readout.τ).loc Cert.Readout.main_arg2) = m ((c.tc : Thread Cert.Readout.nD Cert.Readout.τ).loc Cert.Readout.main_arg2)
      ∧ r.2.mem ((c.tc : Thread Cert.Readout.nD Cert.Readout.τ).loc Cert.Readout.main_arg3) = m ((c.tc : Thread Cert.Readout.nD Cert.Readout.τ).loc Cert.Readout.main_arg3))
      ∧ r.2.sem = fun _ => 0)

def quiescent_ReadoutIdeal [hReadoutIdeal : Cert.ReadoutIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg), Pre_ReadoutIdeal m →
    θ_run (Cert.ReadoutIdeal.defs (F := Ideal)) (onTc (τ := Cert.ReadoutIdeal.τ) (Cert.ReadoutIdeal.main (F := Ideal))) ⟨m, fun _ => 0, g⟩ (fun r => (∀ c : Dev Cert.ReadoutIdeal.nD,
      r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
      ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
      ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
      ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3))
      ∧ r.2.sem = fun _ => 0)

def quiescent_ReadoutRefIdeal [hReadoutRefIdeal : Cert.ReadoutRefIdeal.Facts] : Prop :=
  ∀ (m : (ℓ : Loc Cert.ReadoutRefIdeal.nD Cert.ReadoutRefIdeal.τ Cert.ReadoutRefIdeal.sig) → Buf (Elt Ideal) ℓ) (g : Dev Cert.ReadoutRefIdeal.nD → PrngReg), Pre_ReadoutRefIdeal m →
    θ_run (Cert.ReadoutRefIdeal.defs (F := Ideal)) (onTc (τ := Cert.ReadoutRefIdeal.τ) (Cert.ReadoutRefIdeal.main (F := Ideal))) ⟨m, fun _ => 0, g⟩ (fun r => (∀ c : Dev Cert.ReadoutRefIdeal.nD,
      r.2.mem ((c.tc : Thread Cert.ReadoutRefIdeal.nD Cert.ReadoutRefIdeal.τ).loc Cert.ReadoutRefIdeal.main_arg0) = m ((c.tc : Thread Cert.ReadoutRefIdeal.nD Cert.ReadoutRefIdeal.τ).loc Cert.ReadoutRefIdeal.main_arg0)
      ∧ r.2.mem ((c.tc : Thread Cert.ReadoutRefIdeal.nD Cert.ReadoutRefIdeal.τ).loc Cert.ReadoutRefIdeal.main_arg1) = m ((c.tc : Thread Cert.ReadoutRefIdeal.nD Cert.ReadoutRefIdeal.τ).loc Cert.ReadoutRefIdeal.main_arg1)
      ∧ r.2.mem ((c.tc : Thread Cert.ReadoutRefIdeal.nD Cert.ReadoutRefIdeal.τ).loc Cert.ReadoutRefIdeal.main_arg2) = m ((c.tc : Thread Cert.ReadoutRefIdeal.nD Cert.ReadoutRefIdeal.τ).loc Cert.ReadoutRefIdeal.main_arg2)
      ∧ r.2.mem ((c.tc : Thread Cert.ReadoutRefIdeal.nD Cert.ReadoutRefIdeal.τ).loc Cert.ReadoutRefIdeal.main_arg3) = m ((c.tc : Thread Cert.ReadoutRefIdeal.nD Cert.ReadoutRefIdeal.τ).loc Cert.ReadoutRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v82) = v0 c
          ∧ r.2.mem ((c.tc : Thread Cert.ConvRefIdeal.nD Cert.ConvRefIdeal.τ).loc Cert.ConvRefIdeal.main_v62) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v1)) (v1 : (c : Dev Cert.MlpIdeal.nD) → Buf (Elt Ideal) ((c.tc : Thread Cert.MlpIdeal.nD Cert.MlpIdeal.τ).loc Cert.MlpIdeal.main_v4)) (v2 : (c : Dev Cert.MlpIdeal.nD) → Buf (Elt Ideal) ((c.tc : Thread Cert.MlpIdeal.nD Cert.MlpIdeal.τ).loc Cert.MlpIdeal.main_v5)) (v3 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v1) = v0 c
          ∧ r.2.mem ((c.tc : Thread Cert.MlpIdeal.nD Cert.MlpIdeal.τ).loc Cert.MlpIdeal.main_v4) = v1 c
          ∧ r.2.mem ((c.tc : Thread Cert.MlpIdeal.nD Cert.MlpIdeal.τ).loc Cert.MlpIdeal.main_v5) = v2 c
          ∧ r.2.mem ((c.tc : Thread Cert.MlpIdeal.nD Cert.MlpIdeal.τ).loc Cert.MlpIdeal.main_v3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v22) = v0 c
          ∧ r.2.mem ((c.tc : Thread Cert.MlpRefIdeal.nD Cert.MlpRefIdeal.τ).loc Cert.MlpRefIdeal.main_v23) = v1 c
          ∧ r.2.mem ((c.tc : Thread Cert.MlpRefIdeal.nD Cert.MlpRefIdeal.τ).loc Cert.MlpRefIdeal.main_v20) = v2 c
          ∧ r.2.mem ((c.tc : Thread Cert.MlpRefIdeal.nD Cert.MlpRefIdeal.τ).loc Cert.MlpRefIdeal.main_v14) = v3 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Linear_LinearIdeal : Prop :=
  True

def algebraic_LinearIdeal_LinearRefIdeal [hLinearIdeal : Cert.LinearIdeal.Facts] [hLinearRefIdeal : Cert.LinearRefIdeal.Facts] : Prop :=
  ∀ (m : (ℓ : Loc Cert.LinearIdeal.nD Cert.LinearIdeal.τ Cert.LinearIdeal.sig) → Buf (Elt Ideal) ℓ) (g : Dev Cert.LinearIdeal.nD → PrngReg)
    (m' : (ℓ : Loc Cert.LinearRefIdeal.nD Cert.LinearRefIdeal.τ Cert.LinearRefIdeal.sig) → Buf (Elt Ideal) ℓ) (g' : Dev Cert.LinearRefIdeal.nD → PrngReg), Pre_LinearIdeal m →
    (∀ c : Dev Cert.LinearIdeal.nD,
      m' ((c.tc : Thread Cert.LinearRefIdeal.nD Cert.LinearRefIdeal.τ).loc Cert.LinearRefIdeal.main_arg0) = m ((c.tc : Thread Cert.LinearIdeal.nD Cert.LinearIdeal.τ).loc Cert.LinearIdeal.main_arg0)
      ∧ m' ((c.tc : Thread Cert.LinearRefIdeal.nD Cert.LinearRefIdeal.τ).loc Cert.LinearRefIdeal.main_arg1) = m ((c.tc : Thread Cert.LinearIdeal.nD Cert.LinearIdeal.τ).loc Cert.LinearIdeal.main_arg1)
      ∧ m' ((c.tc : Thread Cert.LinearRefIdeal.nD Cert.LinearRefIdeal.τ).loc Cert.LinearRefIdeal.main_arg2) = m ((c.tc : Thread Cert.LinearIdeal.nD Cert.LinearIdeal.τ).loc Cert.LinearIdeal.main_arg2)
      ∧ m' ((c.tc : Thread Cert.LinearRefIdeal.nD Cert.LinearRefIdeal.τ).loc Cert.LinearRefIdeal.main_arg3) = m ((c.tc : Thread Cert.LinearIdeal.nD Cert.LinearIdeal.τ).loc Cert.LinearIdeal.main_arg3)
      ∧ m' ((c.tc : Thread Cert.LinearRefIdeal.nD Cert.LinearRefIdeal.τ).loc Cert.LinearRefIdeal.main_arg4) = m ((c.tc : Thread Cert.LinearIdeal.nD Cert.LinearIdeal.τ).loc Cert.LinearIdeal.main_arg4)
      ∧ m' ((c.tc : Thread Cert.LinearRefIdeal.nD Cert.LinearRefIdeal.τ).loc Cert.LinearRefIdeal.main_arg5) = m ((c.tc : Thread Cert.LinearIdeal.nD Cert.LinearIdeal.τ).loc Cert.LinearIdeal.main_arg5)
      ∧ m' ((c.tc : Thread Cert.LinearRefIdeal.nD Cert.LinearRefIdeal.τ).loc Cert.LinearRefIdeal.main_arg6) = m ((c.tc : Thread Cert.LinearIdeal.nD Cert.LinearIdeal.τ).loc Cert.LinearIdeal.main_arg6)
      ∧ m' ((c.tc : Thread Cert.LinearRefIdeal.nD Cert.LinearRefIdeal.τ).loc Cert.LinearRefIdeal.main_arg7) = m ((c.tc : Thread Cert.LinearIdeal.nD Cert.LinearIdeal.τ).loc Cert.LinearIdeal.main_arg7)
      ∧ m' ((c.tc : Thread Cert.LinearRefIdeal.nD Cert.LinearRefIdeal.τ).loc Cert.LinearRefIdeal.main_arg8) = m ((c.tc : Thread Cert.LinearIdeal.nD Cert.LinearIdeal.τ).loc Cert.LinearIdeal.main_arg8)
      ∧ m' ((c.tc : Thread Cert.LinearRefIdeal.nD Cert.LinearRefIdeal.τ).loc Cert.LinearRefIdeal.main_arg9) = m ((c.tc : Thread Cert.LinearIdeal.nD Cert.LinearIdeal.τ).loc Cert.LinearIdeal.main_arg9)
      ∧ m' ((c.tc : Thread Cert.LinearRefIdeal.nD Cert.LinearRefIdeal.τ).loc Cert.LinearRefIdeal.main_arg10) = m ((c.tc : Thread Cert.LinearIdeal.nD Cert.LinearIdeal.τ).loc Cert.LinearIdeal.main_arg10)
      ∧ m' ((c.tc : Thread Cert.LinearRefIdeal.nD Cert.LinearRefIdeal.τ).loc Cert.LinearRefIdeal.main_arg11) = m ((c.tc : Thread Cert.LinearIdeal.nD Cert.LinearIdeal.τ).loc Cert.LinearIdeal.main_arg11)) →
    ∃ (v0 : (c : Dev Cert.LinearIdeal.nD) → Buf (Elt Ideal) ((c.tc : Thread Cert.LinearIdeal.nD Cert.LinearIdeal.τ).loc Cert.LinearIdeal.main_v0)) (v1 : (c : Dev Cert.LinearIdeal.nD) → Buf (Elt Ideal) ((c.tc : Thread Cert.LinearIdeal.nD Cert.LinearIdeal.τ).loc Cert.LinearIdeal.main_v1)) (v2 : (c : Dev Cert.LinearIdeal.nD) → Buf (Elt Ideal) ((c.tc : Thread Cert.LinearIdeal.nD Cert.LinearIdeal.τ).loc Cert.LinearIdeal.main_v2)) (v3 : (c : Dev Cert.LinearIdeal.nD) → Buf (Elt Ideal) ((c.tc : Thread Cert.LinearIdeal.nD Cert.LinearIdeal.τ).loc Cert.LinearIdeal.main_v3)) (v4 : (c : Dev Cert.LinearIdeal.nD) → Buf (Elt Ideal) ((c.tc : Thread Cert.LinearIdeal.nD Cert.LinearIdeal.τ).loc Cert.LinearIdeal.main_v4)) (v5 : (c : Dev Cert.LinearIdeal.nD) → Buf (Elt Ideal) ((c.tc : Thread Cert.LinearIdeal.nD Cert.LinearIdeal.τ).loc Cert.LinearIdeal.main_v5)) (v6 : (c : Dev Cert.LinearIdeal.nD) → Buf (Elt Ideal) ((c.tc : Thread Cert.LinearIdeal.nD Cert.LinearIdeal.τ).loc Cert.LinearIdeal.main_v6)) (v7 : (c : Dev Cert.LinearIdeal.nD) → Buf (Elt Ideal) ((c.tc : Thread Cert.LinearIdeal.nD Cert.LinearIdeal.τ).loc Cert.LinearIdeal.main_v7)) (v8 : (c : Dev Cert.LinearIdeal.nD) → Buf (Elt Ideal) ((c.tc : Thread Cert.LinearIdeal.nD Cert.LinearIdeal.τ).loc Cert.LinearIdeal.main_v8)) (v9 : (c : Dev Cert.LinearIdeal.nD) → Buf (Elt Ideal) ((c.tc : Thread Cert.LinearIdeal.nD Cert.LinearIdeal.τ).loc Cert.LinearIdeal.main_v9)) (v10 : (c : Dev Cert.LinearIdeal.nD) → Buf (Elt Ideal) ((c.tc : Thread Cert.LinearIdeal.nD Cert.LinearIdeal.τ).loc Cert.LinearIdeal.main_v10)) (v11 : (c : Dev Cert.LinearIdeal.nD) → Buf (Elt Ideal) ((c.tc : Thread Cert.LinearIdeal.nD Cert.LinearIdeal.τ).loc Cert.LinearIdeal.main_v11)),
      θ_run (Cert.LinearIdeal.defs (F := Ideal)) (onTc (τ := Cert.LinearIdeal.τ) (Cert.LinearIdeal.main (F := Ideal))) ⟨m, fun _ => 0, g⟩ (fun r => ∀ c : Dev Cert.LinearIdeal.nD,
          r.2.mem ((c.tc : Thread Cert.LinearIdeal.nD Cert.LinearIdeal.τ).loc Cert.LinearIdeal.main_v0) = v0 c
          ∧ r.2.mem ((c.tc : Thread Cert.LinearIdeal.nD Cert.LinearIdeal.τ).loc Cert.LinearIdeal.main_v1) = v1 c
          ∧ r.2.mem ((c.tc : Thread Cert.LinearIdeal.nD Cert.LinearIdeal.τ).loc Cert.LinearIdeal.main_v2) = v2 c
          ∧ r.2.mem ((c.tc : Thread Cert.LinearIdeal.nD Cert.LinearIdeal.τ).loc Cert.LinearIdeal.main_v3) = v3 c
          ∧ r.2.mem ((c.tc : Thread Cert.LinearIdeal.nD Cert.LinearIdeal.τ).loc Cert.LinearIdeal.main_v4) = v4 c
          ∧ r.2.mem ((c.tc : Thread Cert.LinearIdeal.nD Cert.LinearIdeal.τ).loc Cert.LinearIdeal.main_v5) = v5 c
          ∧ r.2.mem ((c.tc : Thread Cert.LinearIdeal.nD Cert.LinearIdeal.τ).loc Cert.LinearIdeal.main_v6) = v6 c
          ∧ r.2.mem ((c.tc : Thread Cert.LinearIdeal.nD Cert.LinearIdeal.τ).loc Cert.LinearIdeal.main_v7) = v7 c
          ∧ r.2.mem ((c.tc : Thread Cert.LinearIdeal.nD Cert.LinearIdeal.τ).loc Cert.LinearIdeal.main_v8) = v8 c
          ∧ r.2.mem ((c.tc : Thread Cert.LinearIdeal.nD Cert.LinearIdeal.τ).loc Cert.LinearIdeal.main_v9) = v9 c
          ∧ r.2.mem ((c.tc : Thread Cert.LinearIdeal.nD Cert.LinearIdeal.τ).loc Cert.LinearIdeal.main_v10) = v10 c
          ∧ r.2.mem ((c.tc : Thread Cert.LinearIdeal.nD Cert.LinearIdeal.τ).loc Cert.LinearIdeal.main_v11) = v11 c
          ∧ r.2.mem ((c.tc : Thread Cert.LinearIdeal.nD Cert.LinearIdeal.τ).loc Cert.LinearIdeal.main_arg0) = m ((c.tc : Thread Cert.LinearIdeal.nD Cert.LinearIdeal.τ).loc Cert.LinearIdeal.main_arg0)
          ∧ r.2.mem ((c.tc : Thread Cert.LinearIdeal.nD Cert.LinearIdeal.τ).loc Cert.LinearIdeal.main_arg1) = m ((c.tc : Thread Cert.LinearIdeal.nD Cert.LinearIdeal.τ).loc Cert.LinearIdeal.main_arg1)
          ∧ r.2.mem ((c.tc : Thread Cert.LinearIdeal.nD Cert.LinearIdeal.τ).loc Cert.LinearIdeal.main_arg2) = m ((c.tc : Thread Cert.LinearIdeal.nD Cert.LinearIdeal.τ).loc Cert.LinearIdeal.main_arg2)
          ∧ r.2.mem ((c.tc : Thread Cert.LinearIdeal.nD Cert.LinearIdeal.τ).loc Cert.LinearIdeal.main_arg3) = m ((c.tc : Thread Cert.LinearIdeal.nD Cert.LinearIdeal.τ).loc Cert.LinearIdeal.main_arg3)
          ∧ r.2.mem ((c.tc : Thread Cert.LinearIdeal.nD Cert.LinearIdeal.τ).loc Cert.LinearIdeal.main_arg4) = m ((c.tc : Thread Cert.LinearIdeal.nD Cert.LinearIdeal.τ).loc Cert.LinearIdeal.main_arg4)
          ∧ r.2.mem ((c.tc : Thread Cert.LinearIdeal.nD Cert.LinearIdeal.τ).loc Cert.LinearIdeal.main_arg5) = m ((c.tc : Thread Cert.LinearIdeal.nD Cert.LinearIdeal.τ).loc Cert.LinearIdeal.main_arg5)
          ∧ r.2.mem ((c.tc : Thread Cert.LinearIdeal.nD Cert.LinearIdeal.τ).loc Cert.LinearIdeal.main_arg6) = m ((c.tc : Thread Cert.LinearIdeal.nD Cert.LinearIdeal.τ).loc Cert.LinearIdeal.main_arg6)
          ∧ r.2.mem ((c.tc : Thread Cert.LinearIdeal.nD Cert.LinearIdeal.τ).loc Cert.LinearIdeal.main_arg7) = m ((c.tc : Thread Cert.LinearIdeal.nD Cert.LinearIdeal.τ).loc Cert.LinearIdeal.main_arg7)
          ∧ r.2.mem ((c.tc : Thread Cert.LinearIdeal.nD Cert.LinearIdeal.τ).loc Cert.LinearIdeal.main_arg8) = m ((c.tc : Thread Cert.LinearIdeal.nD Cert.LinearIdeal.τ).loc Cert.LinearIdeal.main_arg8)
          ∧ r.2.mem ((c.tc : Thread Cert.LinearIdeal.nD Cert.LinearIdeal.τ).loc Cert.LinearIdeal.main_arg9) = m ((c.tc : Thread Cert.LinearIdeal.nD Cert.LinearIdeal.τ).loc Cert.LinearIdeal.main_arg9)
          ∧ r.2.mem ((c.tc : Thread Cert.LinearIdeal.nD Cert.LinearIdeal.τ).loc Cert.LinearIdeal.main_arg10) = m ((c.tc : Thread Cert.LinearIdeal.nD Cert.LinearIdeal.τ).loc Cert.LinearIdeal.main_arg10)
          ∧ r.2.mem ((c.tc : Thread Cert.LinearIdeal.nD Cert.LinearIdeal.τ).loc Cert.LinearIdeal.main_arg11) = m ((c.tc : Thread Cert.LinearIdeal.nD Cert.LinearIdeal.τ).loc Cert.LinearIdeal.main_arg11))
      ∧ θ_run (Cert.LinearRefIdeal.defs (F := Ideal)) (onTc (τ := Cert.LinearRefIdeal.τ) (Cert.LinearRefIdeal.main (F := Ideal))) ⟨m', fun _ => 0, g'⟩ (fun r => ∀ c : Dev Cert.LinearRefIdeal.nD,
          r.2.mem ((c.tc : Thread Cert.LinearRefIdeal.nD Cert.LinearRefIdeal.τ).loc Cert.LinearRefIdeal.main_v7) = v0 c
          ∧ r.2.mem ((c.tc : Thread Cert.LinearRefIdeal.nD Cert.LinearRefIdeal.τ).loc Cert.LinearRefIdeal.main_v8) = v1 c
          ∧ r.2.mem ((c.tc : Thread Cert.LinearRefIdeal.nD Cert.LinearRefIdeal.τ).loc Cert.LinearRefIdeal.main_v5) = v2 c
          ∧ r.2.mem ((c.tc : Thread Cert.LinearRefIdeal.nD Cert.LinearRefIdeal.τ).loc Cert.LinearRefIdeal.main_v16) = v3 c
          ∧ r.2.mem ((c.tc : Thread Cert.LinearRefIdeal.nD Cert.LinearRefIdeal.τ).loc Cert.LinearRefIdeal.main_v17) = v4 c
          ∧ r.2.mem ((c.tc : Thread Cert.LinearRefIdeal.nD Cert.LinearRefIdeal.τ).loc Cert.LinearRefIdeal.main_v14) = v5 c
          ∧ r.2.mem ((c.tc : Thread Cert.LinearRefIdeal.nD Cert.LinearRefIdeal.τ).loc Cert.LinearRefIdeal.main_v25) = v6 c
          ∧ r.2.mem ((c.tc : Thread Cert.LinearRefIdeal.nD Cert.LinearRefIdeal.τ).loc Cert.LinearRefIdeal.main_v26) = v7 c
          ∧ r.2.mem ((c.tc : Thread Cert.LinearRefIdeal.nD Cert.LinearRefIdeal.τ).loc Cert.LinearRefIdeal.main_v23) = v8 c
          ∧ r.2.mem ((c.tc : Thread Cert.LinearRefIdeal.nD Cert.LinearRefIdeal.τ).loc Cert.LinearRefIdeal.main_v34) = v9 c
          ∧ r.2.mem ((c.tc : Thread Cert.LinearRefIdeal.nD Cert.LinearRefIdeal.τ).loc Cert.LinearRefIdeal.main_v35) = v10 c
          ∧ r.2.mem ((c.tc : Thread Cert.LinearRefIdeal.nD Cert.LinearRefIdeal.τ).loc Cert.LinearRefIdeal.main_v32) = v11 c
          ∧ r.2.mem ((c.tc : Thread Cert.LinearRefIdeal.nD Cert.LinearRefIdeal.τ).loc Cert.LinearRefIdeal.main_arg0) = m' ((c.tc : Thread Cert.LinearRefIdeal.nD Cert.LinearRefIdeal.τ).loc Cert.LinearRefIdeal.main_arg0)
          ∧ r.2.mem ((c.tc : Thread Cert.LinearRefIdeal.nD Cert.LinearRefIdeal.τ).loc Cert.LinearRefIdeal.main_arg1) = m' ((c.tc : Thread Cert.LinearRefIdeal.nD Cert.LinearRefIdeal.τ).loc Cert.LinearRefIdeal.main_arg1)
          ∧ r.2.mem ((c.tc : Thread Cert.LinearRefIdeal.nD Cert.LinearRefIdeal.τ).loc Cert.LinearRefIdeal.main_arg2) = m' ((c.tc : Thread Cert.LinearRefIdeal.nD Cert.LinearRefIdeal.τ).loc Cert.LinearRefIdeal.main_arg2)
          ∧ r.2.mem ((c.tc : Thread Cert.LinearRefIdeal.nD Cert.LinearRefIdeal.τ).loc Cert.LinearRefIdeal.main_arg3) = m' ((c.tc : Thread Cert.LinearRefIdeal.nD Cert.LinearRefIdeal.τ).loc Cert.LinearRefIdeal.main_arg3)
          ∧ r.2.mem ((c.tc : Thread Cert.LinearRefIdeal.nD Cert.LinearRefIdeal.τ).loc Cert.LinearRefIdeal.main_arg4) = m' ((c.tc : Thread Cert.LinearRefIdeal.nD Cert.LinearRefIdeal.τ).loc Cert.LinearRefIdeal.main_arg4)
          ∧ r.2.mem ((c.tc : Thread Cert.LinearRefIdeal.nD Cert.LinearRefIdeal.τ).loc Cert.LinearRefIdeal.main_arg5) = m' ((c.tc : Thread Cert.LinearRefIdeal.nD Cert.LinearRefIdeal.τ).loc Cert.LinearRefIdeal.main_arg5)
          ∧ r.2.mem ((c.tc : Thread Cert.LinearRefIdeal.nD Cert.LinearRefIdeal.τ).loc Cert.LinearRefIdeal.main_arg6) = m' ((c.tc : Thread Cert.LinearRefIdeal.nD Cert.LinearRefIdeal.τ).loc Cert.LinearRefIdeal.main_arg6)
          ∧ r.2.mem ((c.tc : Thread Cert.LinearRefIdeal.nD Cert.LinearRefIdeal.τ).loc Cert.LinearRefIdeal.main_arg7) = m' ((c.tc : Thread Cert.LinearRefIdeal.nD Cert.LinearRefIdeal.τ).loc Cert.LinearRefIdeal.main_arg7)
          ∧ r.2.mem ((c.tc : Thread Cert.LinearRefIdeal.nD Cert.LinearRefIdeal.τ).loc Cert.LinearRefIdeal.main_arg8) = m' ((c.tc : Thread Cert.LinearRefIdeal.nD Cert.LinearRefIdeal.τ).loc Cert.LinearRefIdeal.main_arg8)
          ∧ r.2.mem ((c.tc : Thread Cert.LinearRefIdeal.nD Cert.LinearRefIdeal.τ).loc Cert.LinearRefIdeal.main_arg9) = m' ((c.tc : Thread Cert.LinearRefIdeal.nD Cert.LinearRefIdeal.τ).loc Cert.LinearRefIdeal.main_arg9)
          ∧ r.2.mem ((c.tc : Thread Cert.LinearRefIdeal.nD Cert.LinearRefIdeal.τ).loc Cert.LinearRefIdeal.main_arg10) = m' ((c.tc : Thread Cert.LinearRefIdeal.nD Cert.LinearRefIdeal.τ).loc Cert.LinearRefIdeal.main_arg10)
          ∧ r.2.mem ((c.tc : Thread Cert.LinearRefIdeal.nD Cert.LinearRefIdeal.τ).loc Cert.LinearRefIdeal.main_arg11) = m' ((c.tc : Thread Cert.LinearRefIdeal.nD Cert.LinearRefIdeal.τ).loc Cert.LinearRefIdeal.main_arg11))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)
      ∧ m' ((c.tc : Thread Cert.AdamwRefIdeal.nD Cert.AdamwRefIdeal.τ).loc Cert.AdamwRefIdeal.main_arg4) = m ((c.tc : Thread Cert.AdamwIdeal.nD Cert.AdamwIdeal.τ).loc Cert.AdamwIdeal.main_arg4)
      ∧ m' ((c.tc : Thread Cert.AdamwRefIdeal.nD Cert.AdamwRefIdeal.τ).loc Cert.AdamwRefIdeal.main_arg5) = m ((c.tc : Thread Cert.AdamwIdeal.nD Cert.AdamwIdeal.τ).loc Cert.AdamwIdeal.main_arg5)
      ∧ m' ((c.tc : Thread Cert.AdamwRefIdeal.nD Cert.AdamwRefIdeal.τ).loc Cert.AdamwRefIdeal.main_arg6) = m ((c.tc : Thread Cert.AdamwIdeal.nD Cert.AdamwIdeal.τ).loc Cert.AdamwIdeal.main_arg6)
      ∧ m' ((c.tc : Thread Cert.AdamwRefIdeal.nD Cert.AdamwRefIdeal.τ).loc Cert.AdamwRefIdeal.main_arg7) = m ((c.tc : Thread Cert.AdamwIdeal.nD Cert.AdamwIdeal.τ).loc Cert.AdamwIdeal.main_arg7)
      ∧ m' ((c.tc : Thread Cert.AdamwRefIdeal.nD Cert.AdamwRefIdeal.τ).loc Cert.AdamwRefIdeal.main_arg8) = m ((c.tc : Thread Cert.AdamwIdeal.nD Cert.AdamwIdeal.τ).loc Cert.AdamwIdeal.main_arg8)
      ∧ m' ((c.tc : Thread Cert.AdamwRefIdeal.nD Cert.AdamwRefIdeal.τ).loc Cert.AdamwRefIdeal.main_arg9) = m ((c.tc : Thread Cert.AdamwIdeal.nD Cert.AdamwIdeal.τ).loc Cert.AdamwIdeal.main_arg9)
      ∧ m' ((c.tc : Thread Cert.AdamwRefIdeal.nD Cert.AdamwRefIdeal.τ).loc Cert.AdamwRefIdeal.main_arg10) = m ((c.tc : Thread Cert.AdamwIdeal.nD Cert.AdamwIdeal.τ).loc Cert.AdamwIdeal.main_arg10)
      ∧ m' ((c.tc : Thread Cert.AdamwRefIdeal.nD Cert.AdamwRefIdeal.τ).loc Cert.AdamwRefIdeal.main_arg11) = m ((c.tc : Thread Cert.AdamwIdeal.nD Cert.AdamwIdeal.τ).loc Cert.AdamwIdeal.main_arg11)
      ∧ m' ((c.tc : Thread Cert.AdamwRefIdeal.nD Cert.AdamwRefIdeal.τ).loc Cert.AdamwRefIdeal.main_arg12) = m ((c.tc : Thread Cert.AdamwIdeal.nD Cert.AdamwIdeal.τ).loc Cert.AdamwIdeal.main_arg12)
      ∧ m' ((c.tc : Thread Cert.AdamwRefIdeal.nD Cert.AdamwRefIdeal.τ).loc Cert.AdamwRefIdeal.main_arg13) = m ((c.tc : Thread Cert.AdamwIdeal.nD Cert.AdamwIdeal.τ).loc Cert.AdamwIdeal.main_arg13)
      ∧ m' ((c.tc : Thread Cert.AdamwRefIdeal.nD Cert.AdamwRefIdeal.τ).loc Cert.AdamwRefIdeal.main_arg14) = m ((c.tc : Thread Cert.AdamwIdeal.nD Cert.AdamwIdeal.τ).loc Cert.AdamwIdeal.main_arg14)
      ∧ m' ((c.tc : Thread Cert.AdamwRefIdeal.nD Cert.AdamwRefIdeal.τ).loc Cert.AdamwRefIdeal.main_arg15) = m ((c.tc : Thread Cert.AdamwIdeal.nD Cert.AdamwIdeal.τ).loc Cert.AdamwIdeal.main_arg15)
      ∧ m' ((c.tc : Thread Cert.AdamwRefIdeal.nD Cert.AdamwRefIdeal.τ).loc Cert.AdamwRefIdeal.main_arg16) = m ((c.tc : Thread Cert.AdamwIdeal.nD Cert.AdamwIdeal.τ).loc Cert.AdamwIdeal.main_arg16)
      ∧ m' ((c.tc : Thread Cert.AdamwRefIdeal.nD Cert.AdamwRefIdeal.τ).loc Cert.AdamwRefIdeal.main_arg17) = m ((c.tc : Thread Cert.AdamwIdeal.nD Cert.AdamwIdeal.τ).loc Cert.AdamwIdeal.main_arg17)
      ∧ m' ((c.tc : Thread Cert.AdamwRefIdeal.nD Cert.AdamwRefIdeal.τ).loc Cert.AdamwRefIdeal.main_arg18) = m ((c.tc : Thread Cert.AdamwIdeal.nD Cert.AdamwIdeal.τ).loc Cert.AdamwIdeal.main_arg18)
      ∧ m' ((c.tc : Thread Cert.AdamwRefIdeal.nD Cert.AdamwRefIdeal.τ).loc Cert.AdamwRefIdeal.main_arg19) = m ((c.tc : Thread Cert.AdamwIdeal.nD Cert.AdamwIdeal.τ).loc Cert.AdamwIdeal.main_arg19)
      ∧ m' ((c.tc : Thread Cert.AdamwRefIdeal.nD Cert.AdamwRefIdeal.τ).loc Cert.AdamwRefIdeal.main_arg20) = m ((c.tc : Thread Cert.AdamwIdeal.nD Cert.AdamwIdeal.τ).loc Cert.AdamwIdeal.main_arg20)
      ∧ m' ((c.tc : Thread Cert.AdamwRefIdeal.nD Cert.AdamwRefIdeal.τ).loc Cert.AdamwRefIdeal.main_arg21) = m ((c.tc : Thread Cert.AdamwIdeal.nD Cert.AdamwIdeal.τ).loc Cert.AdamwIdeal.main_arg21)
      ∧ m' ((c.tc : Thread Cert.AdamwRefIdeal.nD Cert.AdamwRefIdeal.τ).loc Cert.AdamwRefIdeal.main_arg22) = m ((c.tc : Thread Cert.AdamwIdeal.nD Cert.AdamwIdeal.τ).loc Cert.AdamwIdeal.main_arg22)
      ∧ m' ((c.tc : Thread Cert.AdamwRefIdeal.nD Cert.AdamwRefIdeal.τ).loc Cert.AdamwRefIdeal.main_arg23) = m ((c.tc : Thread Cert.AdamwIdeal.nD Cert.AdamwIdeal.τ).loc Cert.AdamwIdeal.main_arg23)
      ∧ m' ((c.tc : Thread Cert.AdamwRefIdeal.nD Cert.AdamwRefIdeal.τ).loc Cert.AdamwRefIdeal.main_arg24) = m ((c.tc : Thread Cert.AdamwIdeal.nD Cert.AdamwIdeal.τ).loc Cert.AdamwIdeal.main_arg24)
      ∧ m' ((c.tc : Thread Cert.AdamwRefIdeal.nD Cert.AdamwRefIdeal.τ).loc Cert.AdamwRefIdeal.main_arg25) = m ((c.tc : Thread Cert.AdamwIdeal.nD Cert.AdamwIdeal.τ).loc Cert.AdamwIdeal.main_arg25)
      ∧ m' ((c.tc : Thread Cert.AdamwRefIdeal.nD Cert.AdamwRefIdeal.τ).loc Cert.AdamwRefIdeal.main_arg26) = m ((c.tc : Thread Cert.AdamwIdeal.nD Cert.AdamwIdeal.τ).loc Cert.AdamwIdeal.main_arg26)
      ∧ m' ((c.tc : Thread Cert.AdamwRefIdeal.nD Cert.AdamwRefIdeal.τ).loc Cert.AdamwRefIdeal.main_arg27) = m ((c.tc : Thread Cert.AdamwIdeal.nD Cert.AdamwIdeal.τ).loc Cert.AdamwIdeal.main_arg27)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)) (v3 : (c : Dev Cert.AdamwIdeal.nD) → Buf (Elt Ideal) ((c.tc : Thread Cert.AdamwIdeal.nD Cert.AdamwIdeal.τ).loc Cert.AdamwIdeal.main_v1_0)) (v4 : (c : Dev Cert.AdamwIdeal.nD) → Buf (Elt Ideal) ((c.tc : Thread Cert.AdamwIdeal.nD Cert.AdamwIdeal.τ).loc Cert.AdamwIdeal.main_v1_1)) (v5 : (c : Dev Cert.AdamwIdeal.nD) → Buf (Elt Ideal) ((c.tc : Thread Cert.AdamwIdeal.nD Cert.AdamwIdeal.τ).loc Cert.AdamwIdeal.main_v1_2)) (v6 : (c : Dev Cert.AdamwIdeal.nD) → Buf (Elt Ideal) ((c.tc : Thread Cert.AdamwIdeal.nD Cert.AdamwIdeal.τ).loc Cert.AdamwIdeal.main_v2_0)) (v7 : (c : Dev Cert.AdamwIdeal.nD) → Buf (Elt Ideal) ((c.tc : Thread Cert.AdamwIdeal.nD Cert.AdamwIdeal.τ).loc Cert.AdamwIdeal.main_v2_1)) (v8 : (c : Dev Cert.AdamwIdeal.nD) → Buf (Elt Ideal) ((c.tc : Thread Cert.AdamwIdeal.nD Cert.AdamwIdeal.τ).loc Cert.AdamwIdeal.main_v2_2)) (v9 : (c : Dev Cert.AdamwIdeal.nD) → Buf (Elt Ideal) ((c.tc : Thread Cert.AdamwIdeal.nD Cert.AdamwIdeal.τ).loc Cert.AdamwIdeal.main_v3_0)) (v10 : (c : Dev Cert.AdamwIdeal.nD) → Buf (Elt Ideal) ((c.tc : Thread Cert.AdamwIdeal.nD Cert.AdamwIdeal.τ).loc Cert.AdamwIdeal.main_v3_1)) (v11 : (c : Dev Cert.AdamwIdeal.nD) → Buf (Elt Ideal) ((c.tc : Thread Cert.AdamwIdeal.nD Cert.AdamwIdeal.τ).loc Cert.AdamwIdeal.main_v3_2)) (v12 : (c : Dev Cert.AdamwIdeal.nD) → Buf (Elt Ideal) ((c.tc : Thread Cert.AdamwIdeal.nD Cert.AdamwIdeal.τ).loc Cert.AdamwIdeal.main_v4_0)) (v13 : (c : Dev Cert.AdamwIdeal.nD) → Buf (Elt Ideal) ((c.tc : Thread Cert.AdamwIdeal.nD Cert.AdamwIdeal.τ).loc Cert.AdamwIdeal.main_v4_1)) (v14 : (c : Dev Cert.AdamwIdeal.nD) → Buf (Elt Ideal) ((c.tc : Thread Cert.AdamwIdeal.nD Cert.AdamwIdeal.τ).loc Cert.AdamwIdeal.main_v4_2)) (v15 : (c : Dev Cert.AdamwIdeal.nD) → Buf (Elt Ideal) ((c.tc : Thread Cert.AdamwIdeal.nD Cert.AdamwIdeal.τ).loc Cert.AdamwIdeal.main_v5_0)) (v16 : (c : Dev Cert.AdamwIdeal.nD) → Buf (Elt Ideal) ((c.tc : Thread Cert.AdamwIdeal.nD Cert.AdamwIdeal.τ).loc Cert.AdamwIdeal.main_v5_1)) (v17 : (c : Dev Cert.AdamwIdeal.nD) → Buf (Elt Ideal) ((c.tc : Thread Cert.AdamwIdeal.nD Cert.AdamwIdeal.τ).loc Cert.AdamwIdeal.main_v5_2)) (v18 : (c : Dev Cert.AdamwIdeal.nD) → Buf (Elt Ideal) ((c.tc : Thread Cert.AdamwIdeal.nD Cert.AdamwIdeal.τ).loc Cert.AdamwIdeal.main_v6_0)) (v19 : (c : Dev Cert.AdamwIdeal.nD) → Buf (Elt Ideal) ((c.tc : Thread Cert.AdamwIdeal.nD Cert.AdamwIdeal.τ).loc Cert.AdamwIdeal.main_v6_1)) (v20 : (c : Dev Cert.AdamwIdeal.nD) → Buf (Elt Ideal) ((c.tc : Thread Cert.AdamwIdeal.nD Cert.AdamwIdeal.τ).loc Cert.AdamwIdeal.main_v6_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_v1_0) = v3 c
          ∧ r.2.mem ((c.tc : Thread Cert.AdamwIdeal.nD Cert.AdamwIdeal.τ).loc Cert.AdamwIdeal.main_v1_1) = v4 c
          ∧ r.2.mem ((c.tc : Thread Cert.AdamwIdeal.nD Cert.AdamwIdeal.τ).loc Cert.AdamwIdeal.main_v1_2) = v5 c
          ∧ r.2.mem ((c.tc : Thread Cert.AdamwIdeal.nD Cert.AdamwIdeal.τ).loc Cert.AdamwIdeal.main_v2_0) = v6 c
          ∧ r.2.mem ((c.tc : Thread Cert.AdamwIdeal.nD Cert.AdamwIdeal.τ).loc Cert.AdamwIdeal.main_v2_1) = v7 c
          ∧ r.2.mem ((c.tc : Thread Cert.AdamwIdeal.nD Cert.AdamwIdeal.τ).loc Cert.AdamwIdeal.main_v2_2) = v8 c
          ∧ r.2.mem ((c.tc : Thread Cert.AdamwIdeal.nD Cert.AdamwIdeal.τ).loc Cert.AdamwIdeal.main_v3_0) = v9 c
          ∧ r.2.mem ((c.tc : Thread Cert.AdamwIdeal.nD Cert.AdamwIdeal.τ).loc Cert.AdamwIdeal.main_v3_1) = v10 c
          ∧ r.2.mem ((c.tc : Thread Cert.AdamwIdeal.nD Cert.AdamwIdeal.τ).loc Cert.AdamwIdeal.main_v3_2) = v11 c
          ∧ r.2.mem ((c.tc : Thread Cert.AdamwIdeal.nD Cert.AdamwIdeal.τ).loc Cert.AdamwIdeal.main_v4_0) = v12 c
          ∧ r.2.mem ((c.tc : Thread Cert.AdamwIdeal.nD Cert.AdamwIdeal.τ).loc Cert.AdamwIdeal.main_v4_1) = v13 c
          ∧ r.2.mem ((c.tc : Thread Cert.AdamwIdeal.nD Cert.AdamwIdeal.τ).loc Cert.AdamwIdeal.main_v4_2) = v14 c
          ∧ r.2.mem ((c.tc : Thread Cert.AdamwIdeal.nD Cert.AdamwIdeal.τ).loc Cert.AdamwIdeal.main_v5_0) = v15 c
          ∧ r.2.mem ((c.tc : Thread Cert.AdamwIdeal.nD Cert.AdamwIdeal.τ).loc Cert.AdamwIdeal.main_v5_1) = v16 c
          ∧ r.2.mem ((c.tc : Thread Cert.AdamwIdeal.nD Cert.AdamwIdeal.τ).loc Cert.AdamwIdeal.main_v5_2) = v17 c
          ∧ r.2.mem ((c.tc : Thread Cert.AdamwIdeal.nD Cert.AdamwIdeal.τ).loc Cert.AdamwIdeal.main_v6_0) = v18 c
          ∧ r.2.mem ((c.tc : Thread Cert.AdamwIdeal.nD Cert.AdamwIdeal.τ).loc Cert.AdamwIdeal.main_v6_1) = v19 c
          ∧ r.2.mem ((c.tc : Thread Cert.AdamwIdeal.nD Cert.AdamwIdeal.τ).loc Cert.AdamwIdeal.main_v6_2) = v20 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3)
          ∧ r.2.mem ((c.tc : Thread Cert.AdamwIdeal.nD Cert.AdamwIdeal.τ).loc Cert.AdamwIdeal.main_arg4) = m ((c.tc : Thread Cert.AdamwIdeal.nD Cert.AdamwIdeal.τ).loc Cert.AdamwIdeal.main_arg4)
          ∧ r.2.mem ((c.tc : Thread Cert.AdamwIdeal.nD Cert.AdamwIdeal.τ).loc Cert.AdamwIdeal.main_arg5) = m ((c.tc : Thread Cert.AdamwIdeal.nD Cert.AdamwIdeal.τ).loc Cert.AdamwIdeal.main_arg5)
          ∧ r.2.mem ((c.tc : Thread Cert.AdamwIdeal.nD Cert.AdamwIdeal.τ).loc Cert.AdamwIdeal.main_arg6) = m ((c.tc : Thread Cert.AdamwIdeal.nD Cert.AdamwIdeal.τ).loc Cert.AdamwIdeal.main_arg6)
          ∧ r.2.mem ((c.tc : Thread Cert.AdamwIdeal.nD Cert.AdamwIdeal.τ).loc Cert.AdamwIdeal.main_arg7) = m ((c.tc : Thread Cert.AdamwIdeal.nD Cert.AdamwIdeal.τ).loc Cert.AdamwIdeal.main_arg7)
          ∧ r.2.mem ((c.tc : Thread Cert.AdamwIdeal.nD Cert.AdamwIdeal.τ).loc Cert.AdamwIdeal.main_arg8) = m ((c.tc : Thread Cert.AdamwIdeal.nD Cert.AdamwIdeal.τ).loc Cert.AdamwIdeal.main_arg8)
          ∧ r.2.mem ((c.tc : Thread Cert.AdamwIdeal.nD Cert.AdamwIdeal.τ).loc Cert.AdamwIdeal.main_arg9) = m ((c.tc : Thread Cert.AdamwIdeal.nD Cert.AdamwIdeal.τ).loc Cert.AdamwIdeal.main_arg9)
          ∧ r.2.mem ((c.tc : Thread Cert.AdamwIdeal.nD Cert.AdamwIdeal.τ).loc Cert.AdamwIdeal.main_arg10) = m ((c.tc : Thread Cert.AdamwIdeal.nD Cert.AdamwIdeal.τ).loc Cert.AdamwIdeal.main_arg10)
          ∧ r.2.mem ((c.tc : Thread Cert.AdamwIdeal.nD Cert.AdamwIdeal.τ).loc Cert.AdamwIdeal.main_arg11) = m ((c.tc : Thread Cert.AdamwIdeal.nD Cert.AdamwIdeal.τ).loc Cert.AdamwIdeal.main_arg11)
          ∧ r.2.mem ((c.tc : Thread Cert.AdamwIdeal.nD Cert.AdamwIdeal.τ).loc Cert.AdamwIdeal.main_arg12) = m ((c.tc : Thread Cert.AdamwIdeal.nD Cert.AdamwIdeal.τ).loc Cert.AdamwIdeal.main_arg12)
          ∧ r.2.mem ((c.tc : Thread Cert.AdamwIdeal.nD Cert.AdamwIdeal.τ).loc Cert.AdamwIdeal.main_arg13) = m ((c.tc : Thread Cert.AdamwIdeal.nD Cert.AdamwIdeal.τ).loc Cert.AdamwIdeal.main_arg13)
          ∧ r.2.mem ((c.tc : Thread Cert.AdamwIdeal.nD Cert.AdamwIdeal.τ).loc Cert.AdamwIdeal.main_arg14) = m ((c.tc : Thread Cert.AdamwIdeal.nD Cert.AdamwIdeal.τ).loc Cert.AdamwIdeal.main_arg14)
          ∧ r.2.mem ((c.tc : Thread Cert.AdamwIdeal.nD Cert.AdamwIdeal.τ).loc Cert.AdamwIdeal.main_arg15) = m ((c.tc : Thread Cert.AdamwIdeal.nD Cert.AdamwIdeal.τ).loc Cert.AdamwIdeal.main_arg15)
          ∧ r.2.mem ((c.tc : Thread Cert.AdamwIdeal.nD Cert.AdamwIdeal.τ).loc Cert.AdamwIdeal.main_arg16) = m ((c.tc : Thread Cert.AdamwIdeal.nD Cert.AdamwIdeal.τ).loc Cert.AdamwIdeal.main_arg16)
          ∧ r.2.mem ((c.tc : Thread Cert.AdamwIdeal.nD Cert.AdamwIdeal.τ).loc Cert.AdamwIdeal.main_arg17) = m ((c.tc : Thread Cert.AdamwIdeal.nD Cert.AdamwIdeal.τ).loc Cert.AdamwIdeal.main_arg17)
          ∧ r.2.mem ((c.tc : Thread Cert.AdamwIdeal.nD Cert.AdamwIdeal.τ).loc Cert.AdamwIdeal.main_arg18) = m ((c.tc : Thread Cert.AdamwIdeal.nD Cert.AdamwIdeal.τ).loc Cert.AdamwIdeal.main_arg18)
          ∧ r.2.mem ((c.tc : Thread Cert.AdamwIdeal.nD Cert.AdamwIdeal.τ).loc Cert.AdamwIdeal.main_arg19) = m ((c.tc : Thread Cert.AdamwIdeal.nD Cert.AdamwIdeal.τ).loc Cert.AdamwIdeal.main_arg19)
          ∧ r.2.mem ((c.tc : Thread Cert.AdamwIdeal.nD Cert.AdamwIdeal.τ).loc Cert.AdamwIdeal.main_arg20) = m ((c.tc : Thread Cert.AdamwIdeal.nD Cert.AdamwIdeal.τ).loc Cert.AdamwIdeal.main_arg20)
          ∧ r.2.mem ((c.tc : Thread Cert.AdamwIdeal.nD Cert.AdamwIdeal.τ).loc Cert.AdamwIdeal.main_arg21) = m ((c.tc : Thread Cert.AdamwIdeal.nD Cert.AdamwIdeal.τ).loc Cert.AdamwIdeal.main_arg21)
          ∧ r.2.mem ((c.tc : Thread Cert.AdamwIdeal.nD Cert.AdamwIdeal.τ).loc Cert.AdamwIdeal.main_arg22) = m ((c.tc : Thread Cert.AdamwIdeal.nD Cert.AdamwIdeal.τ).loc Cert.AdamwIdeal.main_arg22)
          ∧ r.2.mem ((c.tc : Thread Cert.AdamwIdeal.nD Cert.AdamwIdeal.τ).loc Cert.AdamwIdeal.main_arg23) = m ((c.tc : Thread Cert.AdamwIdeal.nD Cert.AdamwIdeal.τ).loc Cert.AdamwIdeal.main_arg23)
          ∧ r.2.mem ((c.tc : Thread Cert.AdamwIdeal.nD Cert.AdamwIdeal.τ).loc Cert.AdamwIdeal.main_arg24) = m ((c.tc : Thread Cert.AdamwIdeal.nD Cert.AdamwIdeal.τ).loc Cert.AdamwIdeal.main_arg24)
          ∧ r.2.mem ((c.tc : Thread Cert.AdamwIdeal.nD Cert.AdamwIdeal.τ).loc Cert.AdamwIdeal.main_arg25) = m ((c.tc : Thread Cert.AdamwIdeal.nD Cert.AdamwIdeal.τ).loc Cert.AdamwIdeal.main_arg25)
          ∧ r.2.mem ((c.tc : Thread Cert.AdamwIdeal.nD Cert.AdamwIdeal.τ).loc Cert.AdamwIdeal.main_arg26) = m ((c.tc : Thread Cert.AdamwIdeal.nD Cert.AdamwIdeal.τ).loc Cert.AdamwIdeal.main_arg26)
          ∧ r.2.mem ((c.tc : Thread Cert.AdamwIdeal.nD Cert.AdamwIdeal.τ).loc Cert.AdamwIdeal.main_arg27) = m ((c.tc : Thread Cert.AdamwIdeal.nD Cert.AdamwIdeal.τ).loc Cert.AdamwIdeal.main_arg27))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_v47) = v3 c
          ∧ r.2.mem ((c.tc : Thread Cert.AdamwRefIdeal.nD Cert.AdamwRefIdeal.τ).loc Cert.AdamwRefIdeal.main_v28) = v4 c
          ∧ r.2.mem ((c.tc : Thread Cert.AdamwRefIdeal.nD Cert.AdamwRefIdeal.τ).loc Cert.AdamwRefIdeal.main_v34) = v5 c
          ∧ r.2.mem ((c.tc : Thread Cert.AdamwRefIdeal.nD Cert.AdamwRefIdeal.τ).loc Cert.AdamwRefIdeal.main_v71) = v6 c
          ∧ r.2.mem ((c.tc : Thread Cert.AdamwRefIdeal.nD Cert.AdamwRefIdeal.τ).loc Cert.AdamwRefIdeal.main_v52) = v7 c
          ∧ r.2.mem ((c.tc : Thread Cert.AdamwRefIdeal.nD Cert.AdamwRefIdeal.τ).loc Cert.AdamwRefIdeal.main_v58) = v8 c
          ∧ r.2.mem ((c.tc : Thread Cert.AdamwRefIdeal.nD Cert.AdamwRefIdeal.τ).loc Cert.AdamwRefIdeal.main_v95) = v9 c
          ∧ r.2.mem ((c.tc : Thread Cert.AdamwRefIdeal.nD Cert.AdamwRefIdeal.τ).loc Cert.AdamwRefIdeal.main_v76) = v10 c
          ∧ r.2.mem ((c.tc : Thread Cert.AdamwRefIdeal.nD Cert.AdamwRefIdeal.τ).loc Cert.AdamwRefIdeal.main_v82) = v11 c
          ∧ r.2.mem ((c.tc : Thread Cert.AdamwRefIdeal.nD Cert.AdamwRefIdeal.τ).loc Cert.AdamwRefIdeal.main_v119) = v12 c
          ∧ r.2.mem ((c.tc : Thread Cert.AdamwRefIdeal.nD Cert.AdamwRefIdeal.τ).loc Cert.AdamwRefIdeal.main_v100) = v13 c
          ∧ r.2.mem ((c.tc : Thread Cert.AdamwRefIdeal.nD Cert.AdamwRefIdeal.τ).loc Cert.AdamwRefIdeal.main_v106) = v14 c
          ∧ r.2.mem ((c.tc : Thread Cert.AdamwRefIdeal.nD Cert.AdamwRefIdeal.τ).loc Cert.AdamwRefIdeal.main_v143) = v15 c
          ∧ r.2.mem ((c.tc : Thread Cert.AdamwRefIdeal.nD Cert.AdamwRefIdeal.τ).loc Cert.AdamwRefIdeal.main_v124) = v16 c
          ∧ r.2.mem ((c.tc : Thread Cert.AdamwRefIdeal.nD Cert.AdamwRefIdeal.τ).loc Cert.AdamwRefIdeal.main_v130) = v17 c
          ∧ r.2.mem ((c.tc : Thread Cert.AdamwRefIdeal.nD Cert.AdamwRefIdeal.τ).loc Cert.AdamwRefIdeal.main_v167) = v18 c
          ∧ r.2.mem ((c.tc : Thread Cert.AdamwRefIdeal.nD Cert.AdamwRefIdeal.τ).loc Cert.AdamwRefIdeal.main_v148) = v19 c
          ∧ r.2.mem ((c.tc : Thread Cert.AdamwRefIdeal.nD Cert.AdamwRefIdeal.τ).loc Cert.AdamwRefIdeal.main_v154) = v20 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3)
          ∧ r.2.mem ((c.tc : Thread Cert.AdamwRefIdeal.nD Cert.AdamwRefIdeal.τ).loc Cert.AdamwRefIdeal.main_arg4) = m' ((c.tc : Thread Cert.AdamwRefIdeal.nD Cert.AdamwRefIdeal.τ).loc Cert.AdamwRefIdeal.main_arg4)
          ∧ r.2.mem ((c.tc : Thread Cert.AdamwRefIdeal.nD Cert.AdamwRefIdeal.τ).loc Cert.AdamwRefIdeal.main_arg5) = m' ((c.tc : Thread Cert.AdamwRefIdeal.nD Cert.AdamwRefIdeal.τ).loc Cert.AdamwRefIdeal.main_arg5)
          ∧ r.2.mem ((c.tc : Thread Cert.AdamwRefIdeal.nD Cert.AdamwRefIdeal.τ).loc Cert.AdamwRefIdeal.main_arg6) = m' ((c.tc : Thread Cert.AdamwRefIdeal.nD Cert.AdamwRefIdeal.τ).loc Cert.AdamwRefIdeal.main_arg6)
          ∧ r.2.mem ((c.tc : Thread Cert.AdamwRefIdeal.nD Cert.AdamwRefIdeal.τ).loc Cert.AdamwRefIdeal.main_arg7) = m' ((c.tc : Thread Cert.AdamwRefIdeal.nD Cert.AdamwRefIdeal.τ).loc Cert.AdamwRefIdeal.main_arg7)
          ∧ r.2.mem ((c.tc : Thread Cert.AdamwRefIdeal.nD Cert.AdamwRefIdeal.τ).loc Cert.AdamwRefIdeal.main_arg8) = m' ((c.tc : Thread Cert.AdamwRefIdeal.nD Cert.AdamwRefIdeal.τ).loc Cert.AdamwRefIdeal.main_arg8)
          ∧ r.2.mem ((c.tc : Thread Cert.AdamwRefIdeal.nD Cert.AdamwRefIdeal.τ).loc Cert.AdamwRefIdeal.main_arg9) = m' ((c.tc : Thread Cert.AdamwRefIdeal.nD Cert.AdamwRefIdeal.τ).loc Cert.AdamwRefIdeal.main_arg9)
          ∧ r.2.mem ((c.tc : Thread Cert.AdamwRefIdeal.nD Cert.AdamwRefIdeal.τ).loc Cert.AdamwRefIdeal.main_arg10) = m' ((c.tc : Thread Cert.AdamwRefIdeal.nD Cert.AdamwRefIdeal.τ).loc Cert.AdamwRefIdeal.main_arg10)
          ∧ r.2.mem ((c.tc : Thread Cert.AdamwRefIdeal.nD Cert.AdamwRefIdeal.τ).loc Cert.AdamwRefIdeal.main_arg11) = m' ((c.tc : Thread Cert.AdamwRefIdeal.nD Cert.AdamwRefIdeal.τ).loc Cert.AdamwRefIdeal.main_arg11)
          ∧ r.2.mem ((c.tc : Thread Cert.AdamwRefIdeal.nD Cert.AdamwRefIdeal.τ).loc Cert.AdamwRefIdeal.main_arg12) = m' ((c.tc : Thread Cert.AdamwRefIdeal.nD Cert.AdamwRefIdeal.τ).loc Cert.AdamwRefIdeal.main_arg12)
          ∧ r.2.mem ((c.tc : Thread Cert.AdamwRefIdeal.nD Cert.AdamwRefIdeal.τ).loc Cert.AdamwRefIdeal.main_arg13) = m' ((c.tc : Thread Cert.AdamwRefIdeal.nD Cert.AdamwRefIdeal.τ).loc Cert.AdamwRefIdeal.main_arg13)
          ∧ r.2.mem ((c.tc : Thread Cert.AdamwRefIdeal.nD Cert.AdamwRefIdeal.τ).loc Cert.AdamwRefIdeal.main_arg14) = m' ((c.tc : Thread Cert.AdamwRefIdeal.nD Cert.AdamwRefIdeal.τ).loc Cert.AdamwRefIdeal.main_arg14)
          ∧ r.2.mem ((c.tc : Thread Cert.AdamwRefIdeal.nD Cert.AdamwRefIdeal.τ).loc Cert.AdamwRefIdeal.main_arg15) = m' ((c.tc : Thread Cert.AdamwRefIdeal.nD Cert.AdamwRefIdeal.τ).loc Cert.AdamwRefIdeal.main_arg15)
          ∧ r.2.mem ((c.tc : Thread Cert.AdamwRefIdeal.nD Cert.AdamwRefIdeal.τ).loc Cert.AdamwRefIdeal.main_arg16) = m' ((c.tc : Thread Cert.AdamwRefIdeal.nD Cert.AdamwRefIdeal.τ).loc Cert.AdamwRefIdeal.main_arg16)
          ∧ r.2.mem ((c.tc : Thread Cert.AdamwRefIdeal.nD Cert.AdamwRefIdeal.τ).loc Cert.AdamwRefIdeal.main_arg17) = m' ((c.tc : Thread Cert.AdamwRefIdeal.nD Cert.AdamwRefIdeal.τ).loc Cert.AdamwRefIdeal.main_arg17)
          ∧ r.2.mem ((c.tc : Thread Cert.AdamwRefIdeal.nD Cert.AdamwRefIdeal.τ).loc Cert.AdamwRefIdeal.main_arg18) = m' ((c.tc : Thread Cert.AdamwRefIdeal.nD Cert.AdamwRefIdeal.τ).loc Cert.AdamwRefIdeal.main_arg18)
          ∧ r.2.mem ((c.tc : Thread Cert.AdamwRefIdeal.nD Cert.AdamwRefIdeal.τ).loc Cert.AdamwRefIdeal.main_arg19) = m' ((c.tc : Thread Cert.AdamwRefIdeal.nD Cert.AdamwRefIdeal.τ).loc Cert.AdamwRefIdeal.main_arg19)
          ∧ r.2.mem ((c.tc : Thread Cert.AdamwRefIdeal.nD Cert.AdamwRefIdeal.τ).loc Cert.AdamwRefIdeal.main_arg20) = m' ((c.tc : Thread Cert.AdamwRefIdeal.nD Cert.AdamwRefIdeal.τ).loc Cert.AdamwRefIdeal.main_arg20)
          ∧ r.2.mem ((c.tc : Thread Cert.AdamwRefIdeal.nD Cert.AdamwRefIdeal.τ).loc Cert.AdamwRefIdeal.main_arg21) = m' ((c.tc : Thread Cert.AdamwRefIdeal.nD Cert.AdamwRefIdeal.τ).loc Cert.AdamwRefIdeal.main_arg21)
          ∧ r.2.mem ((c.tc : Thread Cert.AdamwRefIdeal.nD Cert.AdamwRefIdeal.τ).loc Cert.AdamwRefIdeal.main_arg22) = m' ((c.tc : Thread Cert.AdamwRefIdeal.nD Cert.AdamwRefIdeal.τ).loc Cert.AdamwRefIdeal.main_arg22)
          ∧ r.2.mem ((c.tc : Thread Cert.AdamwRefIdeal.nD Cert.AdamwRefIdeal.τ).loc Cert.AdamwRefIdeal.main_arg23) = m' ((c.tc : Thread Cert.AdamwRefIdeal.nD Cert.AdamwRefIdeal.τ).loc Cert.AdamwRefIdeal.main_arg23)
          ∧ r.2.mem ((c.tc : Thread Cert.AdamwRefIdeal.nD Cert.AdamwRefIdeal.τ).loc Cert.AdamwRefIdeal.main_arg24) = m' ((c.tc : Thread Cert.AdamwRefIdeal.nD Cert.AdamwRefIdeal.τ).loc Cert.AdamwRefIdeal.main_arg24)
          ∧ r.2.mem ((c.tc : Thread Cert.AdamwRefIdeal.nD Cert.AdamwRefIdeal.τ).loc Cert.AdamwRefIdeal.main_arg25) = m' ((c.tc : Thread Cert.AdamwRefIdeal.nD Cert.AdamwRefIdeal.τ).loc Cert.AdamwRefIdeal.main_arg25)
          ∧ r.2.mem ((c.tc : Thread Cert.AdamwRefIdeal.nD Cert.AdamwRefIdeal.τ).loc Cert.AdamwRefIdeal.main_arg26) = m' ((c.tc : Thread Cert.AdamwRefIdeal.nD Cert.AdamwRefIdeal.τ).loc Cert.AdamwRefIdeal.main_arg26)
          ∧ r.2.mem ((c.tc : Thread Cert.AdamwRefIdeal.nD Cert.AdamwRefIdeal.τ).loc Cert.AdamwRefIdeal.main_arg27) = m' ((c.tc : Thread Cert.AdamwRefIdeal.nD Cert.AdamwRefIdeal.τ).loc Cert.AdamwRefIdeal.main_arg27))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)
      ∧ m' ((c.tc : Thread Cert.AdaRefIdeal.nD Cert.AdaRefIdeal.τ).loc Cert.AdaRefIdeal.main_arg4) = m ((c.tc : Thread Cert.AdaIdeal.nD Cert.AdaIdeal.τ).loc Cert.AdaIdeal.main_arg4)
      ∧ m' ((c.tc : Thread Cert.AdaRefIdeal.nD Cert.AdaRefIdeal.τ).loc Cert.AdaRefIdeal.main_arg5) = m ((c.tc : Thread Cert.AdaIdeal.nD Cert.AdaIdeal.τ).loc Cert.AdaIdeal.main_arg5)) →
    ∃ (v0 : (c : Dev Cert.AdaIdeal.nD) → Buf (Elt Ideal) ((c.tc : Thread Cert.AdaIdeal.nD Cert.AdaIdeal.τ).loc Cert.AdaIdeal.main_v0)) (v1 : (c : Dev Cert.AdaIdeal.nD) → Buf (Elt Ideal) ((c.tc : Thread Cert.AdaIdeal.nD Cert.AdaIdeal.τ).loc Cert.AdaIdeal.main_v1)) (v2 : (c : Dev Cert.AdaIdeal.nD) → Buf (Elt Ideal) ((c.tc : Thread Cert.AdaIdeal.nD Cert.AdaIdeal.τ).loc Cert.AdaIdeal.main_v2)) (v3 : (c : Dev Cert.AdaIdeal.nD) → Buf (Elt Ideal) ((c.tc : Thread Cert.AdaIdeal.nD Cert.AdaIdeal.τ).loc Cert.AdaIdeal.main_v3)) (v4 : (c : Dev Cert.AdaIdeal.nD) → Buf (Elt Ideal) ((c.tc : Thread Cert.AdaIdeal.nD Cert.AdaIdeal.τ).loc Cert.AdaIdeal.main_v4)) (v5 : (c : Dev Cert.AdaIdeal.nD) → Buf (Elt Ideal) ((c.tc : Thread Cert.AdaIdeal.nD Cert.AdaIdeal.τ).loc Cert.AdaIdeal.main_v5)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0) = v0 c
          ∧ r.2.mem ((c.tc : Thread Cert.AdaIdeal.nD Cert.AdaIdeal.τ).loc Cert.AdaIdeal.main_v1) = v1 c
          ∧ r.2.mem ((c.tc : Thread Cert.AdaIdeal.nD Cert.AdaIdeal.τ).loc Cert.AdaIdeal.main_v2) = v2 c
          ∧ r.2.mem ((c.tc : Thread Cert.AdaIdeal.nD Cert.AdaIdeal.τ).loc Cert.AdaIdeal.main_v3) = v3 c
          ∧ r.2.mem ((c.tc : Thread Cert.AdaIdeal.nD Cert.AdaIdeal.τ).loc Cert.AdaIdeal.main_v4) = v4 c
          ∧ r.2.mem ((c.tc : Thread Cert.AdaIdeal.nD Cert.AdaIdeal.τ).loc Cert.AdaIdeal.main_v5) = v5 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3)
          ∧ r.2.mem ((c.tc : Thread Cert.AdaIdeal.nD Cert.AdaIdeal.τ).loc Cert.AdaIdeal.main_arg4) = m ((c.tc : Thread Cert.AdaIdeal.nD Cert.AdaIdeal.τ).loc Cert.AdaIdeal.main_arg4)
          ∧ r.2.mem ((c.tc : Thread Cert.AdaIdeal.nD Cert.AdaIdeal.τ).loc Cert.AdaIdeal.main_arg5) = m ((c.tc : Thread Cert.AdaIdeal.nD Cert.AdaIdeal.τ).loc Cert.AdaIdeal.main_arg5))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v2) = v0 c
          ∧ r.2.mem ((c.tc : Thread Cert.AdaRefIdeal.nD Cert.AdaRefIdeal.τ).loc Cert.AdaRefIdeal.main_v6) = v1 c
          ∧ r.2.mem ((c.tc : Thread Cert.AdaRefIdeal.nD Cert.AdaRefIdeal.τ).loc Cert.AdaRefIdeal.main_v4) = v2 c
          ∧ r.2.mem ((c.tc : Thread Cert.AdaRefIdeal.nD Cert.AdaRefIdeal.τ).loc Cert.AdaRefIdeal.main_v7) = v3 c
          ∧ r.2.mem ((c.tc : Thread Cert.AdaRefIdeal.nD Cert.AdaRefIdeal.τ).loc Cert.AdaRefIdeal.main_v8) = v4 c
          ∧ r.2.mem ((c.tc : Thread Cert.AdaRefIdeal.nD Cert.AdaRefIdeal.τ).loc Cert.AdaRefIdeal.main_v9) = v5 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3)
          ∧ r.2.mem ((c.tc : Thread Cert.AdaRefIdeal.nD Cert.AdaRefIdeal.τ).loc Cert.AdaRefIdeal.main_arg4) = m' ((c.tc : Thread Cert.AdaRefIdeal.nD Cert.AdaRefIdeal.τ).loc Cert.AdaRefIdeal.main_arg4)
          ∧ r.2.mem ((c.tc : Thread Cert.AdaRefIdeal.nD Cert.AdaRefIdeal.τ).loc Cert.AdaRefIdeal.main_arg5) = m' ((c.tc : Thread Cert.AdaRefIdeal.nD Cert.AdaRefIdeal.τ).loc Cert.AdaRefIdeal.main_arg5))

def preserves_Readout_ReadoutIdeal : Prop :=
  True

def algebraic_ReadoutIdeal_ReadoutRefIdeal [hReadoutIdeal : Cert.ReadoutIdeal.Facts] [hReadoutRefIdeal : Cert.ReadoutRefIdeal.Facts] : Prop :=
  ∀ (m : (ℓ : Loc Cert.ReadoutIdeal.nD Cert.ReadoutIdeal.τ Cert.ReadoutIdeal.sig) → Buf (Elt Ideal) ℓ) (g : Dev Cert.ReadoutIdeal.nD → PrngReg)
    (m' : (ℓ : Loc Cert.ReadoutRefIdeal.nD Cert.ReadoutRefIdeal.τ Cert.ReadoutRefIdeal.sig) → Buf (Elt Ideal) ℓ) (g' : Dev Cert.ReadoutRefIdeal.nD → PrngReg), Pre_ReadoutIdeal m →
    (∀ c : Dev Cert.ReadoutIdeal.nD,
      m' ((c.tc : Thread Cert.ReadoutRefIdeal.nD Cert.ReadoutRefIdeal.τ).loc Cert.ReadoutRefIdeal.main_arg0) = m ((c.tc : Thread Cert.ReadoutIdeal.nD Cert.ReadoutIdeal.τ).loc Cert.ReadoutIdeal.main_arg0)
      ∧ m' ((c.tc : Thread Cert.ReadoutRefIdeal.nD Cert.ReadoutRefIdeal.τ).loc Cert.ReadoutRefIdeal.main_arg1) = m ((c.tc : Thread Cert.ReadoutIdeal.nD Cert.ReadoutIdeal.τ).loc Cert.ReadoutIdeal.main_arg1)
      ∧ m' ((c.tc : Thread Cert.ReadoutRefIdeal.nD Cert.ReadoutRefIdeal.τ).loc Cert.ReadoutRefIdeal.main_arg2) = m ((c.tc : Thread Cert.ReadoutIdeal.nD Cert.ReadoutIdeal.τ).loc Cert.ReadoutIdeal.main_arg2)
      ∧ m' ((c.tc : Thread Cert.ReadoutRefIdeal.nD Cert.ReadoutRefIdeal.τ).loc Cert.ReadoutRefIdeal.main_arg3) = m ((c.tc : Thread Cert.ReadoutIdeal.nD Cert.ReadoutIdeal.τ).loc Cert.ReadoutIdeal.main_arg3)) →
    ∃ (v0 : (c : Dev Cert.ReadoutIdeal.nD) → Buf (Elt Ideal) ((c.tc : Thread Cert.ReadoutIdeal.nD Cert.ReadoutIdeal.τ).loc Cert.ReadoutIdeal.main_v9)) (v1 : (c : Dev Cert.ReadoutIdeal.nD) → Buf (Elt Ideal) ((c.tc : Thread Cert.ReadoutIdeal.nD Cert.ReadoutIdeal.τ).loc Cert.ReadoutIdeal.main_v10)) (v2 : (c : Dev Cert.ReadoutIdeal.nD) → Buf (Elt Ideal) ((c.tc : Thread Cert.ReadoutIdeal.nD Cert.ReadoutIdeal.τ).loc Cert.ReadoutIdeal.main_v11)) (v3 : (c : Dev Cert.ReadoutIdeal.nD) → Buf (Elt Ideal) ((c.tc : Thread Cert.ReadoutIdeal.nD Cert.ReadoutIdeal.τ).loc Cert.ReadoutIdeal.main_v14)),
      θ_run (Cert.ReadoutIdeal.defs (F := Ideal)) (onTc (τ := Cert.ReadoutIdeal.τ) (Cert.ReadoutIdeal.main (F := Ideal))) ⟨m, fun _ => 0, g⟩ (fun r => ∀ c : Dev Cert.ReadoutIdeal.nD,
          r.2.mem ((c.tc : Thread Cert.ReadoutIdeal.nD Cert.ReadoutIdeal.τ).loc Cert.ReadoutIdeal.main_v9) = v0 c
          ∧ r.2.mem ((c.tc : Thread Cert.ReadoutIdeal.nD Cert.ReadoutIdeal.τ).loc Cert.ReadoutIdeal.main_v10) = v1 c
          ∧ r.2.mem ((c.tc : Thread Cert.ReadoutIdeal.nD Cert.ReadoutIdeal.τ).loc Cert.ReadoutIdeal.main_v11) = v2 c
          ∧ r.2.mem ((c.tc : Thread Cert.ReadoutIdeal.nD Cert.ReadoutIdeal.τ).loc Cert.ReadoutIdeal.main_v14) = v3 c
          ∧ r.2.mem ((c.tc : Thread Cert.ReadoutIdeal.nD Cert.ReadoutIdeal.τ).loc Cert.ReadoutIdeal.main_arg0) = m ((c.tc : Thread Cert.ReadoutIdeal.nD Cert.ReadoutIdeal.τ).loc Cert.ReadoutIdeal.main_arg0)
          ∧ r.2.mem ((c.tc : Thread Cert.ReadoutIdeal.nD Cert.ReadoutIdeal.τ).loc Cert.ReadoutIdeal.main_arg1) = m ((c.tc : Thread Cert.ReadoutIdeal.nD Cert.ReadoutIdeal.τ).loc Cert.ReadoutIdeal.main_arg1)
          ∧ r.2.mem ((c.tc : Thread Cert.ReadoutIdeal.nD Cert.ReadoutIdeal.τ).loc Cert.ReadoutIdeal.main_arg2) = m ((c.tc : Thread Cert.ReadoutIdeal.nD Cert.ReadoutIdeal.τ).loc Cert.ReadoutIdeal.main_arg2)
          ∧ r.2.mem ((c.tc : Thread Cert.ReadoutIdeal.nD Cert.ReadoutIdeal.τ).loc Cert.ReadoutIdeal.main_arg3) = m ((c.tc : Thread Cert.ReadoutIdeal.nD Cert.ReadoutIdeal.τ).loc Cert.ReadoutIdeal.main_arg3))
      ∧ θ_run (Cert.ReadoutRefIdeal.defs (F := Ideal)) (onTc (τ := Cert.ReadoutRefIdeal.τ) (Cert.ReadoutRefIdeal.main (F := Ideal))) ⟨m', fun _ => 0, g'⟩ (fun r => ∀ c : Dev Cert.ReadoutRefIdeal.nD,
          r.2.mem ((c.tc : Thread Cert.ReadoutRefIdeal.nD Cert.ReadoutRefIdeal.τ).loc Cert.ReadoutRefIdeal.main_v49) = v0 c
          ∧ r.2.mem ((c.tc : Thread Cert.ReadoutRefIdeal.nD Cert.ReadoutRefIdeal.τ).loc Cert.ReadoutRefIdeal.main_v48) = v1 c
          ∧ r.2.mem ((c.tc : Thread Cert.ReadoutRefIdeal.nD Cert.ReadoutRefIdeal.τ).loc Cert.ReadoutRefIdeal.main_v50) = v2 c
          ∧ r.2.mem ((c.tc : Thread Cert.ReadoutRefIdeal.nD Cert.ReadoutRefIdeal.τ).loc Cert.ReadoutRefIdeal.main_v47) = v3 c
          ∧ r.2.mem ((c.tc : Thread Cert.ReadoutRefIdeal.nD Cert.ReadoutRefIdeal.τ).loc Cert.ReadoutRefIdeal.main_arg0) = m' ((c.tc : Thread Cert.ReadoutRefIdeal.nD Cert.ReadoutRefIdeal.τ).loc Cert.ReadoutRefIdeal.main_arg0)
          ∧ r.2.mem ((c.tc : Thread Cert.ReadoutRefIdeal.nD Cert.ReadoutRefIdeal.τ).loc Cert.ReadoutRefIdeal.main_arg1) = m' ((c.tc : Thread Cert.ReadoutRefIdeal.nD Cert.ReadoutRefIdeal.τ).loc Cert.ReadoutRefIdeal.main_arg1)
          ∧ r.2.mem ((c.tc : Thread Cert.ReadoutRefIdeal.nD Cert.ReadoutRefIdeal.τ).loc Cert.ReadoutRefIdeal.main_arg2) = m' ((c.tc : Thread Cert.ReadoutRefIdeal.nD Cert.ReadoutRefIdeal.τ).loc Cert.ReadoutRefIdeal.main_arg2)
          ∧ r.2.mem ((c.tc : Thread Cert.ReadoutRefIdeal.nD Cert.ReadoutRefIdeal.τ).loc Cert.ReadoutRefIdeal.main_arg3) = m' ((c.tc : Thread Cert.ReadoutRefIdeal.nD Cert.ReadoutRefIdeal.τ).loc Cert.ReadoutRefIdeal.main_arg3))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)) →
    ∃ (v0 : (c : Dev Cert.NormIdeal.nD) → Buf (Elt Ideal) ((c.tc : Thread Cert.NormIdeal.nD Cert.NormIdeal.τ).loc Cert.NormIdeal.main_v4)) (v1 : (c : Dev Cert.NormIdeal.nD) → Buf (Elt Ideal) ((c.tc : Thread Cert.NormIdeal.nD Cert.NormIdeal.τ).loc Cert.NormIdeal.main_v5)) (v2 : (c : Dev Cert.NormIdeal.nD) → Buf (Elt Ideal) ((c.tc : Thread Cert.NormIdeal.nD Cert.NormIdeal.τ).loc Cert.NormIdeal.main_v2_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v4) = v0 c
          ∧ r.2.mem ((c.tc : Thread Cert.NormIdeal.nD Cert.NormIdeal.τ).loc Cert.NormIdeal.main_v5) = v1 c
          ∧ r.2.mem ((c.tc : Thread Cert.NormIdeal.nD Cert.NormIdeal.τ).loc Cert.NormIdeal.main_v2_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v126) = v0 c
          ∧ r.2.mem ((c.tc : Thread Cert.NormRefIdeal.nD Cert.NormRefIdeal.τ).loc Cert.NormRefIdeal.main_v104) = v1 c
          ∧ r.2.mem ((c.tc : Thread Cert.NormRefIdeal.nD Cert.NormRefIdeal.τ).loc Cert.NormRefIdeal.main_v129) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5))

def Claim : Prop :=
  ∃ (hConv : Cert.Conv.Facts) (hConvIdeal : Cert.ConvIdeal.Facts) (hConvRefIdeal : Cert.ConvRefIdeal.Facts) (hMlp : Cert.Mlp.Facts) (hMlpIdeal : Cert.MlpIdeal.Facts) (hMlpRefIdeal : Cert.MlpRefIdeal.Facts) (hLinear : Cert.Linear.Facts) (hLinearIdeal : Cert.LinearIdeal.Facts) (hLinearRefIdeal : Cert.LinearRefIdeal.Facts) (hAdamw : Cert.Adamw.Facts) (hAdamwIdeal : Cert.AdamwIdeal.Facts) (hAdamwRefIdeal : Cert.AdamwRefIdeal.Facts) (hAda : Cert.Ada.Facts) (hAdaIdeal : Cert.AdaIdeal.Facts) (hAdaRefIdeal : Cert.AdaRefIdeal.Facts) (hReadout : Cert.Readout.Facts) (hReadoutIdeal : Cert.ReadoutIdeal.Facts) (hReadoutRefIdeal : Cert.ReadoutRefIdeal.Facts) (hNorm : Cert.Norm.Facts) (hNormIdeal : Cert.NormIdeal.Facts) (hNormRefIdeal : Cert.NormRefIdeal.Facts),
    quiescent_Conv (hConv := hConv)
    ∧ quiescent_ConvIdeal (hConvIdeal := hConvIdeal)
    ∧ quiescent_ConvRefIdeal (hConvRefIdeal := hConvRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Linear (hLinear := hLinear)
    ∧ quiescent_LinearIdeal (hLinearIdeal := hLinearIdeal)
    ∧ quiescent_LinearRefIdeal (hLinearRefIdeal := hLinearRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ quiescent_Ada (hAda := hAda)
    ∧ quiescent_AdaIdeal (hAdaIdeal := hAdaIdeal)
    ∧ quiescent_AdaRefIdeal (hAdaRefIdeal := hAdaRefIdeal)
    ∧ quiescent_Readout (hReadout := hReadout)
    ∧ quiescent_ReadoutIdeal (hReadoutIdeal := hReadoutIdeal)
    ∧ quiescent_ReadoutRefIdeal (hReadoutRefIdeal := hReadoutRefIdeal)
    ∧ quiescent_Norm (hNorm := hNorm)
    ∧ quiescent_NormIdeal (hNormIdeal := hNormIdeal)
    ∧ quiescent_NormRefIdeal (hNormRefIdeal := hNormRefIdeal)
    ∧ preserves_Conv_ConvIdeal
    ∧ algebraic_ConvIdeal_ConvRefIdeal (hConvIdeal := hConvIdeal) (hConvRefIdeal := hConvRefIdeal)
    ∧ preserves_Mlp_MlpIdeal
    ∧ algebraic_MlpIdeal_MlpRefIdeal (hMlpIdeal := hMlpIdeal) (hMlpRefIdeal := hMlpRefIdeal)
    ∧ preserves_Linear_LinearIdeal
    ∧ algebraic_LinearIdeal_LinearRefIdeal (hLinearIdeal := hLinearIdeal) (hLinearRefIdeal := hLinearRefIdeal)
    ∧ preserves_Adamw_AdamwIdeal
    ∧ algebraic_AdamwIdeal_AdamwRefIdeal (hAdamwIdeal := hAdamwIdeal) (hAdamwRefIdeal := hAdamwRefIdeal)
    ∧ preserves_Ada_AdaIdeal
    ∧ algebraic_AdaIdeal_AdaRefIdeal (hAdaIdeal := hAdaIdeal) (hAdaRefIdeal := hAdaRefIdeal)
    ∧ preserves_Readout_ReadoutIdeal
    ∧ algebraic_ReadoutIdeal_ReadoutRefIdeal (hReadoutIdeal := hReadoutIdeal) (hReadoutRefIdeal := hReadoutRefIdeal)
    ∧ preserves_Norm_NormIdeal
    ∧ algebraic_NormIdeal_NormRefIdeal (hNormIdeal := hNormIdeal) (hNormRefIdeal := hNormRefIdeal)
-- ==== Conv.lean ====
abbrev S2x4352x3072 : Shape := ⟨3, ![2, 4352, 3072]⟩
abbrev S3x1024 : Shape := ⟨2, ![3, 1024]⟩
abbrev S2x4352x1024 : Shape := ⟨3, ![2, 4352, 1024]⟩
abbrev S1x256x3072 : Shape := ⟨3, ![1, 256, 3072]⟩
abbrev S1x8x3072 : Shape := ⟨3, ![1, 8, 3072]⟩
abbrev S1x256x1024 : Shape := ⟨3, ![1, 256, 1024]⟩
abbrev S1x8x1024 : Shape := ⟨3, ![1, 8, 1024]⟩
abbrev S256x3072 : Shape := ⟨2, ![256, 3072]⟩
abbrev S256x1024 : Shape := ⟨2, ![256, 1024]⟩
abbrev S8x3072 : Shape := ⟨2, ![8, 3072]⟩
abbrev S8x1024 : Shape := ⟨2, ![8, 1024]⟩
abbrev S1x1024 : Shape := ⟨2, ![1, 1024]⟩
abbrev S256x1 : Shape := ⟨2, ![256, 1]⟩
abbrev S1024 : Shape := ⟨1, ![1024]⟩

abbrev nBuf : Space → Nat
  | .hbm => 5
  | .vmem => 16
  | .smem => 0
  | _ => 0

abbrev bufTy : (tb : Table) → Fin (tcTables nBuf tb) → BufTy
  | .hbm, ⟨0, _⟩ => ⟨S2x4352x3072, .bf16⟩
  | .hbm, ⟨1, _⟩ => ⟨S3x1024, .f32⟩
  | .hbm, ⟨2, _⟩ => ⟨S2x4352x1024, .bf16⟩
  | .hbm, ⟨3, _⟩ => ⟨S2x4352x3072, .bf16⟩
  | .hbm, ⟨4, _⟩ => ⟨S3x1024, .f32⟩
  | .local _ .vmem, ⟨0, _⟩ => ⟨S1x256x3072, .bf16⟩
  | .local _ .vmem, ⟨1, _⟩ => ⟨S1x256x3072, .bf16⟩
  | .local _ .vmem, ⟨2, _⟩ => ⟨S1x8x3072, .bf16⟩
  | .local _ .vmem, ⟨3, _⟩ => ⟨S1x8x3072, .bf16⟩
  | .local _ .vmem, ⟨4, _⟩ => ⟨S1x8x3072, .bf16⟩
  | .local _ .vmem, ⟨5, _⟩ => ⟨S1x8x3072, .bf16⟩
  | .local _ .vmem, ⟨6, _⟩ => ⟨S3x1024, .f32⟩
  | .local _ .vmem, ⟨7, _⟩ => ⟨S1x256x1024, .bf16⟩
  | .local _ .vmem, ⟨8, _⟩ => ⟨S1x256x1024, .bf16⟩
  | .local _ .vmem, ⟨9, _⟩ => ⟨S1x8x1024, .bf16⟩
  | .local _ .vmem, ⟨10, _⟩ => ⟨S1x8x1024, .bf16⟩
  | .local _ .vmem, ⟨11, _⟩ => ⟨S1x8x1024, .bf16⟩
  | .local _ .vmem, ⟨12, _⟩ => ⟨S1x8x1024, .bf16⟩
  | .local _ .vmem, ⟨13, _⟩ => ⟨S1x256x3072, .bf16⟩
  | .local _ .vmem, ⟨14, _⟩ => ⟨S1x256x3072, .bf16⟩
  | .local _ .vmem, ⟨15, _⟩ => ⟨S3x1024, .f32⟩
  | _, _ => ⟨S2x4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ConvRefIdeal.lean ====
abbrev S2x4352x3072 : Shape := ⟨3, ![2, 4352, 3072]⟩
abbrev S3x1024 : Shape := ⟨2, ![3, 1024]⟩
abbrev S2x4352x1024 : Shape := ⟨3, ![2, 4352, 1024]⟩
abbrev S_ : Shape := ⟨0, ![]⟩
abbrev S2x1x1024 : Shape := ⟨3, ![2, 1, 1024]⟩
abbrev S2x255x1024 : Shape := ⟨3, ![2, 255, 1024]⟩
abbrev S2x4095x1024 : Shape := ⟨3, ![2, 4095, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 104
  | .vmem => 0
  | .smem => 0
  | _ => 0

abbrev bufTy : (tb : Table) → Fin (tcTables nBuf tb) → BufTy
  | .hbm, ⟨0, _⟩ => ⟨S2x4352x3072, .bf16⟩
  | .hbm, ⟨1, _⟩ => ⟨S3x1024, .f32⟩
  | .hbm, ⟨2, _⟩ => ⟨S2x4352x1024, .bf16⟩
  | .hbm, ⟨3, _⟩ => ⟨S2x4352x3072, .f32⟩
  | .hbm, ⟨4, _⟩ => ⟨S2x4352x1024, .f32⟩
  | .hbm, ⟨5, _⟩ => ⟨S2x4352x1024, .f32⟩
  | .hbm, ⟨6, _⟩ => ⟨S2x4352x1024, .f32⟩
  | .hbm, ⟨7, _⟩ => ⟨S2x4352x1024, .f32⟩
  | .hbm, ⟨8, _⟩ => ⟨S_, .f32⟩
  | .hbm, ⟨9, _⟩ => ⟨S2x1x1024, .f32⟩
  | .hbm, ⟨10, _⟩ => ⟨S2x255x1024, .f32⟩
  | .hbm, ⟨11, _⟩ => ⟨S2x4095x1024, .f32⟩
  | .hbm, ⟨12, _⟩ => ⟨S2x4352x1024, .f32⟩
  | .hbm, ⟨13, _⟩ => ⟨S_, .f32⟩
  | .hbm, ⟨14, _⟩ => ⟨S2x1x1024, .f32⟩
  | .hbm, ⟨15, _⟩ => ⟨S_, .f32⟩
  | .hbm, ⟨16, _⟩ => ⟨S2x1x1024, .f32⟩
  | .hbm, ⟨17, _⟩ => ⟨S2x255x1024, .f32⟩
  | .hbm, ⟨18, _⟩ => ⟨S2x4095x1024, .f32⟩
  | .hbm, ⟨19, _⟩ => ⟨S2x4352x1024, .f32⟩
  | .hbm, ⟨20, _⟩ => ⟨S_, .f32⟩
  | .hbm, ⟨21, _⟩ => ⟨S2x1x1024, .f32⟩
  | .hbm, ⟨22, _⟩ => ⟨S_, .f32⟩
  | .hbm, ⟨23, _⟩ => ⟨S2x1x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S2x4352x1024, .f32⟩
  | .hbm, ⟨28, _⟩ => ⟨S2x4352x1024, .f32⟩
  | .hbm, ⟨29, _⟩ => ⟨S1x1024, .f32⟩
  | .hbm, ⟨30, _⟩ => ⟨S1024, .f32⟩
  | .hbm, ⟨31, _⟩ => ⟨S1x1x1024, .f32⟩
  | .hbm, ⟨32, _⟩ => ⟨S2x4352x1024, .f32⟩
  | .hbm, ⟨33, _⟩ => ⟨S2x4352x1024, .f32⟩
  | .hbm, ⟨34, _⟩ => ⟨S2x4352x1024, .f32⟩
  | .hbm, ⟨35, _⟩ => ⟨S1x1024, .f32⟩
  | .hbm, ⟨36, _⟩ => ⟨S1024, .f32⟩
  | .hbm, ⟨37, _⟩ => ⟨S1x1x1024, .f32⟩
  | .hbm, ⟨38, _⟩ => ⟨S2x4352x1024, .f32⟩
  | .hbm, ⟨39, _⟩ => ⟨S2x4352x1024, .f32⟩
  | .hbm, ⟨40, _⟩ => ⟨S2x4352x1024, .f32⟩
  | .hbm, ⟨41, _⟩ => ⟨S2x4352x1024, .f32⟩
  | .hbm, ⟨42, _⟩ => ⟨S2x4352x1024, .f32⟩
  | .hbm, ⟨43, _⟩ => ⟨S2x4352x1024, .f32⟩
  | .hbm, ⟨44, _⟩ => ⟨S2x4352x1024, .f32⟩
  | .hbm, ⟨45, _⟩ => ⟨S2x4352x1024, .f32⟩
  | .hbm, ⟨46, _⟩ => ⟨S2x4352x1024, .f32⟩
  | .hbm, ⟨47, _⟩ => ⟨S2x4352x1024, .f32⟩
  | .hbm, ⟨48, _⟩ => ⟨S_, .f32⟩
  | .hbm, ⟨49, _⟩ => ⟨S1024, .f32⟩
  | .hbm, ⟨50, _⟩ => ⟨S1x1x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S3x1024, .f32⟩
  | .hbm, ⟨56, _⟩ => ⟨S2x4352x1024, .f32⟩
  | .hbm, ⟨57, _⟩ => ⟨S2x4352x1024, .f32⟩
  | .hbm, ⟨58, _⟩ => ⟨S2x4352x1024, .f32⟩
  | .hbm, ⟨59, _⟩ => ⟨S_, .f32⟩
  | .hbm, ⟨60, _⟩ => ⟨S1024, .f32⟩
  | .hbm, ⟨61, _⟩ => ⟨S1x1x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S_, .f32⟩
  | .hbm, ⟨66, _⟩ => ⟨S3x1024, .f32⟩
  | .hbm, ⟨67, _⟩ => ⟨S3x1024, .f32⟩
  | .hbm, ⟨68, _⟩ => ⟨S2x4352x1024, .f32⟩
  | .hbm, ⟨69, _⟩ => ⟨S2x4352x1024, .f32⟩
  | .hbm, ⟨70, _⟩ => ⟨S2x4352x1024, .f32⟩
  | .hbm, ⟨71, _⟩ => ⟨S_, .f32⟩
  | .hbm, ⟨72, _⟩ => ⟨S1024, .f32⟩
  | .hbm, ⟨73, _⟩ => ⟨S1x1x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S3x1024, .f32⟩
  | .hbm, ⟨79, _⟩ => ⟨S3x1024, .f32⟩
  | .hbm, ⟨80, _⟩ => ⟨S2x255x1024, .f32⟩
  | .hbm, ⟨81, _⟩ => ⟨S2x1x1024, .f32⟩
  | .hbm, ⟨82, _⟩ => ⟨S2x4095x1024, .f32⟩
  | .hbm, ⟨83, _⟩ => ⟨S2x1x1024, .f32⟩
  | .hbm, ⟨84, _⟩ => ⟨S_, .f32⟩
  | .hbm, ⟨85, _⟩ => ⟨S2x4352x1024, .f32⟩
  | .hbm, ⟨86, _⟩ => ⟨S2x4352x1024, .f32⟩
  | .hbm, ⟨87, _⟩ => ⟨S_, .f32⟩
  | .hbm, ⟨88, _⟩ => ⟨S2x4352x1024, .f32⟩
  | .hbm, ⟨89, _⟩ => ⟨S2x4352x1024, .f32⟩
  | .hbm, ⟨90, _⟩ => ⟨S2x1x1024, .f32⟩
  | .hbm, ⟨91, _⟩ => ⟨S2x255x1024, .f32⟩
  | .hbm, ⟨92, _⟩ => ⟨S2x1x1024, .f32⟩
  | .hbm, ⟨93, _⟩ => ⟨S2x4095x1024, .f32⟩
  | .hbm, ⟨94, _⟩ => ⟨S_, .f32⟩
  | .hbm, ⟨95, _⟩ => ⟨S2x4352x1024, .f32⟩
  | .hbm, ⟨96, _⟩ => ⟨S2x4352x1024, .f32⟩
  | .hbm, ⟨97, _⟩ => ⟨S_, .f32⟩
  | .hbm, ⟨98, _⟩ => ⟨S2x4352x1024, .f32⟩
  | .hbm, ⟨99, _⟩ => ⟨S2x4352x1024, .f32⟩
  | .hbm, ⟨100, _⟩ => ⟨S2x4352x1024, .f32⟩
  | .hbm, ⟨101, _⟩ => ⟨S2x4352x1024, .f32⟩
  | .hbm, ⟨102, _⟩ => ⟨S2x4352x3072, .f32⟩
  | .hbm, ⟨103, _⟩ => ⟨S2x4352x3072, .bf16⟩
  | _, _ => ⟨S2x4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_15 : Ref sig .tc := ⟨.hbm, 94, rfl⟩
abbrev main_v75 : Ref sig .tc := ⟨.hbm, 95, rfl⟩
abbrev main_v76 : Ref sig .tc := ⟨.hbm, 96, rfl⟩
abbrev main_cst_16 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== Mlp.lean ====
abbrev S8704x1024 : Shape := ⟨2, ![8704, 1024]⟩
abbrev S1024x4096 : Shape := ⟨2, ![1024, 4096]⟩
abbrev S4096x1024 : Shape := ⟨2, ![4096, 1024]⟩
abbrev S8704x4096 : Shape := ⟨2, ![8704, 4096]⟩
abbrev S1088x1024 : Shape := ⟨2, ![1088, 1024]⟩
abbrev S1024x2048 : Shape := ⟨2, ![1024, 2048]⟩
abbrev S1088x2048 : Shape := ⟨2, ![1088, 2048]⟩
abbrev S1088x4096 : Shape := ⟨2, ![1088, 4096]⟩
abbrev S4096x512 : Shape := ⟨2, ![4096, 512]⟩
abbrev S1088x512 : Shape := ⟨2, ![1088, 512]⟩
abbrev S544x1024 : Shape := ⟨2, ![544, 1024]⟩
abbrev S544x4096 : Shape := ⟨2, ![544, 4096]⟩
abbrev S1024x1024 : Shape := ⟨2, ![1024, 1024]⟩

abbrev nBuf : Space → Nat
  | .hbm => 10
  | .vmem => 38
  | .smem => 0
  | _ => 0

abbrev bufTy : (tb : Table) → Fin (tcTables nBuf tb) → BufTy
  | .hbm, ⟨0, _⟩ => ⟨S8704x1024, .bf16⟩
  | .hbm, ⟨1, _⟩ => ⟨S1024x4096, .bf16⟩
  | .hbm, ⟨2, _⟩ => ⟨S4096x1024, .bf16⟩
  | .hbm, ⟨3, _⟩ => ⟨S8704x1024, .bf16⟩
  | .hbm, ⟨4, _⟩ => ⟨S8704x4096, .bf16⟩
  | .hbm, ⟨5, _⟩ => ⟨S8704x1024, .bf16⟩
  | .hbm, ⟨6, _⟩ => ⟨S8704x4096, .bf16⟩
  | .hbm, ⟨7, _⟩ => ⟨S4096x1024, .f32⟩
  | .hbm, ⟨8, _⟩ => ⟨S8704x1024, .bf16⟩
  | .hbm, ⟨9, _⟩ => ⟨S1024x4096, .f32⟩
  | .local _ .vmem, ⟨0, _⟩ => ⟨S1088x1024, .bf16⟩
  | .local _ .vmem, ⟨1, _⟩ => ⟨S1088x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1088x2048, .bf16⟩
  | .local _ .vmem, ⟨5, _⟩ => ⟨S1088x2048, .bf16⟩
  | .local _ .vmem, ⟨6, _⟩ => ⟨S1088x4096, .bf16⟩
  | .local _ .vmem, ⟨7, _⟩ => ⟨S1088x4096, .bf16⟩
  | .local _ .vmem, ⟨8, _⟩ => ⟨S4096x512, .bf16⟩
  | .local _ .vmem, ⟨9, _⟩ => ⟨S4096x512, .bf16⟩
  | .local _ .vmem, ⟨10, _⟩ => ⟨S1088x512, .bf16⟩
  | .local _ .vmem, ⟨11, _⟩ => ⟨S1088x512, .bf16⟩
  | .local _ .vmem, ⟨12, _⟩ => ⟨S544x1024, .bf16⟩
  | .local _ .vmem, ⟨13, _⟩ => ⟨S544x1024, .bf16⟩
  | .local _ .vmem, ⟨14, _⟩ => ⟨S4096x1024, .bf16⟩
  | .local _ .vmem, ⟨15, _⟩ => ⟨S544x4096, .bf16⟩
  | .local _ .vmem, ⟨16, _⟩ => ⟨S544x4096, .bf16⟩
  | .local _ .vmem, ⟨17, _⟩ => ⟨S544x4096, .bf16⟩
  | .local _ .vmem, ⟨18, _⟩ => ⟨S544x4096, .bf16⟩
  | .local _ .vmem, ⟨19, _⟩ => ⟨S1088x1024, .bf16⟩
  | .local _ .vmem, ⟨20, _⟩ => ⟨S1088x1024, .bf16⟩
  | .local _ .vmem, ⟨21, _⟩ => ⟨S1088x1024, .bf16⟩
  | .local _ .vmem, ⟨22, _⟩ => ⟨S1088x1024, .bf16⟩
  | .local _ .vmem, ⟨23, _⟩ => ⟨S1024x1024, .f32⟩
  | .local _ .vmem, ⟨24, _⟩ => ⟨S1024x1024, .f32⟩
  | .local _ .vmem, ⟨25, _⟩ => ⟨S544x4096, .bf16⟩
  | .local _ .vmem, ⟨26, _⟩ => ⟨S544x4096, .bf16⟩
  | .local _ .vmem, ⟨27, _⟩ => ⟨S1024x4096, .bf16⟩
  | .local _ .vmem, ⟨28, _⟩ => ⟨S544x1024, .bf16⟩
  | .local _ .vmem, ⟨29, _⟩ => ⟨S544x1024, .bf16⟩
  | .local _ .vmem, ⟨30, _⟩ => ⟨S544x1024, .bf16⟩
  | .local _ .vmem, ⟨31, _⟩ => ⟨S544x1024, .bf16⟩
  | .local _ .vmem, ⟨32, _⟩ => ⟨S1088x1024, .bf16⟩
  | .local _ .vmem, ⟨33, _⟩ => ⟨S1088x1024, .bf16⟩
  | .local _ .vmem, ⟨34, _⟩ => ⟨S1088x1024, .bf16⟩
  | .local _ .vmem, ⟨35, _⟩ => ⟨S1088x1024, .bf16⟩
  | .local _ .vmem, ⟨36, _⟩ => ⟨S1024x1024, .f32⟩
  | .local _ .vmem, ⟨37, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1088x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1088x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S544x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S544x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S544x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![4, 1, 8], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1088x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1088x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S544x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x4096 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S544x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S544x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨3, ![1, 4, 8], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1088x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1088x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== MlpRefIdeal.lean ====
abbrev S8704x1024 : Shape := ⟨2, ![8704, 1024]⟩
abbrev S1024x4096 : Shape := ⟨2, ![1024, 4096]⟩
abbrev S4096x1024 : Shape := ⟨2, ![4096, 1024]⟩
abbrev S8704x4096 : Shape := ⟨2, ![8704, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x4096, .bf16⟩
  | .hbm, ⟨2, _⟩ => ⟨S4096x1024, .bf16⟩
  | .hbm, ⟨3, _⟩ => ⟨S8704x1024, .bf16⟩
  | .hbm, ⟨4, _⟩ => ⟨S8704x1024, .f32⟩
  | .hbm, ⟨5, _⟩ => ⟨S1024x4096, .f32⟩
  | .hbm, ⟨6, _⟩ => ⟨S4096x1024, .f32⟩
  | .hbm, ⟨7, _⟩ => ⟨S8704x4096, .f32⟩
  | .hbm, ⟨8, _⟩ => ⟨S_, .f32⟩
  | .hbm, ⟨9, _⟩ => ⟨S8704x4096, .f32⟩
  | .hbm, ⟨10, _⟩ => ⟨S8704x4096, .f32⟩
  | .hbm, ⟨11, _⟩ => ⟨S_, .f32⟩
  | .hbm, ⟨12, _⟩ => ⟨S8704x4096, .f32⟩
  | .hbm, ⟨13, _⟩ => ⟨S8704x4096, .i1⟩
  | .hbm, ⟨14, _⟩ => ⟨S_, .f32⟩
  | .hbm, ⟨15, _⟩ => ⟨S8704x4096, .f32⟩
  | .hbm, ⟨16, _⟩ => ⟨S8704x4096, .f32⟩
  | .hbm, ⟨17, _⟩ => ⟨S_, .f32⟩
  | .hbm, ⟨18, _⟩ => ⟨S8704x4096, .f32⟩
  | .hbm, ⟨19, _⟩ => ⟨S8704x4096, .f32⟩
  | .hbm, ⟨20, _⟩ => ⟨S8704x1024, .f32⟩
  | .hbm, ⟨21, _⟩ => ⟨S8704x1024, .f32⟩
  | .hbm, ⟨22, _⟩ => ⟨S1024x4096, .f32⟩
  | .hbm, ⟨23, _⟩ => ⟨S4096x1024, .f32⟩
  | .hbm, ⟨24, _⟩ => ⟨S8704x4096, .f32⟩
  | .hbm, ⟨25, _⟩ => ⟨S8704x4096, .f32⟩
  | .hbm, ⟨26, _⟩ => ⟨S_, .f32⟩
  | .hbm, ⟨27, _⟩ => ⟨S8704x4096, .f32⟩
  | .hbm, ⟨28, _⟩ => ⟨S8704x4096, .f32⟩
  | .hbm, ⟨29, _⟩ => ⟨S4096x1024, .f32⟩
  | .hbm, ⟨30, _⟩ => ⟨S1024x4096, .f32⟩
  | .hbm, ⟨31, _⟩ => ⟨S8704x1024, .f32⟩
  | .hbm, ⟨32, _⟩ => ⟨S8704x1024, .bf16⟩
  | .hbm, ⟨33, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Linear.lean ====
abbrev S8704x1024 : Shape := ⟨2, ![8704, 1024]⟩
abbrev S1024x3072 : Shape := ⟨2, ![1024, 3072]⟩
abbrev S8704x3072 : Shape := ⟨2, ![8704, 3072]⟩
abbrev S1024x1024 : Shape := ⟨2, ![1024, 1024]⟩
abbrev S1024x5120 : Shape := ⟨2, ![1024, 5120]⟩
abbrev S8704x5120 : Shape := ⟨2, ![8704, 5120]⟩
abbrev S1024x2048 : Shape := ⟨2, ![1024, 2048]⟩
abbrev S8704x2048 : Shape := ⟨2, ![8704, 2048]⟩
abbrev S1088x1024 : Shape := ⟨2, ![1088, 1024]⟩
abbrev S1024x1536 : Shape := ⟨2, ![1024, 1536]⟩
abbrev S1088x1536 : Shape := ⟨2, ![1088, 1536]⟩
abbrev S544x3072 : Shape := ⟨2, ![544, 3072]⟩
abbrev S544x1024 : Shape := ⟨2, ![544, 1024]⟩
abbrev S1024x1280 : Shape := ⟨2, ![1024, 1280]⟩
abbrev S1088x1280 : Shape := ⟨2, ![1088, 1280]⟩
abbrev S544x5120 : Shape := ⟨2, ![544, 5120]⟩
abbrev S1088x2048 : Shape := ⟨2, ![1088, 2048]⟩
abbrev S544x2048 : Shape := ⟨2, ![544, 2048]⟩

abbrev nBuf : Space → Nat
  | .hbm => 24
  | .vmem => 73
  | .smem => 0
  | _ => 0

abbrev bufTy : (tb : Table) → Fin (tcTables nBuf tb) → BufTy
  | .hbm, ⟨0, _⟩ => ⟨S8704x1024, .bf16⟩
  | .hbm, ⟨1, _⟩ => ⟨S1024x3072, .bf16⟩
  | .hbm, ⟨2, _⟩ => ⟨S8704x3072, .bf16⟩
  | .hbm, ⟨3, _⟩ => ⟨S8704x1024, .bf16⟩
  | .hbm, ⟨4, _⟩ => ⟨S1024x1024, .bf16⟩
  | .hbm, ⟨5, _⟩ => ⟨S8704x1024, .bf16⟩
  | .hbm, ⟨6, _⟩ => ⟨S8704x1024, .bf16⟩
  | .hbm, ⟨7, _⟩ => ⟨S1024x5120, .bf16⟩
  | .hbm, ⟨8, _⟩ => ⟨S8704x5120, .bf16⟩
  | .hbm, ⟨9, _⟩ => ⟨S8704x1024, .bf16⟩
  | .hbm, ⟨10, _⟩ => ⟨S1024x2048, .bf16⟩
  | .hbm, ⟨11, _⟩ => ⟨S8704x2048, .bf16⟩
  | .hbm, ⟨12, _⟩ => ⟨S8704x3072, .bf16⟩
  | .hbm, ⟨13, _⟩ => ⟨S8704x1024, .bf16⟩
  | .hbm, ⟨14, _⟩ => ⟨S1024x3072, .f32⟩
  | .hbm, ⟨15, _⟩ => ⟨S8704x1024, .bf16⟩
  | .hbm, ⟨16, _⟩ => ⟨S8704x1024, .bf16⟩
  | .hbm, ⟨17, _⟩ => ⟨S1024x1024, .f32⟩
  | .hbm, ⟨18, _⟩ => ⟨S8704x5120, .bf16⟩
  | .hbm, ⟨19, _⟩ => ⟨S8704x1024, .bf16⟩
  | .hbm, ⟨20, _⟩ => ⟨S1024x5120, .f32⟩
  | .hbm, ⟨21, _⟩ => ⟨S8704x2048, .bf16⟩
  | .hbm, ⟨22, _⟩ => ⟨S8704x1024, .bf16⟩
  | .hbm, ⟨23, _⟩ => ⟨S1024x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1088x1536, .bf16⟩
  | .local _ .vmem, ⟨5, _⟩ => ⟨S1088x1536, .bf16⟩
  | .local _ .vmem, ⟨6, _⟩ => ⟨S544x3072, .bf16⟩
  | .local _ .vmem, ⟨7, _⟩ => ⟨S544x3072, .bf16⟩
  | .local _ .vmem, ⟨8, _⟩ => ⟨S1024x3072, .bf16⟩
  | .local _ .vmem, ⟨9, _⟩ => ⟨S544x1024, .bf16⟩
  | .local _ .vmem, ⟨10, _⟩ => ⟨S544x1024, .bf16⟩
  | .local _ .vmem, ⟨11, _⟩ => ⟨S544x1024, .bf16⟩
  | .local _ .vmem, ⟨12, _⟩ => ⟨S544x1024, .bf16⟩
  | .local _ .vmem, ⟨13, _⟩ => ⟨S1088x1024, .bf16⟩
  | .local _ .vmem, ⟨14, _⟩ => ⟨S1088x1024, .bf16⟩
  | .local _ .vmem, ⟨15, _⟩ => ⟨S1088x1024, .bf16⟩
  | .local _ .vmem, ⟨16, _⟩ => ⟨S1088x1024, .bf16⟩
  | .local _ .vmem, ⟨17, _⟩ => ⟨S1024x1024, .f32⟩
  | .local _ .vmem, ⟨18, _⟩ => ⟨S1024x1024, .f32⟩
  | .local _ .vmem, ⟨19, _⟩ => ⟨S1088x1024, .bf16⟩
  | .local _ .vmem, ⟨20, _⟩ => ⟨S1088x1024, .bf16⟩
  | .local _ .vmem, ⟨21, _⟩ => ⟨S1024x1024, .bf16⟩
  | .local _ .vmem, ⟨22, _⟩ => ⟨S1088x1024, .bf16⟩
  | .local _ .vmem, ⟨23, _⟩ => ⟨S1088x1024, .bf16⟩
  | .local _ .vmem, ⟨24, _⟩ => ⟨S544x1024, .bf16⟩
  | .local _ .vmem, ⟨25, _⟩ => ⟨S544x1024, .bf16⟩
  | .local _ .vmem, ⟨26, _⟩ => ⟨S1024x1024, .bf16⟩
  | .local _ .vmem, ⟨27, _⟩ => ⟨S544x1024, .bf16⟩
  | .local _ .vmem, ⟨28, _⟩ => ⟨S544x1024, .bf16⟩
  | .local _ .vmem, ⟨29, _⟩ => ⟨S544x1024, .bf16⟩
  | .local _ .vmem, ⟨30, _⟩ => ⟨S544x1024, .bf16⟩
  | .local _ .vmem, ⟨31, _⟩ => ⟨S1088x1024, .bf16⟩
  | .local _ .vmem, ⟨32, _⟩ => ⟨S1088x1024, .bf16⟩
  | .local _ .vmem, ⟨33, _⟩ => ⟨S1088x1024, .bf16⟩
  | .local _ .vmem, ⟨34, _⟩ => ⟨S1088x1024, .bf16⟩
  | .local _ .vmem, ⟨35, _⟩ => ⟨S1024x1024, .f32⟩
  | .local _ .vmem, ⟨36, _⟩ => ⟨S1088x1024, .bf16⟩
  | .local _ .vmem, ⟨37, _⟩ => ⟨S1088x1024, .bf16⟩
  | .local _ .vmem, ⟨38, _⟩ => ⟨S1024x1280, .bf16⟩
  | .local _ .vmem, ⟨39, _⟩ => ⟨S1024x1280, .bf16⟩
  | .local _ .vmem, ⟨40, _⟩ => ⟨S1088x1280, .bf16⟩
  | .local _ .vmem, ⟨41, _⟩ => ⟨S1088x1280, .bf16⟩
  | .local _ .vmem, ⟨42, _⟩ => ⟨S544x5120, .bf16⟩
  | .local _ .vmem, ⟨43, _⟩ => ⟨S544x5120, .bf16⟩
  | .local _ .vmem, ⟨44, _⟩ => ⟨S1024x5120, .bf16⟩
  | .local _ .vmem, ⟨45, _⟩ => ⟨S544x1024, .bf16⟩
  | .local _ .vmem, ⟨46, _⟩ => ⟨S544x1024, .bf16⟩
  | .local _ .vmem, ⟨47, _⟩ => ⟨S544x1024, .bf16⟩
  | .local _ .vmem, ⟨48, _⟩ => ⟨S544x1024, .bf16⟩
  | .local _ .vmem, ⟨49, _⟩ => ⟨S1088x1024, .bf16⟩
  | .local _ .vmem, ⟨50, _⟩ => ⟨S1088x1024, .bf16⟩
  | .local _ .vmem, ⟨51, _⟩ => ⟨S1088x1024, .bf16⟩
  | .local _ .vmem, ⟨52, _⟩ => ⟨S1088x1024, .bf16⟩
  | .local _ .vmem, ⟨53, _⟩ => ⟨S1024x1024, .f32⟩
  | .local _ .vmem, ⟨54, _⟩ => ⟨S1024x1024, .f32⟩
  | .local _ .vmem, ⟨55, _⟩ => ⟨S1088x1024, .bf16⟩
  | .local _ .vmem, ⟨56, _⟩ => ⟨S1088x1024, .bf16⟩
  | .local _ .vmem, ⟨57, _⟩ => ⟨S1024x2048, .bf16⟩
  | .local _ .vmem, ⟨58, _⟩ => ⟨S1088x2048, .bf16⟩
  | .local _ .vmem, ⟨59, _⟩ => ⟨S1088x2048, .bf16⟩
  | .local _ .vmem, ⟨60, _⟩ => ⟨S544x2048, .bf16⟩
  | .local _ .vmem, ⟨61, _⟩ => ⟨S544x2048, .bf16⟩
  | .local _ .vmem, ⟨62, _⟩ => ⟨S1024x2048, .bf16⟩
  | .local _ .vmem, ⟨63, _⟩ => ⟨S544x1024, .bf16⟩
  | .local _ .vmem, ⟨64, _⟩ => ⟨S544x1024, .bf16⟩
  | .local _ .vmem, ⟨65, _⟩ => ⟨S544x1024, .bf16⟩
  | .local _ .vmem, ⟨66, _⟩ => ⟨S544x1024, .bf16⟩
  | .local _ .vmem, ⟨67, _⟩ => ⟨S1088x1024, .bf16⟩
  | .local _ .vmem, ⟨68, _⟩ => ⟨S1088x1024, .bf16⟩
  | .local _ .vmem, ⟨69, _⟩ => ⟨S1088x1024, .bf16⟩
  | .local _ .vmem, ⟨70, _⟩ => ⟨S1088x1024, .bf16⟩
  | .local _ .vmem, ⟨71, _⟩ => ⟨S1024x1024, .f32⟩
  | .local _ .vmem, ⟨72, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg2_1 : Ref sig .tc := ⟨.vmem, 46, rfl⟩
abbrev cc7_stg3_0 : Ref sig .tc := ⟨.vmem, 47, rfl⟩
abbrev cc7_stg3_1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg1_1 : Ref sig .tc := ⟨.vmem, 52, rfl⟩
abbrev cc8_stg2_0 : Ref sig .tc := ⟨.vmem, 53, rfl⟩
abbrev cc8_stg2_1 : Ref sig .tc := ⟨.vmem, 54, rfl⟩
abbrev cc9_stg0_0 : Ref sig .tc := ⟨.vmem, 55, rfl⟩
abbrev cc9_stg0_1 : Ref sig .tc := ⟨.vmem, 56, rfl⟩
abbrev cc9_stg1_0 : Ref sig .tc := ⟨.vmem, 57, rfl⟩
abbrev cc9_stg2_0 : Ref sig .tc := ⟨.vmem, 58, rfl⟩
abbrev cc9_stg2_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg2_1 : Ref sig .tc := ⟨.vmem, 64, rfl⟩
abbrev cc10_stg3_0 : Ref sig .tc := ⟨.vmem, 65, rfl⟩
abbrev cc10_stg3_1 : Ref sig .tc := ⟨.vmem, 66, rfl⟩
abbrev cc11_stg0_0 : Ref sig .tc := ⟨.vmem, 67, rfl⟩
abbrev cc11_stg0_1 : Ref sig .tc := ⟨.vmem, 68, rfl⟩
abbrev cc11_stg1_0 : Ref sig .tc := ⟨.vmem, 69, rfl⟩
abbrev cc11_stg1_1 : Ref sig .tc := ⟨.vmem, 70, rfl⟩
abbrev cc11_stg2_0 : Ref sig .tc := ⟨.vmem, 71, rfl⟩
abbrev cc11_stg2_1 : Ref sig .tc := ⟨.vmem, 72, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc4_sem3_0 : DmaSem sig := 29
abbrev cc4_sem3_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem2_1 : DmaSem sig := 46
abbrev cc7_sem3_0 : DmaSem sig := 47
abbrev cc7_sem3_1 : DmaSem sig := 48
abbrev cc8_sem0_0 : DmaSem sig := 49
abbrev cc8_sem0_1 : DmaSem sig := 50
abbrev cc8_sem1_0 : DmaSem sig := 51
abbrev cc8_sem1_1 : DmaSem sig := 52
abbrev cc8_sem2_0 : DmaSem sig := 53
abbrev cc8_sem2_1 : DmaSem sig := 54
abbrev cc9_sem0_0 : DmaSem sig := 55
abbrev cc9_sem0_1 : DmaSem sig := 56
abbrev cc9_sem1_0 : DmaSem sig := 57
abbrev cc9_sem2_0 : DmaSem sig := 58
abbrev cc9_sem2_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc10_sem2_1 : DmaSem sig := 64
abbrev cc10_sem3_0 : DmaSem sig := 65
abbrev cc10_sem3_1 : DmaSem sig := 66
abbrev cc11_sem0_0 : DmaSem sig := 67
abbrev cc11_sem0_1 : DmaSem sig := 68
abbrev cc11_sem1_0 : DmaSem sig := 69
abbrev cc11_sem1_1 : DmaSem sig := 70
abbrev cc11_sem2_0 : DmaSem sig := 71
abbrev cc11_sem2_1 : DmaSem sig := 72

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S544x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x3072 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S544x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S544x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![1, 3, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1088x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1088x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1088x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1088x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S544x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S544x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S544x1024 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨3, ![1, 1, 8], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1088x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S1088x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 1 → Memref sig .tc .vmem S1024x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true, false]

abbrev grid6 : Pipeline.Grid := ⟨2, ![4, 8], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S1088x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S1024x1280 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false]

abbrev stage6_2 : Fin 2 → Memref sig .tc .vmem S1088x1280 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S544x5120 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1024x5120 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S544x1024 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S544x1024 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨3, ![1, 5, 8], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1088x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S1088x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true, false]

abbrev grid9 : Pipeline.Grid := ⟨2, ![1, 8], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage9_0 : Fin 2 → Memref sig .tc .vmem S1088x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 1 → Memref sig .tc .vmem S1024x2048 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true, false]

abbrev stage9_2 : Fin 2 → Memref sig .tc .vmem S1088x2048 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨1, ![16], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S544x2048 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1024x2048 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S544x1024 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S544x1024 .bf16 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨3, ![1, 2, 8], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 2 → Memref sig .tc .vmem S1088x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false, true]

abbrev stage11_1 : Fin 2 → Memref sig .tc .vmem S1088x1024 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S1024x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]
-- ==== LinearRefIdeal.lean ====
abbrev S8704x1024 : Shape := ⟨2, ![8704, 1024]⟩
abbrev S1024x3072 : Shape := ⟨2, ![1024, 3072]⟩
abbrev S8704x3072 : Shape := ⟨2, ![8704, 3072]⟩
abbrev S1024x1024 : Shape := ⟨2, ![1024, 1024]⟩
abbrev S1024x5120 : Shape := ⟨2, ![1024, 5120]⟩
abbrev S8704x5120 : Shape := ⟨2, ![8704, 5120]⟩
abbrev S1024x2048 : Shape := ⟨2, ![1024, 2048]⟩
abbrev S8704x2048 : Shape := ⟨2, ![8704, 2048]⟩
abbrev S3072x1024 : Shape := ⟨2, ![3072, 1024]⟩
abbrev S5120x1024 : Shape := ⟨2, ![5120, 1024]⟩
abbrev S2048x1024 : Shape := ⟨2, ![2048, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x3072, .bf16⟩
  | .hbm, ⟨2, _⟩ => ⟨S8704x3072, .bf16⟩
  | .hbm, ⟨3, _⟩ => ⟨S8704x1024, .bf16⟩
  | .hbm, ⟨4, _⟩ => ⟨S1024x1024, .bf16⟩
  | .hbm, ⟨5, _⟩ => ⟨S8704x1024, .bf16⟩
  | .hbm, ⟨6, _⟩ => ⟨S8704x1024, .bf16⟩
  | .hbm, ⟨7, _⟩ => ⟨S1024x5120, .bf16⟩
  | .hbm, ⟨8, _⟩ => ⟨S8704x5120, .bf16⟩
  | .hbm, ⟨9, _⟩ => ⟨S8704x1024, .bf16⟩
  | .hbm, ⟨10, _⟩ => ⟨S1024x2048, .bf16⟩
  | .hbm, ⟨11, _⟩ => ⟨S8704x2048, .bf16⟩
  | .hbm, ⟨12, _⟩ => ⟨S8704x1024, .f32⟩
  | .hbm, ⟨13, _⟩ => ⟨S1024x3072, .f32⟩
  | .hbm, ⟨14, _⟩ => ⟨S8704x3072, .f32⟩
  | .hbm, ⟨15, _⟩ => ⟨S8704x3072, .f32⟩
  | .hbm, ⟨16, _⟩ => ⟨S3072x1024, .f32⟩
  | .hbm, ⟨17, _⟩ => ⟨S1024x3072, .f32⟩
  | .hbm, ⟨18, _⟩ => ⟨S8704x1024, .f32⟩
  | .hbm, ⟨19, _⟩ => ⟨S8704x3072, .bf16⟩
  | .hbm, ⟨20, _⟩ => ⟨S8704x1024, .bf16⟩
  | .hbm, ⟨21, _⟩ => ⟨S8704x1024, .f32⟩
  | .hbm, ⟨22, _⟩ => ⟨S1024x1024, .f32⟩
  | .hbm, ⟨23, _⟩ => ⟨S8704x1024, .f32⟩
  | .hbm, ⟨24, _⟩ => ⟨S8704x1024, .f32⟩
  | .hbm, ⟨25, _⟩ => ⟨S1024x1024, .f32⟩
  | .hbm, ⟨26, _⟩ => ⟨S1024x1024, .f32⟩
  | .hbm, ⟨27, _⟩ => ⟨S8704x1024, .f32⟩
  | .hbm, ⟨28, _⟩ => ⟨S8704x1024, .bf16⟩
  | .hbm, ⟨29, _⟩ => ⟨S8704x1024, .bf16⟩
  | .hbm, ⟨30, _⟩ => ⟨S8704x1024, .f32⟩
  | .hbm, ⟨31, _⟩ => ⟨S1024x5120, .f32⟩
  | .hbm, ⟨32, _⟩ => ⟨S8704x5120, .f32⟩
  | .hbm, ⟨33, _⟩ => ⟨S8704x5120, .f32⟩
  | .hbm, ⟨34, _⟩ => ⟨S5120x1024, .f32⟩
  | .hbm, ⟨35, _⟩ => ⟨S1024x5120, .f32⟩
  | .hbm, ⟨36, _⟩ => ⟨S8704x1024, .f32⟩
  | .hbm, ⟨37, _⟩ => ⟨S8704x5120, .bf16⟩
  | .hbm, ⟨38, _⟩ => ⟨S8704x1024, .bf16⟩
  | .hbm, ⟨39, _⟩ => ⟨S8704x1024, .f32⟩
  | .hbm, ⟨40, _⟩ => ⟨S1024x2048, .f32⟩
  | .hbm, ⟨41, _⟩ => ⟨S8704x2048, .f32⟩
  | .hbm, ⟨42, _⟩ => ⟨S8704x2048, .f32⟩
  | .hbm, ⟨43, _⟩ => ⟨S2048x1024, .f32⟩
  | .hbm, ⟨44, _⟩ => ⟨S1024x2048, .f32⟩
  | .hbm, ⟨45, _⟩ => ⟨S8704x1024, .f32⟩
  | .hbm, ⟨46, _⟩ => ⟨S8704x2048, .bf16⟩
  | .hbm, ⟨47, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Adamw.lean ====
abbrev S4096x1024 : Shape := ⟨2, ![4096, 1024]⟩
abbrev S1024x768 : Shape := ⟨2, ![1024, 768]⟩
abbrev S256x1024 : Shape := ⟨2, ![256, 1024]⟩
abbrev S1024x1280 : Shape := ⟨2, ![1024, 1280]⟩
abbrev S1024x512 : Shape := ⟨2, ![1024, 512]⟩
abbrev S4096x1536 : Shape := ⟨2, ![4096, 1536]⟩
abbrev S448x1024 : Shape := ⟨2, ![448, 1024]⟩
abbrev S512x1024 : Shape := ⟨2, ![512, 1024]⟩
abbrev S512x768 : Shape := ⟨2, ![512, 768]⟩
abbrev S256x1280 : Shape := ⟨2, ![256, 1280]⟩
abbrev S256x1536 : Shape := ⟨2, ![256, 1536]⟩

abbrev nBuf : Space → Nat
  | .hbm => 49
  | .vmem => 77
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S1024x1280, .f32⟩
  | .hbm, ⟨13, _⟩ => ⟨S1024x1280, .f32⟩
  | .hbm, ⟨14, _⟩ => ⟨S1024x1280, .f32⟩
  | .hbm, ⟨15, _⟩ => ⟨S1024x1280, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S4096x1536, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S448x1024, .f32⟩
  | .hbm, ⟨25, _⟩ => ⟨S448x1024, .f32⟩
  | .hbm, ⟨26, _⟩ => ⟨S448x1024, .f32⟩
  | .hbm, ⟨27, _⟩ => ⟨S448x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S1024x1280, .f32⟩
  | .hbm, ⟨38, _⟩ => ⟨S1024x1280, .f32⟩
  | .hbm, ⟨39, _⟩ => ⟨S1024x1280, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S4096x1536, .f32⟩
  | .hbm, ⟨44, _⟩ => ⟨S4096x1536, .f32⟩
  | .hbm, ⟨45, _⟩ => ⟨S4096x1536, .f32⟩
  | .hbm, ⟨46, _⟩ => ⟨S448x1024, .f32⟩
  | .hbm, ⟨47, _⟩ => ⟨S448x1024, .f32⟩
  | .hbm, ⟨48, _⟩ => ⟨S448x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x768, .f32⟩
  | .local _ .vmem, ⟨15, _⟩ => ⟨S512x768, .f32⟩
  | .local _ .vmem, ⟨16, _⟩ => ⟨S512x768, .f32⟩
  | .local _ .vmem, ⟨17, _⟩ => ⟨S512x768, .f32⟩
  | .local _ .vmem, ⟨18, _⟩ => ⟨S512x768, .f32⟩
  | .local _ .vmem, ⟨19, _⟩ => ⟨S512x768, .f32⟩
  | .local _ .vmem, ⟨20, _⟩ => ⟨S512x768, .f32⟩
  | .local _ .vmem, ⟨21, _⟩ => ⟨S512x768, .f32⟩
  | .local _ .vmem, ⟨22, _⟩ => ⟨S512x768, .f32⟩
  | .local _ .vmem, ⟨23, _⟩ => ⟨S512x768, .f32⟩
  | .local _ .vmem, ⟨24, _⟩ => ⟨S512x768, .f32⟩
  | .local _ .vmem, ⟨25, _⟩ => ⟨S512x768, .f32⟩
  | .local _ .vmem, ⟨26, _⟩ => ⟨S512x768, .f32⟩
  | .local _ .vmem, ⟨27, _⟩ => ⟨S512x768, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1280, .f32⟩
  | .local _ .vmem, ⟨36, _⟩ => ⟨S256x1280, .f32⟩
  | .local _ .vmem, ⟨37, _⟩ => ⟨S256x1280, .f32⟩
  | .local _ .vmem, ⟨38, _⟩ => ⟨S256x1280, .f32⟩
  | .local _ .vmem, ⟨39, _⟩ => ⟨S256x1280, .f32⟩
  | .local _ .vmem, ⟨40, _⟩ => ⟨S256x1280, .f32⟩
  | .local _ .vmem, ⟨41, _⟩ => ⟨S256x1280, .f32⟩
  | .local _ .vmem, ⟨42, _⟩ => ⟨S256x1280, .f32⟩
  | .local _ .vmem, ⟨43, _⟩ => ⟨S256x1280, .f32⟩
  | .local _ .vmem, ⟨44, _⟩ => ⟨S256x1280, .f32⟩
  | .local _ .vmem, ⟨45, _⟩ => ⟨S256x1280, .f32⟩
  | .local _ .vmem, ⟨46, _⟩ => ⟨S256x1280, .f32⟩
  | .local _ .vmem, ⟨47, _⟩ => ⟨S256x1280, .f32⟩
  | .local _ .vmem, ⟨48, _⟩ => ⟨S256x1280, .f32⟩
  | .local _ .vmem, ⟨49, _⟩ => ⟨S1024x512, .f32⟩
  | .local _ .vmem, ⟨50, _⟩ => ⟨S1024x512, .f32⟩
  | .local _ .vmem, ⟨51, _⟩ => ⟨S1024x512, .f32⟩
  | .local _ .vmem, ⟨52, _⟩ => ⟨S1024x512, .f32⟩
  | .local _ .vmem, ⟨53, _⟩ => ⟨S1024x512, .f32⟩
  | .local _ .vmem, ⟨54, _⟩ => ⟨S1024x512, .f32⟩
  | .local _ .vmem, ⟨55, _⟩ => ⟨S1024x512, .f32⟩
  | .local _ .vmem, ⟨56, _⟩ => ⟨S256x1536, .f32⟩
  | .local _ .vmem, ⟨57, _⟩ => ⟨S256x1536, .f32⟩
  | .local _ .vmem, ⟨58, _⟩ => ⟨S256x1536, .f32⟩
  | .local _ .vmem, ⟨59, _⟩ => ⟨S256x1536, .f32⟩
  | .local _ .vmem, ⟨60, _⟩ => ⟨S256x1536, .f32⟩
  | .local _ .vmem, ⟨61, _⟩ => ⟨S256x1536, .f32⟩
  | .local _ .vmem, ⟨62, _⟩ => ⟨S256x1536, .f32⟩
  | .local _ .vmem, ⟨63, _⟩ => ⟨S256x1536, .f32⟩
  | .local _ .vmem, ⟨64, _⟩ => ⟨S256x1536, .f32⟩
  | .local _ .vmem, ⟨65, _⟩ => ⟨S256x1536, .f32⟩
  | .local _ .vmem, ⟨66, _⟩ => ⟨S256x1536, .f32⟩
  | .local _ .vmem, ⟨67, _⟩ => ⟨S256x1536, .f32⟩
  | .local _ .vmem, ⟨68, _⟩ => ⟨S256x1536, .f32⟩
  | .local _ .vmem, ⟨69, _⟩ => ⟨S256x1536, .f32⟩
  | .local _ .vmem, ⟨70, _⟩ => ⟨S448x1024, .f32⟩
  | .local _ .vmem, ⟨71, _⟩ => ⟨S448x1024, .f32⟩
  | .local _ .vmem, ⟨72, _⟩ => ⟨S448x1024, .f32⟩
  | .local _ .vmem, ⟨73, _⟩ => ⟨S448x1024, .f32⟩
  | .local _ .vmem, ⟨74, _⟩ => ⟨S448x1024, .f32⟩
  | .local _ .vmem, ⟨75, _⟩ => ⟨S448x1024, .f32⟩
  | .local _ .vmem, ⟨76, _⟩ => ⟨S448x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0_0 : Ref sig .tc := ⟨.hbm, 28, rfl⟩
abbrev main_v0_1 : Ref sig .tc := ⟨.hbm, 29, rfl⟩
abbrev main_v0_2 : Ref sig .tc := ⟨.hbm, 30, rfl⟩
abbrev main_v1_0 : Ref sig .tc := ⟨.hbm, 31, rfl⟩
abbrev main_v1_1 : Ref sig .tc := ⟨.hbm, 32, rfl⟩
abbrev main_v1_2 : Ref sig .tc := ⟨.hbm, 33, rfl⟩
abbrev main_v2_0 : Ref sig .tc := ⟨.hbm, 34, rfl⟩
abbrev main_v2_1 : Ref sig .tc := ⟨.hbm, 35, rfl⟩
abbrev main_v2_2 : Ref sig .tc := ⟨.hbm, 36, rfl⟩
abbrev main_v3_0 : Ref sig .tc := ⟨.hbm, 37, rfl⟩
abbrev main_v3_1 : Ref sig .tc := ⟨.hbm, 38, rfl⟩
abbrev main_v3_2 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v5_0 : Ref sig .tc := ⟨.hbm, 43, rfl⟩
abbrev main_v5_1 : Ref sig .tc := ⟨.hbm, 44, rfl⟩
abbrev main_v5_2 : Ref sig .tc := ⟨.hbm, 45, rfl⟩
abbrev main_v6_0 : Ref sig .tc := ⟨.hbm, 46, rfl⟩
abbrev main_v6_1 : Ref sig .tc := ⟨.hbm, 47, rfl⟩
abbrev main_v6_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_stg3_0 : Ref sig .tc := ⟨.vmem, 41, rfl⟩
abbrev cc3_stg3_1 : Ref sig .tc := ⟨.vmem, 42, rfl⟩
abbrev cc3_stg4_0 : Ref sig .tc := ⟨.vmem, 43, rfl⟩
abbrev cc3_stg4_1 : Ref sig .tc := ⟨.vmem, 44, rfl⟩
abbrev cc3_stg5_0 : Ref sig .tc := ⟨.vmem, 45, rfl⟩
abbrev cc3_stg5_1 : Ref sig .tc := ⟨.vmem, 46, rfl⟩
abbrev cc3_stg6_0 : Ref sig .tc := ⟨.vmem, 47, rfl⟩
abbrev cc3_stg6_1 : Ref sig .tc := ⟨.vmem, 48, rfl⟩
abbrev cc4_stg0_0 : Ref sig .tc := ⟨.vmem, 49, rfl⟩
abbrev cc4_stg1_0 : Ref sig .tc := ⟨.vmem, 50, rfl⟩
abbrev cc4_stg2_0 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg2_1 : Ref sig .tc := ⟨.vmem, 61, rfl⟩
abbrev cc5_stg3_0 : Ref sig .tc := ⟨.vmem, 62, rfl⟩
abbrev cc5_stg3_1 : Ref sig .tc := ⟨.vmem, 63, rfl⟩
abbrev cc5_stg4_0 : Ref sig .tc := ⟨.vmem, 64, rfl⟩
abbrev cc5_stg4_1 : Ref sig .tc := ⟨.vmem, 65, rfl⟩
abbrev cc5_stg5_0 : Ref sig .tc := ⟨.vmem, 66, rfl⟩
abbrev cc5_stg5_1 : Ref sig .tc := ⟨.vmem, 67, rfl⟩
abbrev cc5_stg6_0 : Ref sig .tc := ⟨.vmem, 68, rfl⟩
abbrev cc5_stg6_1 : Ref sig .tc := ⟨.vmem, 69, rfl⟩
abbrev cc6_stg0_0 : Ref sig .tc := ⟨.vmem, 70, rfl⟩
abbrev cc6_stg1_0 : Ref sig .tc := ⟨.vmem, 71, rfl⟩
abbrev cc6_stg2_0 : Ref sig .tc := ⟨.vmem, 72, rfl⟩
abbrev cc6_stg3_0 : Ref sig .tc := ⟨.vmem, 73, rfl⟩
abbrev cc6_stg4_0 : Ref sig .tc := ⟨.vmem, 74, rfl⟩
abbrev cc6_stg5_0 : Ref sig .tc := ⟨.vmem, 75, rfl⟩
abbrev cc6_stg6_0 : Ref sig .tc := ⟨.vmem, 76, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39
abbrev cc3_sem2_1 : DmaSem sig := 40
abbrev cc3_sem3_0 : DmaSem sig := 41
abbrev cc3_sem3_1 : DmaSem sig := 42
abbrev cc3_sem4_0 : DmaSem sig := 43
abbrev cc3_sem4_1 : DmaSem sig := 44
abbrev cc3_sem5_0 : DmaSem sig := 45
abbrev cc3_sem5_1 : DmaSem sig := 46
abbrev cc3_sem6_0 : DmaSem sig := 47
abbrev cc3_sem6_1 : DmaSem sig := 48
abbrev cc4_sem0_0 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem3_1 : DmaSem sig := 63
abbrev cc5_sem4_0 : DmaSem sig := 64
abbrev cc5_sem4_1 : DmaSem sig := 65
abbrev cc5_sem5_0 : DmaSem sig := 66
abbrev cc5_sem5_1 : DmaSem sig := 67
abbrev cc5_sem6_0 : DmaSem sig := 68
abbrev cc5_sem6_1 : DmaSem sig := 69
abbrev cc6_sem0_0 : DmaSem sig := 70
abbrev cc6_sem1_0 : DmaSem sig := 71
abbrev cc6_sem2_0 : DmaSem sig := 72
abbrev cc6_sem3_0 : DmaSem sig := 73
abbrev cc6_sem4_0 : DmaSem sig := 74
abbrev cc6_sem5_0 : DmaSem sig := 75
abbrev cc6_sem6_0 : DmaSem sig := 76

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S256x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S256x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S256x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S256x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true]

abbrev stage2_4 : Fin 1 → Memref sig .tc .vmem S256x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true]

abbrev stage2_5 : Fin 1 → Memref sig .tc .vmem S256x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![true]

abbrev stage2_6 : Fin 1 → Memref sig .tc .vmem S256x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1280 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1280 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1280 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1280 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1280 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1280 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S1024x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1024x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S1024x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S1024x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S1024x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S1024x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S1024x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x1536 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x1536 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x1536 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x1536 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x1536 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x1536 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x1536 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S448x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S448x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true]

abbrev stage6_2 : Fin 1 → Memref sig .tc .vmem S448x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true]

abbrev stage6_3 : Fin 1 → Memref sig .tc .vmem S448x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S448x1024 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![true]

abbrev stage6_5 : Fin 1 → Memref sig .tc .vmem S448x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![true]

abbrev stage6_6 : Fin 1 → Memref sig .tc .vmem S448x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![true]
-- ==== AdamwRefIdeal.lean ====
abbrev S4096x1024 : Shape := ⟨2, ![4096, 1024]⟩
abbrev S1024x768 : Shape := ⟨2, ![1024, 768]⟩
abbrev S256x1024 : Shape := ⟨2, ![256, 1024]⟩
abbrev S1024x1280 : Shape := ⟨2, ![1024, 1280]⟩
abbrev S1024x512 : Shape := ⟨2, ![1024, 512]⟩
abbrev S4096x1536 : Shape := ⟨2, ![4096, 1536]⟩
abbrev S448x1024 : Shape := ⟨2, ![448, 1024]⟩
abbrev S_ : Shape := ⟨0, ![]⟩

abbrev nBuf : Space → Nat
  | .hbm => 259
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S1024x768, .f32⟩
  | 5 => ⟨S1024x768, .f32⟩
  | 6 => ⟨S1024x768, .f32⟩
  | 7 => ⟨S1024x768, .f32⟩
  | 8 => ⟨S256x1024, .f32⟩
  | 9 => ⟨S256x1024, .f32⟩
  | 10 => ⟨S256x1024, .f32⟩
  | 11 => ⟨S256x1024, .f32⟩
  | 12 => ⟨S1024x1280, .f32⟩
  | 13 => ⟨S1024x1280, .f32⟩
  | 14 => ⟨S1024x1280, .f32⟩
  | 15 => ⟨S1024x1280, .f32⟩
  | 16 => ⟨S1024x512, .f32⟩
  | 17 => ⟨S1024x512, .f32⟩
  | 18 => ⟨S1024x512, .f32⟩
  | 19 => ⟨S1024x512, .f32⟩
  | 20 => ⟨S4096x1536, .f32⟩
  | 21 => ⟨S4096x1536, .f32⟩
  | 22 => ⟨S4096x1536, .f32⟩
  | 23 => ⟨S4096x1536, .f32⟩
  | 24 => ⟨S448x1024, .f32⟩
  | 25 => ⟨S448x1024, .f32⟩
  | 26 => ⟨S448x1024, .f32⟩
  | 27 => ⟨S448x1024, .f32⟩
  | 28 => ⟨S_, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S_, .f32⟩
  | 47 => ⟨S4096x1024, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S_, .f32⟩
  | 62 => ⟨S1024x768, .f32⟩
  | 63 => ⟨S1024x768, .f32⟩
  | 64 => ⟨S_, .f32⟩
  | 65 => ⟨S1024x768, .f32⟩
  | 66 => ⟨S1024x768, .f32⟩
  | 67 => ⟨S1024x768, .f32⟩
  | 68 => ⟨S_, .f32⟩
  | 69 => ⟨S1024x768, .f32⟩
  | 70 => ⟨S1024x768, .f32⟩
  | 71 => ⟨S1024x768, .f32⟩
  | 72 => ⟨S_, .f32⟩
  | 73 => ⟨S1024x768, .f32⟩
  | 74 => ⟨S1024x768, .f32⟩
  | 75 => ⟨S1024x768, .f32⟩
  | 76 => ⟨S_, .f32⟩
  | 77 => ⟨S1024x768, .f32⟩
  | 78 => ⟨S1024x768, .f32⟩
  | 79 => ⟨S_, .f32⟩
  | 80 => ⟨S1024x768, .f32⟩
  | 81 => ⟨S1024x768, .f32⟩
  | 82 => ⟨S1024x768, .f32⟩
  | 83 => ⟨S_, .f32⟩
  | 84 => ⟨S1024x768, .f32⟩
  | 85 => ⟨S1024x768, .f32⟩
  | 86 => ⟨S1024x768, .f32⟩
  | 87 => ⟨S_, .f32⟩
  | 88 => ⟨S1024x768, .f32⟩
  | 89 => ⟨S1024x768, .f32⟩
  | 90 => ⟨S1024x768, .f32⟩
  | 91 => ⟨S_, .f32⟩
  | 92 => ⟨S1024x768, .f32⟩
  | 93 => ⟨S1024x768, .f32⟩
  | 94 => ⟨S_, .f32⟩
  | 95 => ⟨S256x1024, .f32⟩
  | 96 => ⟨S256x1024, .f32⟩
  | 97 => ⟨S_, .f32⟩
  | 98 => ⟨S256x1024, .f32⟩
  | 99 => ⟨S256x1024, .f32⟩
  | 100 => ⟨S256x1024, .f32⟩
  | 101 => ⟨S_, .f32⟩
  | 102 => ⟨S256x1024, .f32⟩
  | 103 => ⟨S256x1024, .f32⟩
  | 104 => ⟨S256x1024, .f32⟩
  | 105 => ⟨S_, .f32⟩
  | 106 => ⟨S256x1024, .f32⟩
  | 107 => ⟨S256x1024, .f32⟩
  | 108 => ⟨S256x1024, .f32⟩
  | 109 => ⟨S_, .f32⟩
  | 110 => ⟨S256x1024, .f32⟩
  | 111 => ⟨S256x1024, .f32⟩
  | 112 => ⟨S_, .f32⟩
  | 113 => ⟨S256x1024, .f32⟩
  | 114 => ⟨S256x1024, .f32⟩
  | 115 => ⟨S256x1024, .f32⟩
  | 116 => ⟨S_, .f32⟩
  | 117 => ⟨S256x1024, .f32⟩
  | 118 => ⟨S256x1024, .f32⟩
  | 119 => ⟨S256x1024, .f32⟩
  | 120 => ⟨S_, .f32⟩
  | 121 => ⟨S256x1024, .f32⟩
  | 122 => ⟨S256x1024, .f32⟩
  | 123 => ⟨S256x1024, .f32⟩
  | 124 => ⟨S_, .f32⟩
  | 125 => ⟨S256x1024, .f32⟩
  | 126 => ⟨S256x1024, .f32⟩
  | 127 => ⟨S_, .f32⟩
  | _ => ⟨S4096x1024, .f32⟩

abbrev hbmTy0_1 (i : Nat) : BufTy := match i % 128 with
  | 0 => ⟨S1024x1280, .f32⟩
  | 1 => ⟨S1024x1280, .f32⟩
  | 2 => ⟨S_, .f32⟩
  | 3 => ⟨S1024x1280, .f32⟩
  | 4 => ⟨S1024x1280, .f32⟩
  | 5 => ⟨S1024x1280, .f32⟩
  | 6 => ⟨S_, .f32⟩
  | 7 => ⟨S1024x1280, .f32⟩
  | 8 => ⟨S1024x1280, .f32⟩
  | 9 => ⟨S1024x1280, .f32⟩
  | 10 => ⟨S_, .f32⟩
  | 11 => ⟨S1024x1280, .f32⟩
  | 12 => ⟨S1024x1280, .f32⟩
  | 13 => ⟨S1024x1280, .f32⟩
  | 14 => ⟨S_, .f32⟩
  | 15 => ⟨S1024x1280, .f32⟩
  | 16 => ⟨S1024x1280, .f32⟩
  | 17 => ⟨S_, .f32⟩
  | 18 => ⟨S1024x1280, .f32⟩
  | 19 => ⟨S1024x1280, .f32⟩
  | 20 => ⟨S1024x1280, .f32⟩
  | 21 => ⟨S_, .f32⟩
  | 22 => ⟨S1024x1280, .f32⟩
  | 23 => ⟨S1024x1280, .f32⟩
  | 24 => ⟨S1024x1280, .f32⟩
  | 25 => ⟨S_, .f32⟩
  | 26 => ⟨S1024x1280, .f32⟩
  | 27 => ⟨S1024x1280, .f32⟩
  | 28 => ⟨S1024x1280, .f32⟩
  | 29 => ⟨S_, .f32⟩
  | 30 => ⟨S1024x1280, .f32⟩
  | 31 => ⟨S1024x1280, .f32⟩
  | 32 => ⟨S_, .f32⟩
  | 33 => ⟨S1024x512, .f32⟩
  | 34 => ⟨S1024x512, .f32⟩
  | 35 => ⟨S_, .f32⟩
  | 36 => ⟨S1024x512, .f32⟩
  | 37 => ⟨S1024x512, .f32⟩
  | 38 => ⟨S1024x512, .f32⟩
  | 39 => ⟨S_, .f32⟩
  | 40 => ⟨S1024x512, .f32⟩
  | 41 => ⟨S1024x512, .f32⟩
  | 42 => ⟨S1024x512, .f32⟩
  | 43 => ⟨S_, .f32⟩
  | 44 => ⟨S1024x512, .f32⟩
  | 45 => ⟨S1024x512, .f32⟩
  | 46 => ⟨S1024x512, .f32⟩
  | 47 => ⟨S_, .f32⟩
  | 48 => ⟨S1024x512, .f32⟩
  | 49 => ⟨S1024x512, .f32⟩
  | 50 => ⟨S_, .f32⟩
  | 51 => ⟨S1024x512, .f32⟩
  | 52 => ⟨S1024x512, .f32⟩
  | 53 => ⟨S1024x512, .f32⟩
  | 54 => ⟨S_, .f32⟩
  | 55 => ⟨S1024x512, .f32⟩
  | 56 => ⟨S1024x512, .f32⟩
  | 57 => ⟨S1024x512, .f32⟩
  | 58 => ⟨S_, .f32⟩
  | 59 => ⟨S1024x512, .f32⟩
  | 60 => ⟨S1024x512, .f32⟩
  | 61 => ⟨S1024x512, .f32⟩
  | 62 => ⟨S_, .f32⟩
  | 63 => ⟨S1024x512, .f32⟩
  | 64 => ⟨S1024x512, .f32⟩
  | 65 => ⟨S_, .f32⟩
  | 66 => ⟨S4096x1536, .f32⟩
  | 67 => ⟨S4096x1536, .f32⟩
  | 68 => ⟨S_, .f32⟩
  | 69 => ⟨S4096x1536, .f32⟩
  | 70 => ⟨S4096x1536, .f32⟩
  | 71 => ⟨S4096x1536, .f32⟩
  | 72 => ⟨S_, .f32⟩
  | 73 => ⟨S4096x1536, .f32⟩
  | 74 => ⟨S4096x1536, .f32⟩
  | 75 => ⟨S4096x1536, .f32⟩
  | 76 => ⟨S_, .f32⟩
  | 77 => ⟨S4096x1536, .f32⟩
  | 78 => ⟨S4096x1536, .f32⟩
  | 79 => ⟨S4096x1536, .f32⟩
  | 80 => ⟨S_, .f32⟩
  | 81 => ⟨S4096x1536, .f32⟩
  | 82 => ⟨S4096x1536, .f32⟩
  | 83 => ⟨S_, .f32⟩
  | 84 => ⟨S4096x1536, .f32⟩
  | 85 => ⟨S4096x1536, .f32⟩
  | 86 => ⟨S4096x1536, .f32⟩
  | 87 => ⟨S_, .f32⟩
  | 88 => ⟨S4096x1536, .f32⟩
  | 89 => ⟨S4096x1536, .f32⟩
  | 90 => ⟨S4096x1536, .f32⟩
  | 91 => ⟨S_, .f32⟩
  | 92 => ⟨S4096x1536, .f32⟩
  | 93 => ⟨S4096x1536, .f32⟩
  | 94 => ⟨S4096x1536, .f32⟩
  | 95 => ⟨S_, .f32⟩
  | 96 => ⟨S4096x1536, .f32⟩
  | 97 => ⟨S4096x1536, .f32⟩
  | 98 => ⟨S_, .f32⟩
  | 99 => ⟨S448x1024, .f32⟩
  | 100 => ⟨S448x1024, .f32⟩
  | 101 => ⟨S_, .f32⟩
  | 102 => ⟨S448x1024, .f32⟩
  | 103 => ⟨S448x1024, .f32⟩
  | 104 => ⟨S448x1024, .f32⟩
  | 105 => ⟨S_, .f32⟩
  | 106 => ⟨S448x1024, .f32⟩
  | 107 => ⟨S448x1024, .f32⟩
  | 108 => ⟨S448x1024, .f32⟩
  | 109 => ⟨S_, .f32⟩
  | 110 => ⟨S448x1024, .f32⟩
  | 111 => ⟨S448x1024, .f32⟩
  | 112 => ⟨S448x1024, .f32⟩
  | 113 => ⟨S_, .f32⟩
  | 114 => ⟨S448x1024, .f32⟩
  | 115 => ⟨S448x1024, .f32⟩
  | 116 => ⟨S_, .f32⟩
  | 117 => ⟨S448x1024, .f32⟩
  | 118 => ⟨S448x1024, .f32⟩
  | 119 => ⟨S448x1024, .f32⟩
  | 120 => ⟨S_, .f32⟩
  | 121 => ⟨S448x1024, .f32⟩
  | 122 => ⟨S448x1024, .f32⟩
  | 123 => ⟨S448x1024, .f32⟩
  | 124 => ⟨S_, .f32⟩
  | 125 => ⟨S448x1024, .f32⟩
  | 126 => ⟨S448x1024, .f32⟩
  | 127 => ⟨S448x1024, .f32⟩
  | _ => ⟨S4096x1024, .f32⟩

abbrev hbmTy0_2 (i : Nat) : BufTy := match i % 128 with
  | 0 => ⟨S_, .f32⟩
  | 1 => ⟨S448x1024, .f32⟩
  | 2 => ⟨S448x1024, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩

abbrev nD : Nat := 1
abbrev τ : Topo := Topo.v7x

variable {F : FTy → Type} [FloatOps F]
-- ==== Ada.lean ====
abbrev S32x1024 : Shape := ⟨2, ![32, 1024]⟩
abbrev S4x1024x1536 : Shape := ⟨3, ![4, 1024, 1536]⟩
abbrev S4x32x1536 : Shape := ⟨3, ![4, 32, 1536]⟩
abbrev S17x24x1024 : Shape := ⟨3, ![17, 24, 1024]⟩
abbrev S4x8x1024 : Shape := ⟨3, ![4, 8, 1024]⟩
abbrev S8x512x1024 : Shape := ⟨3, ![8, 512, 1024]⟩
abbrev S1x1024x1536 : Shape := ⟨3, ![1, 1024, 1536]⟩
abbrev S1x32x1536 : Shape := ⟨3, ![1, 32, 1536]⟩
abbrev S1024x1536 : Shape := ⟨2, ![1024, 1536]⟩
abbrev S32x1536 : Shape := ⟨2, ![32, 1536]⟩
abbrev S24x1024 : Shape := ⟨2, ![24, 1024]⟩
abbrev S1x24x1024 : Shape := ⟨3, ![1, 24, 1024]⟩
abbrev S8x1024 : Shape := ⟨2, ![8, 1024]⟩
abbrev S1x8x1024 : Shape := ⟨3, ![1, 8, 1024]⟩
abbrev S512x1024 : Shape := ⟨2, ![512, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 12
  | .vmem => 23
  | .smem => 0
  | _ => 0

abbrev bufTy : (tb : Table) → Fin (tcTables nBuf tb) → BufTy
  | .hbm, ⟨0, _⟩ => ⟨S32x1024, .bf16⟩
  | .hbm, ⟨1, _⟩ => ⟨S4x1024x1536, .f32⟩
  | .hbm, ⟨2, _⟩ => ⟨S4x32x1536, .f32⟩
  | .hbm, ⟨3, _⟩ => ⟨S17x24x1024, .f32⟩
  | .hbm, ⟨4, _⟩ => ⟨S4x8x1024, .f32⟩
  | .hbm, ⟨5, _⟩ => ⟨S8x512x1024, .f32⟩
  | .hbm, ⟨6, _⟩ => ⟨S4x32x1536, .f32⟩
  | .hbm, ⟨7, _⟩ => ⟨S4x1024x1536, .f32⟩
  | .hbm, ⟨8, _⟩ => ⟨S32x1024, .f32⟩
  | .hbm, ⟨9, _⟩ => ⟨S24x1024, .f32⟩
  | .hbm, ⟨10, _⟩ => ⟨S8x1024, .f32⟩
  | .hbm, ⟨11, _⟩ => ⟨S512x1024, .f32⟩
  | .local _ .vmem, ⟨0, _⟩ => ⟨S32x1024, .bf16⟩
  | .local _ .vmem, ⟨1, _⟩ => ⟨S1x1024x1536, .f32⟩
  | .local _ .vmem, ⟨2, _⟩ => ⟨S1x1024x1536, .f32⟩
  | .local _ .vmem, ⟨3, _⟩ => ⟨S1x32x1536, .f32⟩
  | .local _ .vmem, ⟨4, _⟩ => ⟨S1x32x1536, .f32⟩
  | .local _ .vmem, ⟨5, _⟩ => ⟨S32x1024, .bf16⟩
  | .local _ .vmem, ⟨6, _⟩ => ⟨S1x32x1536, .f32⟩
  | .local _ .vmem, ⟨7, _⟩ => ⟨S1x32x1536, .f32⟩
  | .local _ .vmem, ⟨8, _⟩ => ⟨S1x1024x1536, .f32⟩
  | .local _ .vmem, ⟨9, _⟩ => ⟨S1x1024x1536, .f32⟩
  | .local _ .vmem, ⟨10, _⟩ => ⟨S1x32x1536, .f32⟩
  | .local _ .vmem, ⟨11, _⟩ => ⟨S1x32x1536, .f32⟩
  | .local _ .vmem, ⟨12, _⟩ => ⟨S1x1024x1536, .f32⟩
  | .local _ .vmem, ⟨13, _⟩ => ⟨S1x1024x1536, .f32⟩
  | .local _ .vmem, ⟨14, _⟩ => ⟨S32x1024, .f32⟩
  | .local _ .vmem, ⟨15, _⟩ => ⟨S17x24x1024, .f32⟩
  | .local _ .vmem, ⟨16, _⟩ => ⟨S24x1024, .f32⟩
  | .local _ .vmem, ⟨17, _⟩ => ⟨S4x8x1024, .f32⟩
  | .local _ .vmem, ⟨18, _⟩ => ⟨S8x1024, .f32⟩
  | .local _ .vmem, ⟨19, _⟩ => ⟨S8x256x1024, .f32⟩
  | .local _ .vmem, ⟨20, _⟩ => ⟨S8x256x1024, .f32⟩
  | .local _ .vmem, ⟨21, _⟩ => ⟨S256x1024, .f32⟩
  | .local _ .vmem, ⟨22, _⟩ => ⟨S256x1024, .f32⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg1_0 : Ref sig .tc := ⟨.vmem, 16, rfl⟩
abbrev cc4_stg0_0 : Ref sig .tc := ⟨.vmem, 17, rfl⟩
abbrev cc4_stg1_0 : Ref sig .tc := ⟨.vmem, 18, rfl⟩
abbrev cc5_stg0_0 : Ref sig .tc := ⟨.vmem, 19, rfl⟩
abbrev cc5_stg0_1 : Ref sig .tc := ⟨.vmem, 20, rfl⟩
abbrev cc5_stg1_0 : Ref sig .tc := ⟨.vmem, 21, rfl⟩
abbrev cc5_stg1_1 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem1_0 : DmaSem sig := 16
abbrev cc4_sem0_0 : DmaSem sig := 17
abbrev cc4_sem1_0 : DmaSem sig := 18
abbrev cc5_sem0_0 : DmaSem sig := 19
abbrev cc5_sem0_1 : DmaSem sig := 20
abbrev cc5_sem1_0 : DmaSem sig := 21
abbrev cc5_sem1_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S32x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x32x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x32x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x1536 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S17x24x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S24x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev grid4 : Pipeline.Grid := ⟨1, ![1], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S4x8x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S8x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev grid5 : Pipeline.Grid := ⟨1, ![2], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8x256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]
-- ==== AdaRefIdeal.lean ====
abbrev S32x1024 : Shape := ⟨2, ![32, 1024]⟩
abbrev S4x1024x1536 : Shape := ⟨3, ![4, 1024, 1536]⟩
abbrev S4x32x1536 : Shape := ⟨3, ![4, 32, 1536]⟩
abbrev S17x24x1024 : Shape := ⟨3, ![17, 24, 1024]⟩
abbrev S4x8x1024 : Shape := ⟨3, ![4, 8, 1024]⟩
abbrev S8x512x1024 : Shape := ⟨3, ![8, 512, 1024]⟩
abbrev S4x1536x32 : Shape := ⟨3, ![4, 1536, 32]⟩
abbrev S4x1536x1024 : Shape := ⟨3, ![4, 1536, 1024]⟩
abbrev S_ : Shape := ⟨0, ![]⟩
abbrev S24x1024 : Shape := ⟨2, ![24, 1024]⟩
abbrev S8x1024 : Shape := ⟨2, ![8, 1024]⟩
abbrev S512x1024 : Shape := ⟨2, ![512, 1024]⟩

abbrev nBuf : Space → Nat
  | .hbm => 19
  | .vmem => 0
  | .smem => 0
  | _ => 0

abbrev bufTy : (tb : Table) → Fin (tcTables nBuf tb) → BufTy
  | .hbm, ⟨0, _⟩ => ⟨S32x1024, .bf16⟩
  | .hbm, ⟨1, _⟩ => ⟨S4x1024x1536, .f32⟩
  | .hbm, ⟨2, _⟩ => ⟨S4x32x1536, .f32⟩
  | .hbm, ⟨3, _⟩ => ⟨S17x24x1024, .f32⟩
  | .hbm, ⟨4, _⟩ => ⟨S4x8x1024, .f32⟩
  | .hbm, ⟨5, _⟩ => ⟨S8x512x1024, .f32⟩
  | .hbm, ⟨6, _⟩ => ⟨S32x1024, .f32⟩
  | .hbm, ⟨7, _⟩ => ⟨S4x1536x32, .f32⟩
  | .hbm, ⟨8, _⟩ => ⟨S4x32x1536, .f32⟩
  | .hbm, ⟨9, _⟩ => ⟨S4x1536x32, .f32⟩
  | .hbm, ⟨10, _⟩ => ⟨S32x1024, .f32⟩
  | .hbm, ⟨11, _⟩ => ⟨S4x1536x1024, .f32⟩
  | .hbm, ⟨12, _⟩ => ⟨S4x1024x1536, .f32⟩
  | .hbm, ⟨13, _⟩ => ⟨S_, .f32⟩
  | .hbm, ⟨14, _⟩ => ⟨S24x1024, .f32⟩
  | .hbm, ⟨15, _⟩ => ⟨S_, .f32⟩
  | .hbm, ⟨16, _⟩ => ⟨S8x1024, .f32⟩
  | .hbm, ⟨17, _⟩ => ⟨S_, .f32⟩
  | .hbm, ⟨18, _⟩ => ⟨S512x1024, .f32⟩
  | _, _ => ⟨S32x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Readout.lean ====
abbrev S2x4352x1024 : Shape := ⟨3, ![2, 4352, 1024]⟩
abbrev S1024 : Shape := ⟨1, ![1024]⟩
abbrev S8x128 : Shape := ⟨2, ![8, 128]⟩
abbrev S1x8x1x128 : Shape := ⟨4, ![1, 8, 1, 128]⟩
abbrev S256x8x1x128 : Shape := ⟨4, ![256, 8, 1, 128]⟩
abbrev S2048x128 : Shape := ⟨2, ![2048, 128]⟩
abbrev S2x34816x128 : Shape := ⟨3, ![2, 34816, 128]⟩
abbrev S1x2048x128 : Shape := ⟨3, ![1, 2048, 128]⟩
abbrev S2048 : Shape := ⟨1, ![2048]⟩
abbrev S2048x1 : Shape := ⟨2, ![2048, 1]⟩
abbrev S_ : Shape := ⟨0, ![]⟩

abbrev nBuf : Space → Nat
  | .hbm => 22
  | .vmem => 19
  | .smem => 0
  | _ => 0

abbrev bufTy : (tb : Table) → Fin (tcTables nBuf tb) → BufTy
  | .hbm, ⟨0, _⟩ => ⟨S2x4352x1024, .f32⟩
  | .hbm, ⟨1, _⟩ => ⟨S2x4352x1024, .bf16⟩
  | .hbm, ⟨2, _⟩ => ⟨S1024, .f32⟩
  | .hbm, ⟨3, _⟩ => ⟨S2x4352x1024, .bf16⟩
  | .hbm, ⟨4, _⟩ => ⟨S8x128, .f32⟩
  | .hbm, ⟨5, _⟩ => ⟨S1x8x1x128, .f32⟩
  | .hbm, ⟨6, _⟩ => ⟨S256x8x1x128, .f32⟩
  | .hbm, ⟨7, _⟩ => ⟨S2048x128, .f32⟩
  | .hbm, ⟨8, _⟩ => ⟨S2x34816x128, .f32⟩
  | .hbm, ⟨9, _⟩ => ⟨S2x34816x128, .bf16⟩
  | .hbm, ⟨10, _⟩ => ⟨S2x34816x128, .bf16⟩
  | .hbm, ⟨11, _⟩ => ⟨S2x34816x128, .f32⟩
  | .hbm, ⟨12, _⟩ => ⟨S2x34816x128, .bf16⟩
  | .hbm, ⟨13, _⟩ => ⟨S2048x128, .f32⟩
  | .hbm, ⟨14, _⟩ => ⟨S2x34816x128, .bf16⟩
  | .hbm, ⟨15, _⟩ => ⟨S2x4352x1024, .bf16⟩
  | .hbm, ⟨16, _⟩ => ⟨S2x4352x1024, .f32⟩
  | .hbm, ⟨17, _⟩ => ⟨S2x4352x1024, .bf16⟩
  | .hbm, ⟨18, _⟩ => ⟨S256x8x1x128, .f32⟩
  | .hbm, ⟨19, _⟩ => ⟨S_, .f32⟩
  | .hbm, ⟨20, _⟩ => ⟨S8x128, .f32⟩
  | .hbm, ⟨21, _⟩ => ⟨S1024, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .bf16⟩
  | .local _ .vmem, ⟨3, _⟩ => ⟨S1x2048x128, .bf16⟩
  | .local _ .vmem, ⟨4, _⟩ => ⟨S2048x128, .f32⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .f32⟩
  | .local _ .vmem, ⟨8, _⟩ => ⟨S1x2048x128, .f32⟩
  | .local _ .vmem, ⟨9, _⟩ => ⟨S1x2048x128, .bf16⟩
  | .local _ .vmem, ⟨10, _⟩ => ⟨S1x2048x128, .bf16⟩
  | .local _ .vmem, ⟨11, _⟩ => ⟨S2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .bf16⟩
  | .local _ .vmem, ⟨15, _⟩ => ⟨S1x2048x128, .bf16⟩
  | .local _ .vmem, ⟨16, _⟩ => ⟨S2048x128, .f32⟩
  | .local _ .vmem, ⟨17, _⟩ => ⟨S1x2048x128, .bf16⟩
  | .local _ .vmem, ⟨18, _⟩ => ⟨S1x2048x128, .bf16⟩
  | _, _ => ⟨S2x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![2, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev grid1 : Pipeline.Grid := ⟨2, ![2, 17], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReadoutRefIdeal.lean ====
abbrev S2x4352x1024 : Shape := ⟨3, ![2, 4352, 1024]⟩
abbrev S1024 : Shape := ⟨1, ![1024]⟩
abbrev S2x4352x8x128 : Shape := ⟨4, ![2, 4352, 8, 128]⟩
abbrev S8x128 : Shape := ⟨2, ![8, 128]⟩
abbrev S_ : Shape := ⟨0, ![]⟩
abbrev S2x4352x8 : Shape := ⟨3, ![2, 4352, 8]⟩
abbrev S2x4352x8x1 : Shape := ⟨4, ![2, 4352, 8, 1]⟩
abbrev S1x1x8x128 : Shape := ⟨4, ![1, 1, 8, 128]⟩

abbrev nBuf : Space → Nat
  | .hbm => 79
  | .vmem => 0
  | .smem => 0
  | _ => 0

abbrev bufTy : (tb : Table) → Fin (tcTables nBuf tb) → BufTy
  | .hbm, ⟨0, _⟩ => ⟨S2x4352x1024, .f32⟩
  | .hbm, ⟨1, _⟩ => ⟨S2x4352x1024, .bf16⟩
  | .hbm, ⟨2, _⟩ => ⟨S1024, .f32⟩
  | .hbm, ⟨3, _⟩ => ⟨S2x4352x1024, .bf16⟩
  | .hbm, ⟨4, _⟩ => ⟨S2x4352x1024, .f32⟩
  | .hbm, ⟨5, _⟩ => ⟨S2x4352x8x128, .f32⟩
  | .hbm, ⟨6, _⟩ => ⟨S8x128, .f32⟩
  | .hbm, ⟨7, _⟩ => ⟨S2x4352x8x128, .f32⟩
  | .hbm, ⟨8, _⟩ => ⟨S_, .f32⟩
  | .hbm, ⟨9, _⟩ => ⟨S2x4352x8, .f32⟩
  | .hbm, ⟨10, _⟩ => ⟨S2x4352x8x1, .f32⟩
  | .hbm, ⟨11, _⟩ => ⟨S_, .f32⟩
  | .hbm, ⟨12, _⟩ => ⟨S2x4352x8x1, .f32⟩
  | .hbm, ⟨13, _⟩ => ⟨S2x4352x8x1, .f32⟩
  | .hbm, ⟨14, _⟩ => ⟨S_, .f32⟩
  | .hbm, ⟨15, _⟩ => ⟨S2x4352x8x1, .f32⟩
  | .hbm, ⟨16, _⟩ => ⟨S2x4352x8x1, .f32⟩
  | .hbm, ⟨17, _⟩ => ⟨S2x4352x8x1, .f32⟩
  | .hbm, ⟨18, _⟩ => ⟨S2x4352x8x1, .f32⟩
  | .hbm, ⟨19, _⟩ => ⟨S_, .f32⟩
  | .hbm, ⟨20, _⟩ => ⟨S2x4352x8x1, .f32⟩
  | .hbm, ⟨21, _⟩ => ⟨S2x4352x8x1, .f32⟩
  | .hbm, ⟨22, _⟩ => ⟨S2x4352x8x128, .f32⟩
  | .hbm, ⟨23, _⟩ => ⟨S2x4352x8x128, .f32⟩
  | .hbm, ⟨24, _⟩ => ⟨S1x1x8x128, .f32⟩
  | .hbm, ⟨25, _⟩ => ⟨S2x4352x8x128, .f32⟩
  | .hbm, ⟨26, _⟩ => ⟨S2x4352x8x128, .f32⟩
  | .hbm, ⟨27, _⟩ => ⟨S2x4352x1024, .f32⟩
  | .hbm, ⟨28, _⟩ => ⟨S2x4352x1024, .f32⟩
  | .hbm, ⟨29, _⟩ => ⟨S2x4352x1024, .f32⟩
  | .hbm, ⟨30, _⟩ => ⟨S_, .f32⟩
  | .hbm, ⟨31, _⟩ => ⟨S2x4352x1024, .f32⟩
  | .hbm, ⟨32, _⟩ => ⟨S2x4352x1024, .f32⟩
  | .hbm, ⟨33, _⟩ => ⟨S_, .f32⟩
  | .hbm, ⟨34, _⟩ => ⟨S2x4352x1024, .f32⟩
  | .hbm, ⟨35, _⟩ => ⟨S2x4352x1024, .f32⟩
  | .hbm, ⟨36, _⟩ => ⟨S_, .f32⟩
  | .hbm, ⟨37, _⟩ => ⟨S2x4352x1024, .f32⟩
  | .hbm, ⟨38, _⟩ => ⟨S2x4352x1024, .f32⟩
  | .hbm, ⟨39, _⟩ => ⟨S2x4352x1024, .f32⟩
  | .hbm, ⟨40, _⟩ => ⟨S2x4352x1024, .f32⟩
  | .hbm, ⟨41, _⟩ => ⟨S2x4352x1024, .f32⟩
  | .hbm, ⟨42, _⟩ => ⟨S2x4352x1024, .f32⟩
  | .hbm, ⟨43, _⟩ => ⟨S2x4352x1024, .f32⟩
  | .hbm, ⟨44, _⟩ => ⟨S2x4352x1024, .f32⟩
  | .hbm, ⟨45, _⟩ => ⟨S2x4352x1024, .f32⟩
  | .hbm, ⟨46, _⟩ => ⟨S2x4352x1024, .f32⟩
  | .hbm, ⟨47, _⟩ => ⟨S2x4352x1024, .f32⟩
  | .hbm, ⟨48, _⟩ => ⟨S2x4352x1024, .f32⟩
  | .hbm, ⟨49, _⟩ => ⟨S2x4352x8x128, .f32⟩
  | .hbm, ⟨50, _⟩ => ⟨S2x4352x8x128, .f32⟩
  | .hbm, ⟨51, _⟩ => ⟨S_, .f32⟩
  | .hbm, ⟨52, _⟩ => ⟨S8x128, .f32⟩
  | .hbm, ⟨53, _⟩ => ⟨S1x1x8x128, .f32⟩
  | .hbm, ⟨54, _⟩ => ⟨S2x4352x8x128, .f32⟩
  | .hbm, ⟨55, _⟩ => ⟨S2x4352x8x128, .f32⟩
  | .hbm, ⟨56, _⟩ => ⟨S_, .f32⟩
  | .hbm, ⟨57, _⟩ => ⟨S8x128, .f32⟩
  | .hbm, ⟨58, _⟩ => ⟨S2x4352x8x128, .f32⟩
  | .hbm, ⟨59, _⟩ => ⟨S_, .f32⟩
  | .hbm, ⟨60, _⟩ => ⟨S2x4352x8, .f32⟩
  | .hbm, ⟨61, _⟩ => ⟨S2x4352x8x1, .f32⟩
  | .hbm, ⟨62, _⟩ => ⟨S2x4352x8x128, .f32⟩
  | .hbm, ⟨63, _⟩ => ⟨S2x4352x8x128, .f32⟩
  | .hbm, ⟨64, _⟩ => ⟨S2x4352x8x1, .f32⟩
  | .hbm, ⟨65, _⟩ => ⟨S_, .f32⟩
  | .hbm, ⟨66, _⟩ => ⟨S2x4352x8x1, .f32⟩
  | .hbm, ⟨67, _⟩ => ⟨S2x4352x8x1, .f32⟩
  | .hbm, ⟨68, _⟩ => ⟨S_, .f32⟩
  | .hbm, ⟨69, _⟩ => ⟨S2x4352x8, .f32⟩
  | .hbm, ⟨70, _⟩ => ⟨S2x4352x8x128, .f32⟩
  | .hbm, ⟨71, _⟩ => ⟨S2x4352x8x128, .f32⟩
  | .hbm, ⟨72, _⟩ => ⟨S2x4352x8x128, .f32⟩
  | .hbm, ⟨73, _⟩ => ⟨S2x4352x8x128, .f32⟩
  | .hbm, ⟨74, _⟩ => ⟨S2x4352x8x128, .f32⟩
  | .hbm, ⟨75, _⟩ => ⟨S1024, .f32⟩
  | .hbm, ⟨76, _⟩ => ⟨S2x4352x1024, .f32⟩
  | .hbm, ⟨77, _⟩ => ⟨S2x4352x1024, .bf16⟩
  | .hbm, ⟨78, _⟩ => ⟨S2x4352x1024, .bf16⟩
  | _, _ => ⟨S2x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v20_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v20_1 : Ref sig .tc := ⟨.hbm, 39, rfl⟩
abbrev main_v20_0 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_cst_5 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_6 : Ref sig .tc := ⟨.hbm, 65, rfl⟩
abbrev main_v39 : Ref sig .tc := ⟨.hbm, 66, rfl⟩
abbrev main_v40 : Ref sig .tc := ⟨.hbm, 67, rfl⟩
abbrev main_cst_7 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩

abbrev nD : Nat := 1
abbrev τ : Topo := Topo.v7x

variable {F : FTy → Type} [FloatOps F]
-- ==== Norm.lean ====
abbrev S2x4096x1024 : Shape := ⟨3, ![2, 4096, 1024]⟩
abbrev S2x256x1024 : Shape := ⟨3, ![2, 256, 1024]⟩
abbrev S1024 : Shape := ⟨1, ![1024]⟩
abbrev S2x2x2x1024 : Shape := ⟨4, ![2, 2, 2, 1024]⟩
abbrev S2x4352x1024 : Shape := ⟨3, ![2, 4352, 1024]⟩
abbrev S1x1024 : Shape := ⟨2, ![1, 1024]⟩
abbrev S1x256x1024 : Shape := ⟨3, ![1, 256, 1024]⟩
abbrev S1x1x2x1024 : Shape := ⟨4, ![1, 1, 2, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩

abbrev nBuf : Space → Nat
  | .hbm => 14
  | .vmem => 12
  | .smem => 0
  | _ => 0

abbrev bufTy : (tb : Table) → Fin (tcTables nBuf tb) → BufTy
  | .hbm, ⟨0, _⟩ => ⟨S2x4096x1024, .f32⟩
  | .hbm, ⟨1, _⟩ => ⟨S2x256x1024, .f32⟩
  | .hbm, ⟨2, _⟩ => ⟨S1024, .f32⟩
  | .hbm, ⟨3, _⟩ => ⟨S2x2x2x1024, .f32⟩
  | .hbm, ⟨4, _⟩ => ⟨S2x4352x1024, .bf16⟩
  | .hbm, ⟨5, _⟩ => ⟨S2x4352x1024, .f32⟩
  | .hbm, ⟨6, _⟩ => ⟨S2x4352x1024, .f32⟩
  | .hbm, ⟨7, _⟩ => ⟨S1x1024, .f32⟩
  | .hbm, ⟨8, _⟩ => ⟨S2x4352x1024, .f32⟩
  | .hbm, ⟨9, _⟩ => ⟨S1x1024, .f32⟩
  | .hbm, ⟨10, _⟩ => ⟨S2x2x2x1024, .f32⟩
  | .hbm, ⟨11, _⟩ => ⟨S2x4352x1024, .f32⟩
  | .hbm, ⟨12, _⟩ => ⟨S2x4096x1024, .f32⟩
  | .hbm, ⟨13, _⟩ => ⟨S1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x2x1024, .f32⟩
  | .local _ .vmem, ⟨4, _⟩ => ⟨S1x1x2x1024, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x1024, .f32⟩
  | .local _ .vmem, ⟨10, _⟩ => ⟨S1x1x2x1024, .f32⟩
  | .local _ .vmem, ⟨11, _⟩ => ⟨S1x1x2x1024, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c2_i32 : BitVec 32 := 2#32
  let v65 : BitVec 1 := Scalar.cmpi .slt arg1 c2_i32
  let v66 : BitVec 32 := Scalar.extui v65
  let c0_i32_29 : BitVec 32 := 0#32
  let v67 : BitVec 1 := Scalar.cmpi .ne v66 c0_i32_29
  v67

def k0_cond3 (i : grid0.Coords) : BitVec 1 :=
  let arg1 : BitVec 32 := BitVec.ofNat 32 (i 1).val
  let c2_i32_30 : BitVec 32 := 2#32
  let v68 : BitVec 1 := Scalar.cmpi .sge arg1 c2_i32_30
  let v69 : BitVec 32 := Scalar.extui v68
  let c0_i32_31 : BitVec 32 := 0#32
  let v70 : BitVec 1 := Scalar.cmpi .ne v69 c0_i32_31
  v70

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== NormRefIdeal.lean ====
abbrev S2x4096x1024 : Shape := ⟨3, ![2, 4096, 1024]⟩
abbrev S2x256x1024 : Shape := ⟨3, ![2, 256, 1024]⟩
abbrev S1024 : Shape := ⟨1, ![1024]⟩
abbrev S2x2x2x1024 : Shape := ⟨4, ![2, 2, 2, 1024]⟩
abbrev S2x4352x1024 : Shape := ⟨3, ![2, 4352, 1024]⟩
abbrev S2x1x1x1024 : Shape := ⟨4, ![2, 1, 1, 1024]⟩
abbrev S2x1024 : Shape := ⟨2, ![2, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x1x1024 : Shape := ⟨3, ![2, 1, 1024]⟩
abbrev S2x256 : Shape := ⟨2, ![2, 256]⟩
abbrev S2x256x1 : Shape := ⟨3, ![2, 256, 1]⟩
abbrev S2x2x1024 : Shape := ⟨3, ![2, 2, 1024]⟩
abbrev S2x1x2x1024 : Shape := ⟨4, ![2, 1, 2, 1024]⟩

abbrev nBuf : Space → Nat
  | .hbm => 164
  | .vmem => 0
  | .smem => 0
  | _ => 0

abbrev hbmTy0_0 (i : Nat) : BufTy := match i % 128 with
  | 0 => ⟨S2x4096x1024, .f32⟩
  | 1 => ⟨S2x256x1024, .f32⟩
  | 2 => ⟨S1024, .f32⟩
  | 3 => ⟨S2x2x2x1024, .f32⟩
  | 4 => ⟨S2x4352x1024, .bf16⟩
  | 5 => ⟨S2x4352x1024, .f32⟩
  | 6 => ⟨S2x1x1x1024, .f32⟩
  | 7 => ⟨S2x1024, .f32⟩
  | 8 => ⟨S2x1x1x1024, .f32⟩
  | 9 => ⟨S2x1024, .f32⟩
  | 10 => ⟨S2x1x1x1024, .f32⟩
  | 11 => ⟨S2x1024, .f32⟩
  | 12 => ⟨S2x1x1x1024, .f32⟩
  | 13 => ⟨S2x1024, .f32⟩
  | 14 => ⟨S2x4096x1024, .f32⟩
  | 15 => ⟨S_, .f32⟩
  | 16 => ⟨S2x4096, .f32⟩
  | 17 => ⟨S2x4096x1, .f32⟩
  | 18 => ⟨S_, .f32⟩
  | 19 => ⟨S2x4096x1, .f32⟩
  | 20 => ⟨S2x4096x1, .f32⟩
  | 21 => ⟨S_, .f32⟩
  | 22 => ⟨S2x4096x1, .f32⟩
  | 23 => ⟨S2x4096x1, .f32⟩
  | 24 => ⟨S2x4096x1, .f32⟩
  | 25 => ⟨S2x4096x1, .f32⟩
  | 26 => ⟨S_, .f32⟩
  | 27 => ⟨S2x4096x1, .f32⟩
  | 28 => ⟨S2x4096x1, .f32⟩
  | 29 => ⟨S2x4096x1024, .f32⟩
  | 30 => ⟨S2x4096x1024, .f32⟩
  | 31 => ⟨S1x1x1024, .f32⟩
  | 32 => ⟨S2x4096x1024, .f32⟩
  | 33 => ⟨S2x4096x1024, .f32⟩
  | 34 => ⟨S2x1x1024, .f32⟩
  | 35 => ⟨S2x1x1024, .f32⟩
  | 36 => ⟨S_, .f32⟩
  | 37 => ⟨S2x1x1024, .f32⟩
  | 38 => ⟨S2x1x1024, .f32⟩
  | 39 => ⟨S2x4096x1024, .f32⟩
  | 40 => ⟨S2x4096x1024, .f32⟩
  | 41 => ⟨S2x4096x1024, .f32⟩
  | 42 => ⟨S2x4096x1024, .f32⟩
  | 43 => ⟨S2x256x1024, .f32⟩
  | 44 => ⟨S_, .f32⟩
  | 45 => ⟨S2x256, .f32⟩
  | 46 => ⟨S2x256x1, .f32⟩
  | 47 => ⟨S_, .f32⟩
  | 48 => ⟨S2x256x1, .f32⟩
  | 49 => ⟨S2x256x1, .f32⟩
  | 50 => ⟨S_, .f32⟩
  | 51 => ⟨S2x256x1, .f32⟩
  | 52 => ⟨S2x256x1, .f32⟩
  | 53 => ⟨S2x256x1, .f32⟩
  | 54 => ⟨S2x256x1, .f32⟩
  | 55 => ⟨S_, .f32⟩
  | 56 => ⟨S2x256x1, .f32⟩
  | 57 => ⟨S2x256x1, .f32⟩
  | 58 => ⟨S2x256x1024, .f32⟩
  | 59 => ⟨S2x256x1024, .f32⟩
  | 60 => ⟨S1x1x1024, .f32⟩
  | 61 => ⟨S2x256x1024, .f32⟩
  | 62 => ⟨S2x256x1024, .f32⟩
  | 63 => ⟨S2x1x1024, .f32⟩
  | 64 => ⟨S2x1x1024, .f32⟩
  | 65 => ⟨S_, .f32⟩
  | 66 => ⟨S2x1x1024, .f32⟩
  | 67 => ⟨S2x1x1024, .f32⟩
  | 68 => ⟨S2x256x1024, .f32⟩
  | 69 => ⟨S2x256x1024, .f32⟩
  | 70 => ⟨S2x256x1024, .f32⟩
  | 71 => ⟨S2x256x1024, .f32⟩
  | 72 => ⟨S2x4096x1024, .bf16⟩
  | 73 => ⟨S2x4096x1024, .f32⟩
  | 74 => ⟨S2x256x1024, .bf16⟩
  | 75 => ⟨S2x256x1024, .f32⟩
  | 76 => ⟨S_, .f32⟩
  | 77 => ⟨S2x1024, .f32⟩
  | 78 => ⟨S2x1x1024, .f32⟩
  | 79 => ⟨S2x256x1024, .f32⟩
  | 80 => ⟨S_, .f32⟩
  | 81 => ⟨S2x1024, .f32⟩
  | 82 => ⟨S2x1x1024, .f32⟩
  | 83 => ⟨S2x256x1024, .f32⟩
  | 84 => ⟨S2x256x1024, .f32⟩
  | 85 => ⟨S_, .f32⟩
  | 86 => ⟨S2x1024, .f32⟩
  | 87 => ⟨S_, .f32⟩
  | 88 => ⟨S2x1024, .f32⟩
  | 89 => ⟨S2x256x1024, .f32⟩
  | 90 => ⟨S_, .f32⟩
  | 91 => ⟨S1024, .f32⟩
  | 92 => ⟨S1x1x1024, .f32⟩
  | 93 => ⟨S2x256x1024, .f32⟩
  | 94 => ⟨S2x256x1024, .f32⟩
  | 95 => ⟨S_, .f32⟩
  | 96 => ⟨S1024, .f32⟩
  | 97 => ⟨S2x256x1024, .f32⟩
  | 98 => ⟨S_, .f32⟩
  | 99 => ⟨S2x256, .f32⟩
  | 100 => ⟨S2x256x1, .f32⟩
  | 101 => ⟨S2x256x1024, .f32⟩
  | 102 => ⟨S2x256x1024, .f32⟩
  | 103 => ⟨S2x256x1, .f32⟩
  | 104 => ⟨S_, .f32⟩
  | 105 => ⟨S2x256x1, .f32⟩
  | 106 => ⟨S2x256x1, .f32⟩
  | 107 => ⟨S_, .f32⟩
  | 108 => ⟨S2x256, .f32⟩
  | 109 => ⟨S2x256x1024, .f32⟩
  | 110 => ⟨S2x256x1024, .f32⟩
  | 111 => ⟨S2x256x1024, .f32⟩
  | 112 => ⟨S2x256x1024, .f32⟩
  | 113 => ⟨S2x256x1024, .f32⟩
  | 114 => ⟨S_, .f32⟩
  | 115 => ⟨S2x1024, .f32⟩
  | 116 => ⟨S2x1x1024, .f32⟩
  | 117 => ⟨S2x4096x1024, .f32⟩
  | 118 => ⟨S_, .f32⟩
  | 119 => ⟨S2x1024, .f32⟩
  | 120 => ⟨S2x1x1024, .f32⟩
  | 121 => ⟨S2x4096x1024, .f32⟩
  | 122 => ⟨S2x4096x1024, .f32⟩
  | 123 => ⟨S_, .f32⟩
  | 124 => ⟨S2x1024, .f32⟩
  | 125 => ⟨S_, .f32⟩
  | 126 => ⟨S2x1024, .f32⟩
  | 127 => ⟨S2x4096x1024, .f32⟩
  | _ => ⟨S2x4096x1024, .f32⟩

abbrev hbmTy0_1 (i : Nat) : BufTy := match i % 128 with
  | 0 => ⟨S_, .f32⟩
  | 1 => ⟨S1024, .f32⟩
  | 2 => ⟨S1x1x1024, .f32⟩
  | 3 => ⟨S2x4096x1024, .f32⟩
  | 4 => ⟨S2x4096x1024, .f32⟩
  | 5 => ⟨S_, .f32⟩
  | 6 => ⟨S1024, .f32⟩
  | 7 => ⟨S1024, .f32⟩
  | 8 => ⟨S2x4096x1024, .f32⟩
  | 9 => ⟨S_, .f32⟩
  | 10 => ⟨S2x4096, .f32⟩
  | 11 => ⟨S2x4096x1, .f32⟩
  | 12 => ⟨S2x4096x1024, .f32⟩
  | 13 => ⟨S2x4096x1024, .f32⟩
  | 14 => ⟨S2x4096x1, .f32⟩
  | 15 => ⟨S_, .f32⟩
  | 16 => ⟨S2x4096x1, .f32⟩
  | 17 => ⟨S2x4096x1, .f32⟩
  | 18 => ⟨S_, .f32⟩
  | 19 => ⟨S2x4096, .f32⟩
  | 20 => ⟨S2x4096x1024, .f32⟩
  | 21 => ⟨S2x4096x1024, .f32⟩
  | 22 => ⟨S2x4096x1024, .f32⟩
  | 23 => ⟨S2x4096x1024, .f32⟩
  | 24 => ⟨S2x4096x1024, .f32⟩
  | 25 => ⟨S2x1x1024, .f32⟩
  | 26 => ⟨S2x1x1024, .f32⟩
  | 27 => ⟨S2x2x1024, .f32⟩
  | 28 => ⟨S2x1x1024, .f32⟩
  | 29 => ⟨S2x1x1024, .f32⟩
  | 30 => ⟨S2x2x1024, .f32⟩
  | 31 => ⟨S2x4096x1024, .f32⟩
  | 32 => ⟨S2x4096x1024, .f32⟩
  | 33 => ⟨S2x1x2x1024, .f32⟩
  | 34 => ⟨S2x1x2x1024, .f32⟩
  | 35 => ⟨S2x2x2x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_cst_12 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_cst_16 : Ref sig .tc := ⟨.hbm, 104, rfl⟩
abbrev main_v81 : Ref sig .tc := ⟨.hbm, 105, rfl⟩
abbrev main_v82 : Ref sig .tc := ⟨.hbm, 106, rfl⟩
abbrev main_cst_17 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_18 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_19 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_20 : Ref sig .tc := ⟨.hbm, 123, rfl⟩
abbrev main_v96 : Ref sig .tc := ⟨.hbm, 124, rfl⟩
abbrev main_cst_21 : Ref sig .tc := ⟨.hbm, 125, rfl⟩
abbrev main_v97 : Ref sig .tc := ⟨.hbm, 126, rfl⟩
abbrev main_v98 : Ref sig .tc := ⟨.hbm, 127, rfl⟩
abbrev main_cst_22 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_23 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_24 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_25 : Ref sig .tc := ⟨.hbm, 143, rfl⟩
abbrev main_v111 : Ref sig .tc := ⟨.hbm, 144, rfl⟩
abbrev main_v112 : Ref sig .tc := ⟨.hbm, 145, rfl⟩
abbrev main_cst_26 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩

abbrev nD : Nat := 1
abbrev τ : Topo := Topo.v7x

variable {F : FTy → Type} [FloatOps F]
-- ==== Proof.ConvMath.lean ====
/- The gradient of the gated depthwise convolution, as formulas over the extended reals.

   A row of `z` holds three parts of 1024 columns: the gate `b`, and the two factors `c` and `v`. The
   convolution runs over the product `u = c * v` along the 4352 rows with three taps. The rows 0 … 255 and
   256 … 4351 are two separate segments: a tap that would cross from one to the other, or leave the array,
   reads zero. -/
module

public import Idealize.ShloMosaic.Lib.Pipeline.ValueKit

@[expose] public section

noncomputable section

namespace Cert.Proof.Conv

open Idealize.ShloMosaic

/-- The three parts side by side. -/
abbrev Z : Type := (⟨3, ![2, 4352, 3072]⟩ : Shape).Idx → EReal
/-- One value per row and channel. -/
abbrev Y : Type := (⟨3, ![2, 4352, 1024]⟩ : Shape).Idx → EReal
/-- The three taps of each channel. -/
abbrev W : Type := (⟨2, ![3, 1024]⟩ : Shape).Idx → EReal

/-- Row `r - 1`, zero at the first row of a segment. -/
def before (f : Fin 4352 → EReal) (r : Fin 4352) : EReal :=
  if r.val = 0 ∨ r.val = 256 then 0 else f ⟨r.val - 1, by omega⟩

/-- Row `r + 1`, zero at the last row of a segment. -/
def after (f : Fin 4352 → EReal) (r : Fin 4352) : EReal :=
  if h : r.val = 255 ∨ r.val = 4351 then 0 else f ⟨r.val + 1, by omega⟩

/-- The gate `b`. -/
def gate (z : Z) (b : Fin 2) (k : Fin 1024) (r : Fin 4352) : EReal := z (ix3 b r ⟨k.val, by omega⟩)
/-- The factor `c`. -/
def facC (z : Z) (b : Fin 2) (k : Fin 1024) (r : Fin 4352) : EReal := z (ix3 b r ⟨1024 + k.val, by omega⟩)
/-- The factor `v`. -/
def facV (z : Z) (b : Fin 2) (k : Fin 1024) (r : Fin 4352) : EReal := z (ix3 b r ⟨2048 + k.val, by omega⟩)
/-- The convolution's operand `u = c * v`. -/
def prod (z : Z) (b : Fin 2) (k : Fin 1024) (r : Fin 4352) : EReal := facC z b k r * facV z b k r
/-- The gradient of the convolution's result: the incoming one times the gate. -/
def dconv (z : Z) (dy : Y) (b : Fin 2) (k : Fin 1024) (r : Fin 4352) : EReal := dy (ix3 b r k) * gate z b k r
/-- The convolution itself. -/
def conv (z : Z) (w : W) (b : Fin 2) (k : Fin 1024) (r : Fin 4352) : EReal :=
  w (ix2 0 k) * before (prod z b k) r + w (ix2 1 k) * prod z b k r + w (ix2 2 k) * after (prod z b k) r
/-- The gradient of `u`: the taps in opposite order. -/
def dprod (z : Z) (w : W) (dy : Y) (b : Fin 2) (k : Fin 1024) (r : Fin 4352) : EReal :=
  w (ix2 0 k) * after (dconv z dy b k) r + w (ix2 1 k) * dconv z dy b k r + w (ix2 2 k) * before (dconv z dy b k) r

/-- The gradient of `z`, part by part. -/
def gradZ (z : Z) (w : W) (dy : Y) (b : Fin 2) (r : Fin 4352) (k : Fin 3072) : EReal :=
  if h : k.val < 1024 then dy (ix3 b r ⟨k.val, h⟩) * conv z w b ⟨k.val, h⟩ r
  else if h' : k.val - 1024 < 1024 then dprod z w dy b ⟨k.val - 1024, h'⟩ r * facV z b ⟨k.val - 1024, h'⟩ r
  else dprod z w dy b ⟨k.val - 2048, by omega⟩ r * facC z b ⟨k.val - 2048, by omega⟩ r

/-- What tap `j` was multiplied with. -/
def tapped (z : Z) (j : Fin 3) (b : Fin 2) (k : Fin 1024) (r : Fin 4352) : EReal :=
  if j.val = 0 then before (prod z b k) r else if j.val = 1 then prod z b k r else after (prod z b k) r

/-- The gradient of tap `j` of channel `k`. -/
def gradW (z : Z) (dy : Y) (j : Fin 3) (k : Fin 1024) : EReal :=
  ∑ b : Fin 2, ∑ r : Fin 4352, dconv z dy b k r * tapped z j b k r

end Cert.Proof.Conv

end
-- ==== Proof.HostSum.lean ====
/- Host sums over two axes of an array, as double sums. -/
module

public import Idealize.ShloMosaic.Lib.Pipeline.ValueKit

@[expose] public section

noncomputable section

namespace Cert.Proof

open Idealize.ShloMosaic

variable {n0 n1 n2 : ℕ}

/-- The entries that a sum over axes 0 and 1 brings to column `k` are the ones of that column. -/
theorem drop_first_two (h : (⟨3, ![n0, n1, n2]⟩ : Shape).ReducesTo [0, 1] ⟨1, ![n2]⟩) (k : Fin n2)
    (i : (⟨3, ![n0, n1, n2]⟩ : Shape).Idx) : h.drop i = ix1 k ↔ ∃ p : Fin n0 × Fin n1, ix3 p.1 p.2 k = i := by
  constructor
  · intro e
    have e0 : (i 2).val = k.val := congrArg Fin.val (congrFun e 0)
    refine ⟨(i 0, i 1), ?_⟩
    funext a
    match a with
    | ⟨0, _⟩ => rfl
    | ⟨1, _⟩ => rfl
    | ⟨2, _⟩ => exact Fin.ext e0.symm
  · rintro ⟨p, rfl⟩
    funext a
    match a with
    | ⟨0, _⟩ => rfl

/-- The host's sum over axes 0 and 1, at column `k`. -/
theorem hostSum_first_two (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  refine congrArg (init + ·) ?_
  refine (Finset.sum_filter_eq_sum_of_fiber _ (fun p : Fin n0 × Fin n1 => ix3 p.1 p.2 k)
    (fun _ _ e => Prod.ext (congrFun e 0) (congrFun e 1)) (drop_first_two h k) v).trans ?_
  rw [Fintype.sum_prod_type]

variable {n3 : ℕ}

/-- The same for an array of rank four: the entries that a sum over axes 0 and 1 brings to `(h, k)`. -/
theorem drop_first_two_of_four (r : (⟨4, ![n0, n1, n2, n3]⟩ : Shape).ReducesTo [0, 1] ⟨2, ![n2, n3]⟩) (h : Fin n2) (k : Fin n3)
    (i : (⟨4, ![n0, n1, n2, n3]⟩ : Shape).Idx) : r.drop i = ix2 h k ↔ ∃ p : Fin n0 × Fin n1, ix4 p.1 p.2 h k = i := by
  constructor
  · intro e
    have e0 : (i 2).val = h.val := congrArg Fin.val (congrFun e 0)
    have e1 : (i 3).val = k.val := congrArg Fin.val (congrFun e 1)
    refine ⟨(i 0, i 1), ?_⟩
    funext a
    match a with
    | ⟨0, _⟩ => rfl
    | ⟨1, _⟩ => rfl
    | ⟨2, _⟩ => exact Fin.ext e0.symm
    | ⟨3, _⟩ => exact Fin.ext e1.symm
  · rintro ⟨p, rfl⟩
    funext a
    match a with
    | ⟨0, _⟩ => rfl
    | ⟨1, _⟩ => rfl

/-- The host's sum over axes 0 and 1 of an array of rank four, at `(h, k)`. -/
theorem hostSum_first_two_of_four (r : (⟨4, ![n0, n1, n2, n3]⟩ : Shape).ReducesTo [0, 1] ⟨2, ![n2, n3]⟩)
    (v : (⟨4, ![n0, n1, n2, n3]⟩ : Shape).Idx → EReal) (init : EReal) (h : Fin n2) (k : Fin n3) :
    Ideal.hostReduceAdd r v init (ix2 h k) = init + ∑ a : Fin n0, ∑ b : Fin n1, v (ix4 a b h k) := by
  refine congrArg (init + ·) ?_
  refine (Finset.sum_filter_eq_sum_of_fiber _ (fun p : Fin n0 × Fin n1 => ix4 p.1 p.2 h k)
    (fun _ _ e => Prod.ext (congrFun e 0) (congrFun e 1)) (drop_first_two_of_four r h k) v).trans ?_
  rw [Fintype.sum_prod_type]

/-- The entries that a sum over axes 0 and 2 brings to `(h, k)`. -/
theorem drop_zero_two_of_four (r : (⟨4, ![n0, n1, n2, n3]⟩ : Shape).ReducesTo [0, 2] ⟨2, ![n1, n3]⟩) (h : Fin n1) (k : Fin n3)
    (i : (⟨4, ![n0, n1, n2, n3]⟩ : Shape).Idx) : r.drop i = ix2 h k ↔ ∃ p : Fin n0 × Fin n2, ix4 p.1 h p.2 k = i := by
  constructor
  · intro e
    have e0 : (i 1).val = h.val := congrArg Fin.val (congrFun e 0)
    have e1 : (i 3).val = k.val := congrArg Fin.val (congrFun e 1)
    refine ⟨(i 0, i 2), ?_⟩
    funext a
    match a with
    | ⟨0, _⟩ => rfl
    | ⟨1, _⟩ => exact Fin.ext e0.symm
    | ⟨2, _⟩ => rfl
    | ⟨3, _⟩ => exact Fin.ext e1.symm
  · rintro ⟨p, rfl⟩
    funext a
    match a with
    | ⟨0, _⟩ => rfl
    | ⟨1, _⟩ => rfl

/-- The host's sum over axes 0 and 2 of an array of rank four, at `(h, k)`. -/
theorem hostSum_zero_two_of_four (r : (⟨4, ![n0, n1, n2, n3]⟩ : Shape).ReducesTo [0, 2] ⟨2, ![n1, n3]⟩)
    (v : (⟨4, ![n0, n1, n2, n3]⟩ : Shape).Idx → EReal) (init : EReal) (h : Fin n1) (k : Fin n3) :
    Ideal.hostReduceAdd r v init (ix2 h k) = init + ∑ a : Fin n0, ∑ b : Fin n2, v (ix4 a h b k) := by
  refine congrArg (init + ·) ?_
  refine (Finset.sum_filter_eq_sum_of_fiber _ (fun p : Fin n0 × Fin n2 => ix4 p.1 h p.2 k)
    (fun _ _ e => Prod.ext (congrFun e 0) (congrFun e 2)) (drop_zero_two_of_four r h k) v).trans ?_
  rw [Fintype.sum_prod_type]

end Cert.Proof

end
-- ==== Proof.ConvRef.lean ====
/- What the reference of the convolution's gradient computes, stage by stage. -/
module

public import proofs.«01_k».proof.Proof.Gen.ConvRefIdeal.Read
public import proofs.«01_k».proof.Proof.ConvMath
public import proofs.«01_k».proof.Proof.HostSum

@[expose] public section

set_option maxRecDepth 16384

noncomputable section

namespace Cert.Proof.Conv

open Cert.ConvRefIdeal Cert.ConvRefIdeal.Gen Cert.ConvRefIdeal.Read Idealize.ShloMosaic Idealize.ShloMosaic.TcCoe Idealize.SL.Sem Idealize.ShloMosaic.StableHlo

variable (z : Z) (w : W) (dy : Y) (b : Fin 2) (r : Fin 4352) (k : Fin 1024)

theorem ref_prod : val_main_v4 (F := Ideal) z (ix3 b r k) = prod z b k r := by
  pointwise [val_main_v4, val_main_v3, val_main_v2, val_main_v0]
  rfl

theorem ref_before : val_main_v8 (F := Ideal) z (ix3 b r k) = before (prod z b k) r := by
  pointwise [val_main_v8, val_main_v7, val_main_v6, val_main_v5, val_main_cst]
  simp only [ref_prod, before]
  repeat' split
  all_goals first | rfl | (exfalso; omega) | (refine congrArg _ (Fin.ext ?_); dsimp only; omega)

theorem ref_after : val_main_v13 (F := Ideal) z (ix3 b r k) = after (prod z b k) r := by
  pointwise [val_main_v13, val_main_v12, val_main_v11, val_main_v10, val_main_v9, val_main_v5, val_main_cst, val_main_cst_0, val_main_cst_1]
  simp only [ref_prod, after]
  repeat' split
  all_goals first | rfl | (exfalso; omega) | (refine congrArg _ (Fin.ext ?_); dsimp only; omega)

theorem ref_conv : val_main_v32 (F := Ideal) z w (ix3 b r k) = conv z w b k r := by
  pointwise [val_main_v32, val_main_v31, val_main_v30, val_main_v29, val_main_v28, val_main_v27, val_main_v26, val_main_v25, val_main_v24, val_main_v23, val_main_v22, val_main_v21, val_main_v20, val_main_v19, val_main_v18, val_main_v17, val_main_v16]
  simp only [ref_prod, ref_before, ref_after]
  rfl

theorem ref_dconv : val_main_v35 (F := Ideal) z dy (ix3 b r k) = dconv z dy b k r := by
  pointwise [val_main_v35, val_main_v34, val_main_v1, val_main_v0]
  exact mul_comm _ _

theorem ref_tap0 : val_main_v55 (F := Ideal) z w dy (ix3 b r k) = w (ix2 0 k) * dconv z dy b k r := by
  pointwise [val_main_v55, val_main_v54, val_main_v18, val_main_v17, val_main_v16]
  rw [ref_dconv]

theorem ref_tap1 : val_main_v46 (F := Ideal) z w dy (ix3 b r k) = w (ix2 1 k) * dconv z dy b k r := by
  pointwise [val_main_v46, val_main_v45, val_main_v23, val_main_v22, val_main_v21]
  rw [ref_dconv]

theorem ref_tap2 : val_main_v38 (F := Ideal) z w dy (ix3 b r k) = w (ix2 2 k) * dconv z dy b k r := by
  pointwise [val_main_v38, val_main_v37, val_main_v29, val_main_v28, val_main_v27]
  rw [ref_dconv]

theorem ref_dprod : val_main_v78 (F := Ideal) z w dy (ix3 b r k) = dprod z w dy b k r := by
  pointwise [val_main_v78, val_main_v77, val_main_v76, val_main_v75, val_main_v74, val_main_v72, val_main_v70, val_main_v69, val_main_v68, val_main_v67, val_main_v65, val_main_v63,
    val_main_cst_13, val_main_cst_14, val_main_cst_15, val_main_cst_16]
  simp only [ref_tap0, ref_tap1, ref_tap2, dprod, before, after]
  repeat' split
  all_goals first | (exfalso; omega) | (
    (try simp only [add_zero, zero_add, mul_zero]); (try simp only [show 256 + (r.val - 257) = r.val - 1 by omega])
    (try simp only [show 257 + (r.val - 256) = r.val + 1 by omega]); (try simp only [Nat.add_comm 1 r.val]); (try ac_rfl))

theorem ref_gradZ (k : Fin 3072) : val_main_v82 (F := Ideal) z w dy (ix3 b r k) = gradZ z w dy b r k := by
  pointwise [val_main_v82, val_main_v81, val_main_v80, val_main_v79, val_main_v36, val_main_v34, val_main_v2, val_main_v3, val_main_v0]
  simp only [ref_dprod, ref_conv, gradZ, facC, facV]
  repeat' split
  all_goals first | rfl | (exfalso; omega) | (simp only [Nat.sub_sub, Nat.reduceAdd]; exact mul_comm _ _)

theorem ref_sum0 : val_main_v57 (F := Ideal) z dy (ix1 k) = ∑ b : Fin 2, ∑ r : Fin 4352, dconv z dy b k r * before (prod z b k) r := by
  unfold val_main_v57
  refine (Cert.Proof.hostSum_first_two _ _ _ k).trans ?_
  refine Eq.trans (congrArg (· + _) (show _ = (0 : EReal) by pointwise [val_main_cst_10])) ?_
  rw [zero_add]
  refine Finset.sum_congr rfl fun b _ => Finset.sum_congr rfl fun r _ => ?_
  pointwise [val_main_v56]
  rw [ref_dconv, ref_before]

theorem ref_sum1 : val_main_v48 (F := Ideal) z dy (ix1 k) = ∑ b : Fin 2, ∑ r : Fin 4352, dconv z dy b k r * prod z b k r := by
  unfold val_main_v48
  refine (Cert.Proof.hostSum_first_two _ _ _ k).trans ?_
  refine Eq.trans (congrArg (· + _) (show _ = (0 : EReal) by pointwise [val_main_cst_7])) ?_
  rw [zero_add]
  refine Finset.sum_congr rfl fun b _ => Finset.sum_congr rfl fun r _ => ?_
  pointwise [val_main_v47]
  rw [ref_dconv, ref_prod]

theorem ref_sum2 : val_main_v40 (F := Ideal) z dy (ix1 k) = ∑ b : Fin 2, ∑ r : Fin 4352, dconv z dy b k r * after (prod z b k) r := by
  unfold val_main_v40
  refine (Cert.Proof.hostSum_first_two _ _ _ k).trans ?_
  refine Eq.trans (congrArg (· + _) (show _ = (0 : EReal) by pointwise [val_main_cst_4])) ?_
  rw [zero_add]
  refine Finset.sum_congr rfl fun b _ => Finset.sum_congr rfl fun r _ => ?_
  pointwise [val_main_v39]
  rw [ref_dconv, ref_after]

/-- The second host sum runs over axes of extent one. -/
theorem ref_row0 : val_main_v59 (F := Ideal) z dy (ix1 k) = val_main_v57 (F := Ideal) z dy (ix1 k) := by
  unfold val_main_v59
  refine (Cert.Proof.hostSum_first_two _ _ _ k).trans ?_
  refine Eq.trans (congrArg (· + _) (show _ = (0 : EReal) by pointwise [val_main_cst_11])) ?_
  rw [zero_add, Fin.sum_univ_one, Fin.sum_univ_one, val_main_v58_apply]
  exact congrArg _ (funext fun a => match a with | ⟨0, _⟩ => Fin.ext (by show (0 * 1 + 0) * 1024 + k.val = k.val; omega))

theorem ref_row1 : val_main_v50 (F := Ideal) z dy (ix1 k) = val_main_v48 (F := Ideal) z dy (ix1 k) := by
  unfold val_main_v50
  refine (Cert.Proof.hostSum_first_two _ _ _ k).trans ?_
  refine Eq.trans (congrArg (· + _) (show _ = (0 : EReal) by pointwise [val_main_cst_8])) ?_
  rw [zero_add, Fin.sum_univ_one, Fin.sum_univ_one, val_main_v49_apply]
  exact congrArg _ (funext fun a => match a with | ⟨0, _⟩ => Fin.ext (by show (0 * 1 + 0) * 1024 + k.val = k.val; omega))

theorem ref_row2 : val_main_v42 (F := Ideal) z dy (ix1 k) = val_main_v40 (F := Ideal) z dy (ix1 k) := by
  unfold val_main_v42
  refine (Cert.Proof.hostSum_first_two _ _ _ k).trans ?_
  refine Eq.trans (congrArg (· + _) (show _ = (0 : EReal) by pointwise [val_main_cst_5])) ?_
  rw [zero_add, Fin.sum_univ_one, Fin.sum_univ_one, val_main_v41_apply]
  exact congrArg _ (funext fun a => match a with | ⟨0, _⟩ => Fin.ext (by show (0 * 1 + 0) * 1024 + k.val = k.val; omega))

theorem ref_gradW (j : Fin 3) : val_main_v62 (F := Ideal) z dy (ix2 j k) = gradW z dy j k := by
  pointwise [val_main_v62, val_main_v61, val_main_v60, val_main_v53, val_main_v52, val_main_v51, val_main_v44, val_main_v43, val_main_cst_6, val_main_cst_9, val_main_cst_12]
  simp only [ref_row0, ref_row1, ref_row2, ref_sum0, ref_sum1, ref_sum2]
  fin_cases j
  all_goals simp [gradW, tapped]

end Cert.Proof.Conv

end
-- ==== Proof.Products.lean ====
/- The three products of a linear layer and of its gradient, as formulas over the extended reals. -/
module

public import Idealize.ShloMosaic.Lib.Pipeline.ValueKit

@[expose] public section

noncomputable section

namespace Cert.Proof

open Idealize.ShloMosaic

/-- A matrix of `m` rows and `n` columns. -/
abbrev Mat (m n : ℕ) : Type := (⟨2, ![m, n]⟩ : Shape).Idx → EReal

/-- The layer itself: `x w`. -/
def apply {m k n : ℕ} (x : Mat m k) (w : Mat k n) : Mat m n := fun i => ∑ l : Fin k, x (ix2 (i 0) l) * w (ix2 l (i 1))

/-- The gradient of the layer's operand: `dy wᵀ`. -/
def applyT {m k n : ℕ} (dy : Mat m n) (w : Mat k n) : Mat m k := fun i => ∑ l : Fin n, dy (ix2 (i 0) l) * w (ix2 (i 1) l)

/-- The gradient of the layer's weight: `xᵀ dy`. -/
def outer {m k n : ℕ} (x : Mat m k) (dy : Mat m n) : Mat k n := fun i => ∑ r : Fin m, x (ix2 r (i 0)) * dy (ix2 r (i 1))

/-- The squared rectifier, entry by entry. -/
def relu2 {m n : ℕ} (u : Mat m n) : Mat m n := fun i => max (u i) 0 * max (u i) 0

/-- The number two, as the literal that both programs write. -/
abbrev two : EReal := Ideal.ofBits .f32 0x40000000#32

/-- The squared rectifier's derivative. -/
def relu2' {m n : ℕ} (u : Mat m n) : Mat m n := fun i => two * max (u i) 0

/-- The product entry by entry. -/
def times {m n : ℕ} (a b : Mat m n) : Mat m n := fun i => a i * b i

/-! A product of blocks is the block of the product. -/

theorem apply_congr {m k n m' n' : ℕ} {x : Mat m k} {w : Mat k n} {x' : Mat m' k} {w' : Mat k n'} {i : (⟨2, ![m, n]⟩ : Shape).Idx}
    {i' : (⟨2, ![m', n']⟩ : Shape).Idx} (hx : ∀ l : Fin k, x (ix2 (i 0) l) = x' (ix2 (i' 0) l))
    (hw : ∀ l : Fin k, w (ix2 l (i 1)) = w' (ix2 l (i' 1))) : apply x w i = apply x' w' i' :=
  Finset.sum_congr rfl fun l _ => by rw [hx, hw]

theorem applyT_congr {m k n m' k' : ℕ} {dy : Mat m n} {w : Mat k n} {dy' : Mat m' n} {w' : Mat k' n} {i : (⟨2, ![m, k]⟩ : Shape).Idx}
    {i' : (⟨2, ![m', k']⟩ : Shape).Idx} (hy : ∀ l : Fin n, dy (ix2 (i 0) l) = dy' (ix2 (i' 0) l))
    (hw : ∀ l : Fin n, w (ix2 (i 1) l) = w' (ix2 (i' 1) l)) : applyT dy w i = applyT dy' w' i' :=
  Finset.sum_congr rfl fun l _ => by rw [hy, hw]

/-- The rows of the weight's gradient may be summed in `J` stretches of `h`. -/
theorem outer_stretches {m k n k' n' J h : ℕ} {X : Fin J → Mat h k'} {Y : Fin J → Mat h n'} {x : Mat m k} {y : Mat m n}
    {i : (⟨2, ![k', n']⟩ : Shape).Idx} {i' : (⟨2, ![k, n]⟩ : Shape).Idx} (hm : m = J * h)
    (hx : ∀ (s : Fin J) (r : Fin h) (hl : s.val * h + r.val < m), X s (ix2 r (i 0)) = x (ix2 ⟨s.val * h + r.val, hl⟩ (i' 0)))
    (hy : ∀ (s : Fin J) (r : Fin h) (hl : s.val * h + r.val < m), Y s (ix2 r (i 1)) = y (ix2 ⟨s.val * h + r.val, hl⟩ (i' 1))) :
    ∑ s : Fin J, outer (X s) (Y s) i = outer x y i' :=
  Fin.sum_mul_add_congr (fun s r hl => by rw [hx s r hl, hy s r hl]) hm

end Cert.Proof

end
-- ==== Proof.MlpRef.lean ====
/- The reference's four results: the multilayer perceptron and the three gradients of its derivative. -/
module

public import proofs.«01_k».proof.Proof.Gen.MlpRefIdeal.Read
public import proofs.«01_k».proof.Proof.Products
public import Idealize.ShloMosaic.Lib.Pipeline.ValueKit

@[expose] public section

set_option maxRecDepth 16384

noncomputable section

namespace Cert.Proof.Mlp

open Cert.MlpRefIdeal Cert.MlpRefIdeal.Read Idealize.ShloMosaic Idealize.ShloMosaic.TcCoe Idealize.SL.Sem

variable (h : Mat 8704 1024) (w1 : Mat 1024 4096) (w2 : Mat 4096 1024) (dy : Mat 8704 1024)

/-- The hidden layer's operand. -/
abbrev hidden : Mat 8704 4096 := apply h w1
/-- Its gradient. -/
abbrev dhidden : Mat 8704 4096 := times (applyT dy w2) (relu2' (hidden h w1))

theorem ref_hidden (i : S8704x4096.Idx) : val_main_v3 (F := Ideal) h w1 i = hidden h w1 i := by
  pointwise [val_main_v3, val_main_v0, val_main_v1]
  rfl

theorem ref_relu2 (i : S8704x4096.Idx) : val_main_v8 (F := Ideal) h w1 i = relu2 (hidden h w1) i := by
  pointwise [val_main_v8, val_main_v4, val_main_call0_v0, val_main_call0_cst]
  rw [ref_hidden]; rfl

theorem ref_y : val_main_v22 (F := Ideal) h w1 w2 = apply (relu2 (hidden h w1)) w2 := by
  funext i
  pointwise [val_main_v22, val_main_v11, val_main_v2]
  exact Finset.sum_congr rfl fun l _ => by rw [ref_relu2]

/-- The mask of the rectifier's derivative selects nothing but zeros. -/
theorem masked (a u : EReal) : (if 0 < u then a * (two * max u 0) else 0) = a * (two * max u 0) := by
  by_cases hu : 0 < u
  · rw [if_pos hu]
  · rw [if_neg hu, max_eq_right (not_lt.mp hu), mul_zero, mul_zero]

theorem ref_dhidden (i : S8704x4096.Idx) : val_main_v18 (F := Ideal) h w1 w2 dy i = dhidden h w1 w2 dy i := by
  pointwise [val_main_v18, val_main_v6, val_main_v5, val_main_cst, val_main_v16, val_main_v15, val_main_v12, val_main_v2, val_main_v10,
    val_main_v9, val_main_cst_1, val_main_v4, val_main_call0_v0, val_main_call0_cst, val_main_v17, val_main_cst_2]
  rw [ref_hidden]; exact masked _ _

theorem ref_dh : val_main_v23 (F := Ideal) h w1 w2 dy = applyT (dhidden h w1 w2 dy) w1 := by
  funext i
  pointwise [val_main_v23, val_main_v21, val_main_v1]
  exact Finset.sum_congr rfl fun l _ => by rw [ref_dhidden]

theorem ref_dw1 : val_main_v20 (F := Ideal) h w1 w2 dy = outer h (dhidden h w1 w2 dy) := by
  funext i
  pointwise [val_main_v20, val_main_v19, val_main_v0]
  exact Finset.sum_congr rfl fun l _ => by rw [ref_dhidden, mul_comm]

theorem ref_dw2 : val_main_v14 (F := Ideal) h w1 dy = outer (relu2 (hidden h w1)) dy := by
  funext i
  pointwise [val_main_v14, val_main_v13, val_main_v12]
  exact Finset.sum_congr rfl fun l _ => by rw [ref_relu2, mul_comm]

end Cert.Proof.Mlp

end
-- ==== Proof.MlpValue.lean ====
/- What each of the multilayer perceptron's six calls leaves in its result, whatever its arguments' arrays hold. -/
module

public import proofs.«01_k».proof.Proof.Gen.MlpIdeal.Frame
public import proofs.«01_k».proof.Proof.Products
public import Idealize.ShloMosaic.Lib.Pipeline.ValueKit
public import Idealize.ShloMosaic.Lib.Pipeline.ReadBack

@[expose] public section

set_option maxRecDepth 16384

noncomputable section

namespace Cert.Proof.Mlp

open Cert.MlpIdeal Cert.MlpIdeal.Gen Idealize.ShloMosaic Idealize.ShloMosaic.TcCoe Idealize.SL.Sem

variable (V : (c : Dev nD) → (b : Ref sig .tc) → Buf (Elt Ideal) ((c : Thread nD τ).loc b)) (c : Dev nD)

/-! The hidden layer's operand: tiles of 1088 rows and 2048 columns. -/

theorem idx0 : ∀ t : Fin cfg0.N, win0_0.index t = ![t.val % 8, 0] ∧ win0_1.index t = ![0, t.val / 8] ∧ win0_2.index t = ![t.val % 8, t.val / 8] :=
  (by decide +kernel : ∀ t : Fin grid0.N, _)

theorem pay0 (x : Mat 1088 1024) (w : Mat 1024 2048) (i : S1088x2048.Idx) : k0_pay1 (F := Ideal) x w i = apply x w i := by
  pointwise [k0_pay1]
  rfl

theorem value0 : (dat0 V c).arrAt 2 cfg0.N = apply (m := 8704) (k := 1024) (n := 4096) (V c main_arg0) (V c main_arg1) := by
  refine (dat0 V c).arrAt_eq_of_covers 2 _ (by decide +kernel) fun t _ y => ?_
  blk_simp
  rw [after0_2]; unfold out0_2; frame_out
  rw [pay0]
  refine apply_congr (fun l => ?_) fun l => ?_
  · blk_ext [iblk0, idx0 t]
  · blk_ext [iblk0, idx0 t]

/-! The result: tiles of 1088 rows and 512 columns, the rectifier applied on the way. -/

theorem idx1 : ∀ t : Fin cfg1.N, win1_0.index t = ![t.val % 8, 0] ∧ win1_1.index t = ![0, t.val / 8] ∧ win1_2.index t = ![t.val % 8, t.val / 8] :=
  (by decide +kernel : ∀ t : Fin grid1.N, _)

theorem pay1 (x : Mat 1088 4096) (w : Mat 4096 512) (i : S1088x512.Idx) : k1_pay1 (F := Ideal) x w i = apply (relu2 x) w i := by
  pointwise [k1_pay1]
  rfl

theorem value1 : (dat1 V c).arrAt 2 cfg1.N = apply (m := 8704) (k := 4096) (n := 1024) (relu2 (V c main_v0)) (V c main_arg2) := by
  refine (dat1 V c).arrAt_eq_of_covers 2 _ (by decide +kernel) fun t _ y => ?_
  blk_simp
  rw [after1_2]; unfold out1_2; frame_out
  rw [pay1]
  refine apply_congr (fun l => congrArg (fun u : EReal => max u 0 * max u 0) ?_) fun l => ?_
  · blk_ext [iblk1, idx1 t]
  · blk_ext [iblk1, idx1 t]

/-! The gradient of the hidden layer's operand: tiles of 544 rows. -/

theorem idx2 : ∀ t : Fin cfg2.N, win2_0.index t = ![t.val, 0] ∧ win2_1.index t = ![0, 0] ∧ win2_2.index t = ![t.val, 0] ∧ win2_3.index t = ![t.val, 0] :=
  (by decide +kernel : ∀ t : Fin grid2.N, _)

theorem pay2 (dy : Mat 544 1024) (w : Mat 4096 1024) (u : Mat 544 4096) (i : S544x4096.Idx) :
    k2_pay1 (F := Ideal) dy w u i = times (applyT dy w) (relu2' u) i := by
  pointwise [k2_pay1]
  rfl

theorem value2 : (dat2 V c).arrAt 3 cfg2.N = times (applyT (m := 8704) (k := 4096) (n := 1024) (V c main_arg3) (V c main_arg2)) (relu2' (V c main_v0)) := by
  refine (dat2 V c).arrAt_eq_of_covers 3 _ (by decide +kernel) fun t _ y => ?_
  blk_simp
  rw [after2_3]; unfold out2_3; frame_out
  rw [pay2]
  refine congrArg₂ (fun a b : EReal => a * b) (applyT_congr (fun l => ?_) fun l => ?_) (congrArg (fun u : EReal => two * max u 0) ?_)
  · blk_ext [iblk2, idx2 t]
  · blk_ext [iblk2, idx2 t]
  · blk_ext [iblk2, idx2 t]

/-! The gradient of the second weight: blocks of 1024 rows, summed over eight stretches of 1088 tokens. -/

theorem idx3 : ∀ t : Fin cfg3.N, win3_0.index t = ![t.val % 8, t.val / 8] ∧ win3_1.index t = ![t.val % 8, 0] ∧ win3_2.index t = ![t.val / 8, 0] :=
  (by decide +kernel : ∀ t : Fin grid3.N, _)

theorem zero3 (i : S1024x1024.Idx) : k3_pay1 (F := Ideal) i = 0 := by pointwise [k3_pay1]

theorem pay3 (x : Mat 1088 1024) (a : Mat 1024 1024) (y : Mat 1088 1024) (i : S1024x1024.Idx) :
    k3_pay2 (F := Ideal) x a y i = a i + outer (relu2 x) y i := by
  pointwise [k3_pay2]
  rfl

theorem value3 : (dat3 V c).arrAt 2 cfg3.N = outer (m := 8704) (k := 4096) (n := 1024) (relu2 (V c main_v0)) (V c main_arg3) := by
  refine (dat3 V c).arrAt_eq_of_covers 2 _ (by decide +kernel) fun t hf y => ?_
  blk_simp
  rw [after3_2, Pipeline.eq_sum_fin_of_reset_step_apply_of_flush (fun n h => outsAt3 V c n h) 8 (fun _ => 0)
    (fun p => outer (m := 1088) (k := 1024) (n := 1024) (relu2 (iblk3 V c 0 p)) (iblk3 V c 1 p))
    (fun t h j => by rw [outsAt3_A V c t h]; frame_out; rw [pay3]; rw [zero3])
    (fun t h j => by rw [outsAt3_B V c t h]; frame_out; rw [pay3]) t ((flush3_2 t).mp hf) _, zero_add]
  refine outer_stretches rfl (fun s r hl => congrArg (fun u : EReal => max u 0 * max u 0) ?_) fun s r hl => ?_
  · blk_ext [iblk3, idx3 t, idx3 ⟨_, Pipeline.run_point_lt_of_flush t ((flush3_2 t).mp hf) s⟩]
  · blk_ext [iblk3, idx3 t, idx3 ⟨_, Pipeline.run_point_lt_of_flush t ((flush3_2 t).mp hf) s⟩]

/-! The gradient of the argument: tiles of 544 rows. -/

theorem idx4 : ∀ t : Fin cfg4.N, win4_0.index t = ![t.val, 0] ∧ win4_1.index t = ![0, 0] ∧ win4_2.index t = ![t.val, 0] ∧ win4_3.index t = ![t.val, 0] :=
  (by decide +kernel : ∀ t : Fin grid4.N, _)

theorem pay4 (dy : Mat 544 4096) (w : Mat 1024 4096) (i : S544x1024.Idx) : k4_pay1 (F := Ideal) dy w i = applyT dy w i := by
  pointwise [k4_pay1]
  rfl

theorem value4 : (dat4 V c).arrAt 3 cfg4.N = applyT (m := 8704) (k := 1024) (n := 4096) (V c main_v2) (V c main_arg1) := by
  refine (dat4 V c).arrAt_eq_of_covers 3 _ (by decide +kernel) fun t _ y => ?_
  blk_simp
  rw [after4_3]; unfold out4_3; frame_out
  rw [pay4]
  refine applyT_congr (fun l => ?_) fun l => ?_
  · blk_ext [iblk4, idx4 t]
  · blk_ext [iblk4, idx4 t]

/-! The gradient of the first weight: blocks of 1024 columns, summed over eight stretches of 1088 tokens. -/

theorem idx5 : ∀ t : Fin cfg5.N, win5_0.index t = ![t.val % 8, 0] ∧ win5_1.index t = ![t.val % 8, t.val / 8] ∧ win5_2.index t = ![0, t.val / 8] :=
  (by decide +kernel : ∀ t : Fin grid5.N, _)

theorem zero5 (i : S1024x1024.Idx) : k5_pay1 (F := Ideal) i = 0 := by pointwise [k5_pay1]

theorem pay5 (x : Mat 1088 1024) (a : Mat 1024 1024) (y : Mat 1088 1024) (i : S1024x1024.Idx) :
    k5_pay2 (F := Ideal) x a y i = a i + outer x y i := by
  pointwise [k5_pay2]
  rfl

theorem value5 : (dat5 V c).arrAt 2 cfg5.N = outer (m := 8704) (k := 1024) (n := 4096) (V c main_arg0) (V c main_v2) := by
  refine (dat5 V c).arrAt_eq_of_covers 2 _ (by decide +kernel) fun t hf y => ?_
  blk_simp
  rw [after5_2, Pipeline.eq_sum_fin_of_reset_step_apply_of_flush (fun n h => outsAt5 V c n h) 8 (fun _ => 0)
    (fun p => outer (m := 1088) (k := 1024) (n := 1024) (iblk5 V c 0 p) (iblk5 V c 1 p))
    (fun t h j => by rw [outsAt5_A V c t h]; frame_out; rw [pay5]; rw [zero5])
    (fun t h j => by rw [outsAt5_B V c t h]; frame_out; rw [pay5]) t ((flush5_2 t).mp hf) _, zero_add]
  refine outer_stretches rfl (fun s r hl => ?_) fun s r hl => ?_
  · blk_ext [iblk5, idx5 t, idx5 ⟨_, Pipeline.run_point_lt_of_flush t ((flush5_2 t).mp hf) s⟩]
  · blk_ext [iblk5, idx5 t, idx5 ⟨_, Pipeline.run_point_lt_of_flush t ((flush5_2 t).mp hf) s⟩]

end Cert.Proof.Mlp

end
-- ==== Proof.MlpRun.lean ====
/- The multilayer perceptron's run: its six calls one after the other, and what its four results hold at the end. -/
module

public import proofs.«01_k».proof.Proof.MlpValue

@[expose] public section

set_option maxRecDepth 16384

noncomputable section

namespace Cert.Proof.Mlp

open Cert.MlpIdeal Cert.MlpIdeal.Gen Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds

/-- The resources the launch hands out. -/
abbrev Res := MT nD τ sig Unit (Elt Ideal) ℕ (UR sig nD τ) ℕ

variable (m : (ℓ : Loc nD τ sig) → Buf (Elt Ideal) ℓ) (ρ : Dev nD → PrngReg) (c : Dev nD)

abbrev argH : Mat 8704 1024 := m ((c : Thread nD τ).loc main_arg0)
abbrev argW1 : Mat 1024 4096 := m ((c : Thread nD τ).loc main_arg1)
abbrev argW2 : Mat 4096 1024 := m ((c : Thread nD τ).loc main_arg2)
abbrev argDy : Mat 8704 1024 := m ((c : Thread nD τ).loc main_arg3)

/-- The hidden layer's operand. -/
abbrev kHidden : Mat 8704 4096 := apply (argH m c) (argW1 m c)
/-- Its gradient. -/
abbrev kDhidden : Mat 8704 4096 := times (applyT (argDy m c) (argW2 m c)) (relu2' (kHidden m c))

theorem hidden1 : V1 m ρ c main_v0 = kHidden m c := (W1_arr m ρ c 2).trans (value0 _ c)
theorem hidden2 : V2 m ρ c main_v0 = kHidden m c := (W2_of m ρ c main_v0 (by decide)).trans (hidden1 m ρ c)
theorem hidden3 : V3 m ρ c main_v0 = kHidden m c := (W3_of m ρ c main_v0 (by decide)).trans (hidden2 m ρ c)
theorem dhidden3 : V3 m ρ c main_v2 = kDhidden m c := by
  refine (W3_arr m ρ c 3).trans ((value2 _ c).trans ?_)
  rw [hidden2, show V2 m ρ c main_arg3 = argDy m c from W2_args m ρ c _ (by decide), show V2 m ρ c main_arg2 = argW2 m c from W2_args m ρ c _ (by decide)]
theorem dhidden4 : V4 m ρ c main_v2 = kDhidden m c := (W4_of m ρ c main_v2 (by decide)).trans (dhidden3 m ρ c)
theorem dhidden5 : V5 m ρ c main_v2 = kDhidden m c := (W5_of m ρ c main_v2 (by decide)).trans (dhidden4 m ρ c)

/-- The layer's result. -/
theorem final_y : V6 m ρ c main_v1 = apply (relu2 (kHidden m c)) (argW2 m c) := by
  refine (W6_of m ρ c main_v1 (by decide)).trans ((W5_of m ρ c main_v1 (by decide)).trans ((W4_of m ρ c main_v1 (by decide)).trans
    ((W3_of m ρ c main_v1 (by decide)).trans ((W2_arr m ρ c 2).trans ((value1 _ c).trans ?_)))))
  rw [hidden1, show V1 m ρ c main_arg2 = argW2 m c from W1_args m ρ c _ (by decide)]

/-- The gradient of its argument. -/
theorem final_dh : V6 m ρ c main_v4 = applyT (kDhidden m c) (argW1 m c) := by
  refine (W6_of m ρ c main_v4 (by decide)).trans ((W5_arr m ρ c 3).trans ((value4 _ c).trans ?_))
  rw [dhidden4, show V4 m ρ c main_arg1 = argW1 m c from W4_args m ρ c _ (by decide)]

/-- The gradient of the first weight. -/
theorem final_dw1 : V6 m ρ c main_v5 = outer (argH m c) (kDhidden m c) := by
  refine (W6_arr m ρ c 2).trans ((value5 _ c).trans ?_)
  rw [dhidden5, show V5 m ρ c main_arg0 = argH m c from W5_args m ρ c _ (by decide)]

/-- The gradient of the second weight. -/
theorem final_dw2 : V6 m ρ c main_v3 = outer (relu2 (kHidden m c)) (argDy m c) := by
  refine (W6_of m ρ c main_v3 (by decide)).trans ((W5_of m ρ c main_v3 (by decide)).trans ((W4_arr m ρ c 2).trans ((value3 _ c).trans ?_)))
  rw [hidden3, show V3 m ρ c main_arg3 = argDy m c from W3_args m ρ c _ (by decide)]

-- the launch's implicit arguments are found by unifying its conclusion with this one
set_option backward.isDefEq.respectTransparency.types false in
/-- Every run of the six calls ends, with the results and the arguments at the last boundary's contents. -/
theorem run : θ_run defs (onTc (τ := τ) (main (F := Ideal))) ⟨m, fun _ => 0, ρ⟩ (fun r => ∀ c : Dev nD,
      r.2.mem ((c.tc : Thread nD τ).loc main_v1) = V6 m ρ c main_v1
      ∧ r.2.mem ((c.tc : Thread nD τ).loc main_v4) = V6 m ρ c main_v4
      ∧ r.2.mem ((c.tc : Thread nD τ).loc main_v5) = V6 m ρ c main_v5
      ∧ r.2.mem ((c.tc : Thread nD τ).loc main_v3) = V6 m ρ c main_v3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v1 (by decide)), h c _ (mem_uc main_v4 (by decide)), h c _ (mem_uc main_v5 (by decide)),
       h c _ (mem_uc main_v3 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

end Cert.Proof.Mlp

end
-- ==== Proof.LinearRef.lean ====
/- The reference's results: each of the four projections, and its derivative's two gradients. -/
module

public import proofs.«01_k».proof.Proof.Gen.LinearRefIdeal.Read
public import proofs.«01_k».proof.Proof.Products
public import Idealize.ShloMosaic.Lib.Pipeline.ValueKit

@[expose] public section

set_option maxRecDepth 16384

noncomputable section

namespace Cert.Proof.Linear

open Cert.LinearRefIdeal Cert.LinearRefIdeal.Read Idealize.ShloMosaic Idealize.ShloMosaic.TcCoe Idealize.SL.Sem

variable (h : Mat 8704 1024)

/-! 3072 columns. -/
section
variable (w : Mat 1024 3072) (dy : Mat 8704 3072)

theorem ref_y3 : val_main_v7 (F := Ideal) h w = apply h w := by
  funext i; pointwise [val_main_v7, val_main_v2, val_main_v0, val_main_v1]; rfl
theorem ref_dx3 : val_main_v8 (F := Ideal) w dy = applyT dy w := by
  funext i; pointwise [val_main_v8, val_main_v6, val_main_v3, val_main_v1]; rfl
theorem ref_dw3 : val_main_v5 (F := Ideal) h dy = outer h dy := by
  funext i; pointwise [val_main_v5, val_main_v4, val_main_v3, val_main_v0]; exact Finset.sum_congr rfl fun l _ => mul_comm _ _
end

/-! 1024 columns. -/
section
variable (w : Mat 1024 1024) (dy : Mat 8704 1024)

theorem ref_y1 : val_main_v16 (F := Ideal) h w = apply h w := by
  funext i; pointwise [val_main_v16, val_main_v11, val_main_v9, val_main_v10]; rfl
theorem ref_dx1 : val_main_v17 (F := Ideal) w dy = applyT dy w := by
  funext i; pointwise [val_main_v17, val_main_v15, val_main_v12, val_main_v10]; rfl
theorem ref_dw1 : val_main_v14 (F := Ideal) h dy = outer h dy := by
  funext i; pointwise [val_main_v14, val_main_v13, val_main_v12, val_main_v9]; exact Finset.sum_congr rfl fun l _ => mul_comm _ _
end

/-! 5120 columns. -/
section
variable (w : Mat 1024 5120) (dy : Mat 8704 5120)

theorem ref_y5 : val_main_v25 (F := Ideal) h w = apply h w := by
  funext i; pointwise [val_main_v25, val_main_v20, val_main_v18, val_main_v19]; rfl
theorem ref_dx5 : val_main_v26 (F := Ideal) w dy = applyT dy w := by
  funext i; pointwise [val_main_v26, val_main_v24, val_main_v21, val_main_v19]; rfl
theorem ref_dw5 : val_main_v23 (F := Ideal) h dy = outer h dy := by
  funext i; pointwise [val_main_v23, val_main_v22, val_main_v21, val_main_v18]; exact Finset.sum_congr rfl fun l _ => mul_comm _ _
end

/-! 2048 columns. -/
section
variable (w : Mat 1024 2048) (dy : Mat 8704 2048)

theorem ref_y2 : val_main_v34 (F := Ideal) h w = apply h w := by
  funext i; pointwise [val_main_v34, val_main_v29, val_main_v27, val_main_v28]; rfl
theorem ref_dx2 : val_main_v35 (F := Ideal) w dy = applyT dy w := by
  funext i; pointwise [val_main_v35, val_main_v33, val_main_v30, val_main_v28]; rfl
theorem ref_dw2 : val_main_v32 (F := Ideal) h dy = outer h dy := by
  funext i; pointwise [val_main_v32, val_main_v31, val_main_v30, val_main_v27]; exact Finset.sum_congr rfl fun l _ => mul_comm _ _
end

end Cert.Proof.Linear

end
-- ==== Proof.NormCases.lean ====
/- The norm's backward body, over any floats: its three conditions, and its run in each of the three cases that occur. -/
module

public import proofs.«01_k».proof.Proof.Gen.NormIdeal.Frame
public import proofs.«01_k».proof.Proof.Gen.NormIdeal.Skeleton
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.NormIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources of the kernel's program. -/
abbrev Res (F : FTy → Type) [FloatOps F] := MT nD τ sig Unit (Elt F) ℕ (UR sig nD τ) ℕ

variable (m : (ℓ : Loc nD τ sig) → Buf (Elt F) ℓ) (ρ : Dev nD → PrngReg)

/-- The first condition of the body: the first point of the grid. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 34 = 0 :=
  (fun t => by
    have ht : t.val < 34 := Nat.lt_of_lt_of_eq t.isLt N_0
    have e0 : (grid0.coords t 0).val = t.val / 17 % 2 := Pipeline.Grid.coords_val t 0 (by decide) rfl
    have e1 : (grid0.coords t 1).val = t.val / 1 % 17 := Pipeline.Grid.coords_val t 1 (by decide) rfl
    simp only [cond0_0, e0, e1]
    word_cmp
   : ∀ t : Fin grid0.N, cond0_0 (grid0.coords t) ↔ t.val % 34 = 0)

/-- The second condition: the point's segment begins. -/
abbrev cond0_1 (i : grid0.Coords) : Prop := k0_cond2 i = 1#1
/-- It holds at the first two points of each sequence: the segments' first. -/
theorem hcond0_1 : ∀ t : Fin cfg0.N, cond0_1 (grid0.coords t) ↔ t.val % 17 < 2 :=
  (by decide +kernel : ∀ t : Fin grid0.N, cond0_1 (grid0.coords t) ↔ t.val % 17 < 2)

/-- The third condition: the point adds to its segment. -/
abbrev cond0_2 (i : grid0.Coords) : Prop := k0_cond3 i = 1#1
/-- It holds at the other points of a sequence. -/
theorem hcond0_2 : ∀ t : Fin cfg0.N, cond0_2 (grid0.coords t) ↔ 2 ≤ t.val % 17 :=
  (by decide +kernel : ∀ t : Fin grid0.N, cond0_2 (grid0.coords t) ↔ 2 ≤ t.val % 17)

/-! ## Where the body stores into a window -/

/-- Window 0 is an argument: every point has it. -/
theorem liveAt0_0 : ∀ t : Fin cfg0.N, cfg0.idle 0 (grid0.coords t) = false := fun _ => rfl
/-- Window 1 is an argument: every point has it. -/
theorem liveAt0_1 : ∀ t : Fin cfg0.N, cfg0.idle 1 (grid0.coords t) = false := fun _ => rfl
/-- Window 2 is an argument: every point has it. -/
theorem liveAt0_2 : ∀ t : Fin cfg0.N, cfg0.idle 2 (grid0.coords t) = false := fun _ => rfl
/-- Window 3 is an argument: every point has it. -/
theorem liveAt0_3 : ∀ t : Fin cfg0.N, cfg0.idle 3 (grid0.coords t) = false := fun _ => rfl
/-- The body stores into window 4 at every point. -/
theorem liveAt0_4 : ∀ t : Fin cfg0.N, cfg0.idle 4 (grid0.coords t) = false := fun _ => rfl
/-- The body stores into window 5 at every point. -/
theorem liveAt0_5 : ∀ t : Fin cfg0.N, cfg0.idle 5 (grid0.coords t) = false := fun _ => rfl
/-- Whether window 6's buffer holds no result yet before a point, as a table. -/
def freshTab0_6 : ℕ → Bool
  | 0 => true
  | n + 1 => (0x200030001 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
/-- The body stores into window 6 at the first point of all. -/
theorem liveAt0_6_A : ∀ t : Fin cfg0.N, cond0_0 (grid0.coords t) → cond0_1 (grid0.coords t) → ¬cond0_2 (grid0.coords t) → cfg0.idle 6 (grid0.coords t) = false := by decide +kernel
/-- The body stores into window 6 at a point that adds to its segment. -/
theorem liveAt0_6_B : ∀ t : Fin cfg0.N, ¬cond0_0 (grid0.coords t) → ¬cond0_1 (grid0.coords t) → cond0_2 (grid0.coords t) → cfg0.idle 6 (grid0.coords t) = false := by decide +kernel
/-- Window 6's buffer already holds a result at a point that adds to its segment. -/
theorem notFresh0_6_B : ∀ t : Fin cfg0.N, ¬cond0_0 (grid0.coords t) → ¬cond0_1 (grid0.coords t) → cond0_2 (grid0.coords t) → cfg0.fresh 6 t.val = false := by
  intro t; rw [fresh0_6_eq t]; revert t; decide +kernel
/-- The body stores into window 6 at another point that begins a segment. -/
theorem liveAt0_6_C : ∀ t : Fin cfg0.N, ¬cond0_0 (grid0.coords t) → cond0_1 (grid0.coords t) → ¬cond0_2 (grid0.coords t) → cfg0.idle 6 (grid0.coords t) = false := by decide +kernel

/-! ## The body on any buffers -/

/-- A buffer of window 4. -/
abbrev VO0_4 : View sig .tc .vmem S1x256x1024 .f32 := (Memref.whole cc0_stg4_0 : Memref sig .tc .vmem S1x256x1024 .f32).view
/-- A buffer of window 5. -/
abbrev VO0_5 : View sig .tc .vmem S1x1024 .f32 := (Memref.whole cc0_stg5_0 : Memref sig .tc .vmem S1x1024 .f32).view
/-- A buffer of window 6. -/
abbrev VO0_6 : View sig .tc .vmem S1x1x2x1024 .f32 := (Memref.whole cc0_stg6_0 : Memref sig .tc .vmem S1x1x2x1024 .f32).view
/-- The buffers that the body is called with at a point are whole. -/
abbrev ms0_0 (t : Fin cfg0.N) : Memref sig .tc .vmem S1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2x1024 .f32 := win0_6.stage (cfg0.slots t 6)
abbrev hs0_6 (t : Fin cfg0.N) : (ms0_6 t).IsWhole := hstage0_6 ((cfg0.slots t 6).cast nbuf0_6)

set_option maxHeartbeats 1000000 in
/-- The body's run at the first point of all, over any buffers, with the stores it makes into each window of results. -/
noncomputable def kernelRun0_A (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) :
    Σ' (L4 : List (View.Piece (Elt F) S1x256x1024 .f32)), Σ' (L5 : List (View.Piece (Elt F) S1x1024 .f32)), { L6 : List (View.Piece (Elt F) S1x1x2x1024 .f32) //
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0_pre_bwd i arg2 harg2 arg3 harg3 arg4 harg4 arg5 harg5 arg6 harg6 arg7 harg7 arg8 harg8) K } := by
  refine ⟨?_, ?_, ?_, fun E K => ?run⟩
  case run =>
    simp only [cc0_pre_bwd_eq_skeleton]; unfold cc0_pre_bwd_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

set_option maxHeartbeats 1000000 in
/-- The body's run at a point that adds to its segment, over any buffers, with the stores it makes into each window of results. -/
noncomputable def kernelRun0_B (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : ¬cond0_1 i) (hc2 : cond0_2 i)
    (x0 : Vec F S1x256x1024 .f32) (x1 : Vec F S1x1024 .f32) (x2 : Vec F S1x1x2x1024 .f32) (x3 : Vec F S1x256x1024 .bf16) (xo5 : Vec F S1x1024 .f32) (xo6 : Vec F S1x1x2x1024 .f32) :
    Σ' (L4 : List (View.Piece (Elt F) S1x256x1024 .f32)), Σ' (L5 : List (View.Piece (Elt F) S1x1024 .f32)), { L6 : List (View.Piece (Elt F) S1x1x2x1024 .f32) //
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ owns (c : Thread nD τ) arg8 fullShare xo6
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0_pre_bwd i arg2 harg2 arg3 harg3 arg4 harg4 arg5 harg5 arg6 harg6 arg7 harg7 arg8 harg8) K } := by
  refine ⟨?_, ?_, ?_, fun E K => ?run⟩
  case run =>
    simp only [cc0_pre_bwd_eq_skeleton]; unfold cc0_pre_bwd_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hf6
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

set_option maxHeartbeats 1000000 in
/-- The body's run at another point that begins a segment, over any buffers, with the stores it makes into each window of results. -/
noncomputable def kernelRun0_C (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) (xo5 : Vec F S1x1024 .f32) :
    Σ' (L4 : List (View.Piece (Elt F) S1x256x1024 .f32)), Σ' (L5 : List (View.Piece (Elt F) S1x1024 .f32)), { L6 : List (View.Piece (Elt F) S1x1x2x1024 .f32) //
      ∀ (E : Set ℕ) (K : PUnit → sProp (Res F)),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xo5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6)) -∗ K ⟨⟩))
          ⊢ wp frame (wpE (defs₀ (F := F)) Variants.none c none) E (cc0_pre_bwd i arg2 harg2 arg3 harg3 arg4 harg4 arg5 harg5 arg6 harg6 arg7 harg7 arg8 harg8) K } := by
  refine ⟨?_, ?_, ?_, fun E K => ?run⟩
  case run =>
    simp only [cc0_pre_bwd_eq_skeleton]; unfold cc0_pre_bwd_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg7.eq_unread hf5
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    iexists _; iexact H6

end Cert.NormIdeal.Gen

end
-- ==== Proof.NormFrame.lean ====
/- The norm's backward call, over any floats: what its buffers hold point by point, its run, and the arguments unchanged. -/
module

public import proofs.«01_k».proof.Proof.NormCases
public import Idealize.ShloMosaic.Lib.Claim

@[expose] public section

set_option maxRecDepth 16384

noncomputable section

namespace Cert.NormIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The stores to window 4 at the first point of all cover its block. -/
theorem cover0_A_4 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) (y : S1x256x1024.Idx) :
    ∃ pc ∈ (kernelRun0_A c i arg2 harg2 arg3 harg3 arg4 harg4 arg5 harg5 arg6 harg6 arg7 harg7 arg8 harg8 hc0 hc1 hc2 x0 x1 x2 x3).1, y ∈ pc.1.set :=
  View.cover_of_tiledL (kernelRun0_A c i arg2 harg2 arg3 harg3 arg4 harg4 arg5 harg5 arg6 harg6 arg7 harg7 arg8 harg8 hc0 hc1 hc2 x0 x1 x2 x3).1 S1x256x1024.size (by sl_kernel_rfl) y

/-- What window 4's buffer holds after the body at the first point of all. -/
def out0_A_4 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) : Vec F S1x256x1024 .f32 :=
  VO0_4.read (Elt F) (VO0_4.writes (Elt F) VO0_4.junk (kernelRun0_A c i arg2 harg2 arg3 harg3 arg4 harg4 arg5 harg5 arg6 harg6 arg7 harg7 arg8 harg8 hc0 hc1 hc2 x0 x1 x2 x3).1)

/-- The stores to window 5 at the first point of all cover its block. -/
theorem cover0_A_5 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) (y : S1x1024.Idx) :
    ∃ pc ∈ (kernelRun0_A c i arg2 harg2 arg3 harg3 arg4 harg4 arg5 harg5 arg6 harg6 arg7 harg7 arg8 harg8 hc0 hc1 hc2 x0 x1 x2 x3).2.1, y ∈ pc.1.set :=
  View.cover_of_tiledL (kernelRun0_A c i arg2 harg2 arg3 harg3 arg4 harg4 arg5 harg5 arg6 harg6 arg7 harg7 arg8 harg8 hc0 hc1 hc2 x0 x1 x2 x3).2.1 S1x1024.size (by sl_kernel_rfl) y

/-- What window 5's buffer holds after the body at the first point of all. -/
def out0_A_5 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) : Vec F S1x1024 .f32 :=
  VO0_5.read (Elt F) (VO0_5.writes (Elt F) VO0_5.junk (kernelRun0_A c i arg2 harg2 arg3 harg3 arg4 harg4 arg5 harg5 arg6 harg6 arg7 harg7 arg8 harg8 hc0 hc1 hc2 x0 x1 x2 x3).2.1)

/-- The stores to window 6 at the first point of all cover its block. -/
theorem cover0_A_6 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) (y : S1x1x2x1024.Idx) :
    ∃ pc ∈ (kernelRun0_A c i arg2 harg2 arg3 harg3 arg4 harg4 arg5 harg5 arg6 harg6 arg7 harg7 arg8 harg8 hc0 hc1 hc2 x0 x1 x2 x3).2.2.1, y ∈ pc.1.set :=
  View.cover_of_tiledL (kernelRun0_A c i arg2 harg2 arg3 harg3 arg4 harg4 arg5 harg5 arg6 harg6 arg7 harg7 arg8 harg8 hc0 hc1 hc2 x0 x1 x2 x3).2.2.1 S1x1x1x1024.size (by sl_kernel_rfl) y

/-- What window 6's buffer holds after the body at the first point of all. -/
def out0_A_6 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) : Vec F S1x1x2x1024 .f32 :=
  VO0_6.read (Elt F) (VO0_6.writes (Elt F) VO0_6.junk (kernelRun0_A c i arg2 harg2 arg3 harg3 arg4 harg4 arg5 harg5 arg6 harg6 arg7 harg7 arg8 harg8 hc0 hc1 hc2 x0 x1 x2 x3).2.2.1)

/-- The stores to window 4 at a point that adds to its segment cover its block. -/
theorem cover0_B_4 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : ¬cond0_1 i) (hc2 : cond0_2 i)
    (x0 : Vec F S1x256x1024 .f32) (x1 : Vec F S1x1024 .f32) (x2 : Vec F S1x1x2x1024 .f32) (x3 : Vec F S1x256x1024 .bf16) (xo5 : Vec F S1x1024 .f32) (xo6 : Vec F S1x1x2x1024 .f32) (y : S1x256x1024.Idx) :
    ∃ pc ∈ (kernelRun0_B c i arg2 harg2 arg3 harg3 arg4 harg4 arg5 harg5 arg6 harg6 arg7 harg7 arg8 harg8 hc0 hc1 hc2 x0 x1 x2 x3 xo5 xo6).1, y ∈ pc.1.set :=
  View.cover_of_tiledL (kernelRun0_B c i arg2 harg2 arg3 harg3 arg4 harg4 arg5 harg5 arg6 harg6 arg7 harg7 arg8 harg8 hc0 hc1 hc2 x0 x1 x2 x3 xo5 xo6).1 S1x256x1024.size (by sl_kernel_rfl) y

/-- What window 4's buffer holds after the body at a point that adds to its segment. -/
def out0_B_4 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : ¬cond0_1 i) (hc2 : cond0_2 i)
    (x0 : Vec F S1x256x1024 .f32) (x1 : Vec F S1x1024 .f32) (x2 : Vec F S1x1x2x1024 .f32) (x3 : Vec F S1x256x1024 .bf16) (xo5 : Vec F S1x1024 .f32) (xo6 : Vec F S1x1x2x1024 .f32) : Vec F S1x256x1024 .f32 :=
  VO0_4.read (Elt F) (VO0_4.writes (Elt F) VO0_4.junk (kernelRun0_B c i arg2 harg2 arg3 harg3 arg4 harg4 arg5 harg5 arg6 harg6 arg7 harg7 arg8 harg8 hc0 hc1 hc2 x0 x1 x2 x3 xo5 xo6).1)

/-- The stores to window 5 at a point that adds to its segment cover its block. -/
theorem cover0_B_5 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : ¬cond0_1 i) (hc2 : cond0_2 i)
    (x0 : Vec F S1x256x1024 .f32) (x1 : Vec F S1x1024 .f32) (x2 : Vec F S1x1x2x1024 .f32) (x3 : Vec F S1x256x1024 .bf16) (xo5 : Vec F S1x1024 .f32) (xo6 : Vec F S1x1x2x1024 .f32) (y : S1x1024.Idx) :
    ∃ pc ∈ (kernelRun0_B c i arg2 harg2 arg3 harg3 arg4 harg4 arg5 harg5 arg6 harg6 arg7 harg7 arg8 harg8 hc0 hc1 hc2 x0 x1 x2 x3 xo5 xo6).2.1, y ∈ pc.1.set :=
  View.cover_of_tiledL (kernelRun0_B c i arg2 harg2 arg3 harg3 arg4 harg4 arg5 harg5 arg6 harg6 arg7 harg7 arg8 harg8 hc0 hc1 hc2 x0 x1 x2 x3 xo5 xo6).2.1 S1x1024.size (by sl_kernel_rfl) y

/-- What window 5's buffer holds after the body at a point that adds to its segment. -/
def out0_B_5 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : ¬cond0_1 i) (hc2 : cond0_2 i)
    (x0 : Vec F S1x256x1024 .f32) (x1 : Vec F S1x1024 .f32) (x2 : Vec F S1x1x2x1024 .f32) (x3 : Vec F S1x256x1024 .bf16) (xo5 : Vec F S1x1024 .f32) (xo6 : Vec F S1x1x2x1024 .f32) : Vec F S1x1024 .f32 :=
  VO0_5.read (Elt F) (VO0_5.writes (Elt F) VO0_5.junk (kernelRun0_B c i arg2 harg2 arg3 harg3 arg4 harg4 arg5 harg5 arg6 harg6 arg7 harg7 arg8 harg8 hc0 hc1 hc2 x0 x1 x2 x3 xo5 xo6).2.1)

/-- The stores to window 6 at a point that adds to its segment cover its block. -/
theorem cover0_B_6 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : ¬cond0_1 i) (hc2 : cond0_2 i)
    (x0 : Vec F S1x256x1024 .f32) (x1 : Vec F S1x1024 .f32) (x2 : Vec F S1x1x2x1024 .f32) (x3 : Vec F S1x256x1024 .bf16) (xo5 : Vec F S1x1024 .f32) (xo6 : Vec F S1x1x2x1024 .f32) (y : S1x1x2x1024.Idx) :
    ∃ pc ∈ (kernelRun0_B c i arg2 harg2 arg3 harg3 arg4 harg4 arg5 harg5 arg6 harg6 arg7 harg7 arg8 harg8 hc0 hc1 hc2 x0 x1 x2 x3 xo5 xo6).2.2.1, y ∈ pc.1.set :=
  View.cover_of_tiledL (kernelRun0_B c i arg2 harg2 arg3 harg3 arg4 harg4 arg5 harg5 arg6 harg6 arg7 harg7 arg8 harg8 hc0 hc1 hc2 x0 x1 x2 x3 xo5 xo6).2.2.1 S1x1x1x1024.size (by sl_kernel_rfl) y

/-- What window 6's buffer holds after the body at a point that adds to its segment. -/
def out0_B_6 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : ¬cond0_1 i) (hc2 : cond0_2 i)
    (x0 : Vec F S1x256x1024 .f32) (x1 : Vec F S1x1024 .f32) (x2 : Vec F S1x1x2x1024 .f32) (x3 : Vec F S1x256x1024 .bf16) (xo5 : Vec F S1x1024 .f32) (xo6 : Vec F S1x1x2x1024 .f32) : Vec F S1x1x2x1024 .f32 :=
  VO0_6.read (Elt F) (VO0_6.writes (Elt F) VO0_6.junk (kernelRun0_B c i arg2 harg2 arg3 harg3 arg4 harg4 arg5 harg5 arg6 harg6 arg7 harg7 arg8 harg8 hc0 hc1 hc2 x0 x1 x2 x3 xo5 xo6).2.2.1)

/-- The stores to window 4 at another point that begins a segment cover its block. -/
theorem cover0_C_4 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) (xo5 : Vec F S1x1024 .f32) (y : S1x256x1024.Idx) :
    ∃ pc ∈ (kernelRun0_C c i arg2 harg2 arg3 harg3 arg4 harg4 arg5 harg5 arg6 harg6 arg7 harg7 arg8 harg8 hc0 hc1 hc2 x0 x1 x2 x3 xo5).1, y ∈ pc.1.set :=
  View.cover_of_tiledL (kernelRun0_C c i arg2 harg2 arg3 harg3 arg4 harg4 arg5 harg5 arg6 harg6 arg7 harg7 arg8 harg8 hc0 hc1 hc2 x0 x1 x2 x3 xo5).1 S1x256x1024.size (by sl_kernel_rfl) y

/-- What window 4's buffer holds after the body at another point that begins a segment. -/
def out0_C_4 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) (xo5 : Vec F S1x1024 .f32) : Vec F S1x256x1024 .f32 :=
  VO0_4.read (Elt F) (VO0_4.writes (Elt F) VO0_4.junk (kernelRun0_C c i arg2 harg2 arg3 harg3 arg4 harg4 arg5 harg5 arg6 harg6 arg7 harg7 arg8 harg8 hc0 hc1 hc2 x0 x1 x2 x3 xo5).1)

/-- The stores to window 5 at another point that begins a segment cover its block. -/
theorem cover0_C_5 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) (xo5 : Vec F S1x1024 .f32) (y : S1x1024.Idx) :
    ∃ pc ∈ (kernelRun0_C c i arg2 harg2 arg3 harg3 arg4 harg4 arg5 harg5 arg6 harg6 arg7 harg7 arg8 harg8 hc0 hc1 hc2 x0 x1 x2 x3 xo5).2.1, y ∈ pc.1.set :=
  View.cover_of_tiledL (kernelRun0_C c i arg2 harg2 arg3 harg3 arg4 harg4 arg5 harg5 arg6 harg6 arg7 harg7 arg8 harg8 hc0 hc1 hc2 x0 x1 x2 x3 xo5).2.1 S1x1024.size (by sl_kernel_rfl) y

/-- What window 5's buffer holds after the body at another point that begins a segment. -/
def out0_C_5 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) (xo5 : Vec F S1x1024 .f32) : Vec F S1x1024 .f32 :=
  VO0_5.read (Elt F) (VO0_5.writes (Elt F) VO0_5.junk (kernelRun0_C c i arg2 harg2 arg3 harg3 arg4 harg4 arg5 harg5 arg6 harg6 arg7 harg7 arg8 harg8 hc0 hc1 hc2 x0 x1 x2 x3 xo5).2.1)

/-- The stores to window 6 at another point that begins a segment cover its block. -/
theorem cover0_C_6 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) (xo5 : Vec F S1x1024 .f32) (y : S1x1x2x1024.Idx) :
    ∃ pc ∈ (kernelRun0_C c i arg2 harg2 arg3 harg3 arg4 harg4 arg5 harg5 arg6 harg6 arg7 harg7 arg8 harg8 hc0 hc1 hc2 x0 x1 x2 x3 xo5).2.2.1, y ∈ pc.1.set :=
  View.cover_of_tiledL (kernelRun0_C c i arg2 harg2 arg3 harg3 arg4 harg4 arg5 harg5 arg6 harg6 arg7 harg7 arg8 harg8 hc0 hc1 hc2 x0 x1 x2 x3 xo5).2.2.1 S1x1x1x1024.size (by sl_kernel_rfl) y

/-- What window 6's buffer holds after the body at another point that begins a segment. -/
def out0_C_6 (c : Dev nD) (i : grid0.Coords) (arg2 : Memref sig .tc .vmem S1x256x1024 .f32) (harg2 : arg2.IsWhole) (arg3 : Memref sig .tc .vmem S1x1024 .f32) (harg3 : arg3.IsWhole) (arg4 : Memref sig .tc .vmem S1x1x2x1024 .f32) (harg4 : arg4.IsWhole) (arg5 : Memref sig .tc .vmem S1x256x1024 .bf16) (harg5 : arg5.IsWhole) (arg6 : Memref sig .tc .vmem S1x256x1024 .f32) (harg6 : arg6.IsWhole) (arg7 : Memref sig .tc .vmem S1x1024 .f32) (harg7 : arg7.IsWhole) (arg8 : Memref sig .tc .vmem S1x1x2x1024 .f32) (harg8 : arg8.IsWhole) (hc0 : ¬cond0_0 i) (hc1 : cond0_1 i) (hc2 : ¬cond0_2 i)
    (x0 : Vec F S1x256x1024 .f32) (x1 : Vec F S1x1024 .f32) (x2 : Vec F S1x1x2x1024 .f32) (x3 : Vec F S1x256x1024 .bf16) (xo5 : Vec F S1x1024 .f32) : Vec F S1x1x2x1024 .f32 :=
  VO0_6.read (Elt F) (VO0_6.writes (Elt F) VO0_6.junk (kernelRun0_C c i arg2 harg2 arg3 harg3 arg4 harg4 arg5 harg5 arg6 harg6 arg7 harg7 arg8 harg8 hc0 hc1 hc2 x0 x1 x2 x3 xo5).2.2.1)

/-! ## What the outputs hold after each point -/

/-- What the buffers of the three windows of results hold after the body at a point, from the point before. -/
def outsAt0 (c : Dev nD) : (n : ℕ) → n < cfg0.N → Vec F S1x256x1024 .f32 × Vec F S1x1024 .f32 × Vec F S1x1x2x1024 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) ((hcond0_1 ⟨0, hn⟩).mpr (show 0 % 17 < 2 by decide)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) ((hcond0_1 ⟨0, hn⟩).mpr (show 0 % 17 < 2 by decide)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) ((hcond0_0 ⟨0, hn⟩).mpr (Nat.zero_mod _)) ((hcond0_1 ⟨0, hn⟩).mpr (show 0 % 17 < 2 by decide)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 34 = 0 then
      if h1 : (n + 1) % 17 < 2 then
        if h2 : 2 ≤ (n + 1) % 17 then
          False.elim (by have hN : n + 1 < 34 := lt_of_lt_of_eq hn (show cfg0.N = 34 from N_0); omega)
        else
          (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩))
      else
        False.elim (by have hN : n + 1 < 34 := lt_of_lt_of_eq hn (show cfg0.N = 34 from N_0); omega)
    else
      if h1 : (n + 1) % 17 < 2 then
        if h2 : 2 ≤ (n + 1) % 17 then
          False.elim (by have hN : n + 1 < 34 := lt_of_lt_of_eq hn (show cfg0.N = 34 from N_0); omega)
        else
          (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1)
      else
        if h2 : 2 ≤ (n + 1) % 17 then
          (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2)
        else
          False.elim (by have hN : n + 1 < 34 := lt_of_lt_of_eq hn (show cfg0.N = 34 from N_0); omega)

/-- The buffers at the first point of all. -/
theorem outsAt0_A (c : Dev nD) (t : Fin cfg0.N) (h0 : t.val % 34 = 0) (h1 : t.val % 17 < 2) (h2 : ¬2 ≤ t.val % 17) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) ((hcond0_1 t).mpr h1) (fun h => h2 ((hcond0_2 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) ((hcond0_1 t).mpr h1) (fun h => h2 ((hcond0_2 t).mp h)) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) ((hcond0_1 t).mpr h1) (fun h => h2 ((hcond0_2 t).mp h)) (iblk m c 0 t) (iblk m c 1 t) (iblk m c 2 t) (iblk m c 3 t)) := by
  obtain ⟨n, hn⟩ := t
  cases n with
  | zero => exact rfl
  | succ n => exact (dif_pos h0).trans ((dif_pos h1).trans ((dif_neg h2).trans rfl))

/-- The buffers at a point that adds to its segment. -/
theorem outsAt0_B (c : Dev nD) (t : Fin cfg0.N) (h0 : ¬t.val % 34 = 0) (h1 : ¬t.val % 17 < 2) (h2 : 2 ≤ t.val % 17) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The buffers at another point that begins a segment. -/
theorem outsAt0_C (c : Dev nD) (t : Fin cfg0.N) (h0 : ¬t.val % 34 = 0) (h1 : t.val % 17 < 2) (h2 : ¬2 ≤ t.val % 17) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) ((hcond0_1 t).mpr h1) (fun h => h2 ((hcond0_2 t).mp h)) (iblk m c 0 t) (iblk m c 1 t) (iblk m c 2 t) (iblk m c 3 t) (outsAt0 m c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-! ## The pipeline's proof data -/

/-- What the call's arrays and buffers hold, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2
  Φ _ := Pipeline.ΦA spec0 c
  q _ := fullShare
  owed _ := 0

/-- The arrays are those that the call finds. -/
theorem A_eq (c : Dev nD) (w : Fin cfg0.W) : (dats m 0 c).A w = V m c (Pipeline.arrRef spec0 w) := by
  dsimp only [dats]

/-- The buffers after the body, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2 := by dsimp only [dats]

/-- A window of an argument holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Window 6's buffer keeps what it holds through a point that does not store into it. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 34 := lt_of_lt_of_eq t.isLt (show cfg0.N = 34 from N_0)
  rw [after0_6, after0_6]
  by_cases h0 : t.val % 34 = 0
  · by_cases h1 : t.val % 17 < 2
    · by_cases h2 : 2 ≤ t.val % 17
      · exfalso; omega
      · rw [liveAt0_6_A t ((hcond0_0 t).mpr h0) ((hcond0_1 t).mpr h1) (fun h => h2 ((hcond0_2 t).mp h))] at hi
        exact absurd hi Bool.false_ne_true
    · exfalso; omega
  · by_cases h1 : t.val % 17 < 2
    · by_cases h2 : 2 ≤ t.val % 17
      · exfalso; omega
      · rw [liveAt0_6_C t (fun h => h0 ((hcond0_0 t).mp h)) ((hcond0_1 t).mpr h1) (fun h => h2 ((hcond0_2 t).mp h))] at hi
        exact absurd hi Bool.false_ne_true
    · by_cases h2 : 2 ≤ t.val % 17
      · rw [liveAt0_6_B t (fun h => h0 ((hcond0_0 t).mp h)) (fun h => h1 ((hcond0_1 t).mp h)) ((hcond0_2 t).mpr h2)] at hi
        exact absurd hi Bool.false_ne_true
      · exfalso; omega
/-- Window 5's buffer at a point that adds to its segment holds, before the body, what the point before left. -/
theorem before0_5_B (c : Dev nD) (t : Fin cfg0.N) (h0 : ¬t.val % 34 = 0) (h1 : ¬t.val % 17 < 2) (h2 : 2 ≤ t.val % 17) (d) :
    (dats m 0 c).before 5 t d = (outsAt0 m c (t.val - 1) (Nat.lt_of_le_of_lt (Nat.sub_le _ _) t.isLt)).2.1 := by
  have hN : t.val < 34 := lt_of_lt_of_eq t.isLt (show cfg0.N = 34 from N_0)
  rw [Dat.before_out_kept _ 5 rfl t (by omega) (Bool.eq_false_iff.mpr fun h => by have := (flush0_5 _).mp h; dsimp only at this; omega)
    (fun _ => rfl) (fun _ _ => rfl)]
  dsimp only [dats]
/-- Window 6's buffer at a point that adds to its segment holds, before the body, what the point before left. -/
theorem before0_6_B (c : Dev nD) (t : Fin cfg0.N) (h0 : ¬t.val % 34 = 0) (h1 : ¬t.val % 17 < 2) (h2 : 2 ≤ t.val % 17) (d) :
    (dats m 0 c).before 6 t d = (outsAt0 m c (t.val - 1) (Nat.lt_of_le_of_lt (Nat.sub_le _ _) t.isLt)).2.2 := by
  rw [Dat.before_out_traj _ 6 rfl (fun _ _ => rfl) (hcarry0_6 m c) t.val t rfl d,
    if_neg (by rw [notFresh0_6_B t (fun h => h0 ((hcond0_0 t).mp h)) (fun h => h1 ((hcond0_1 t).mp h)) ((hcond0_2 t).mpr h2)]; exact Bool.false_ne_true)]
  dsimp only [dats]
/-- Window 5's buffer at another point that begins a segment holds, before the body, what the point before left. -/
theorem before0_5_C (c : Dev nD) (t : Fin cfg0.N) (h0 : ¬t.val % 34 = 0) (h1 : t.val % 17 < 2) (h2 : ¬2 ≤ t.val % 17) (d) :
    (dats m 0 c).before 5 t d = (outsAt0 m c (t.val - 1) (Nat.lt_of_le_of_lt (Nat.sub_le _ _) t.isLt)).2.1 := by
  have hN : t.val < 34 := lt_of_lt_of_eq t.isLt (show cfg0.N = 34 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at a point, window by window, -/
def bodyPre (c : Dev nD) (t : Fin cfg0.N) : sProp (Res F) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp (Res F) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1200000 in
/-- The body at any point: by cases on its three conditions, with what each case's run leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 34 := lt_of_lt_of_eq t.isLt (show cfg0.N = 34 from N_0)
  by_cases h0 : t.val % 34 = 0
  · by_cases h1 : t.val % 17 < 2
    · by_cases h2 : 2 ≤ t.val % 17
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_A t ((hcond0_0 t).mpr h0) ((hcond0_1 t).mpr h1) (fun h => h2 ((hcond0_2 t).mp h))], after0_6]
        rw [outsAt0_A m c t h0 h1 h2]
        unfold out0_A_4 out0_A_5 out0_A_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t)).2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [H6]; · iexists _; iexact H6
        iintro ⟨H0, H1, H2, H3, ⟨%e4, H4⟩, ⟨%e5, H5⟩, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_A_4 c _ _ _ _ _ _ _ _ _ _ _ _ _ _ _ _ _ _ _ _ _ _)
        isplitl [H5]
        · unfold owns; iexists _; isplitr
          swap; · iexact H5
          ipureintro; exact View.read_writes_of_cover _ _ _ _ _ (cover0_A_5 c _ _ _ _ _ _ _ _ _ _ _ _ _ _ _ _ _ _ _ _ _ _)
        unfold owns; iexists _; isplitr
        swap; · iexact H6
        ipureintro; exact View.read_writes_of_cover _ _ _ _ _ (cover0_A_6 c _ _ _ _ _ _ _ _ _ _ _ _ _ _ _ _ _ _ _ _ _ _)
    · exfalso; omega
  · by_cases h1 : t.val % 17 < 2
    · by_cases h2 : 2 ≤ t.val % 17
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1) (fun h => h2 ((hcond0_2 t).mp h))], after0_6]
        rw [outsAt0_C m c t h0 h1 h2]
        simp only [before0_5_C m c t h0 h1 h2]
        unfold out0_C_4 out0_C_5 out0_C_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) _).2.2.2 Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexists _; iexact H6
        iintro ⟨H0, H1, H2, H3, ⟨%e4, H4⟩, ⟨%e5, H5⟩, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _)
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _)
    · by_cases h2 : 2 ≤ t.val % 17
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6_B t (fun h => h0 ((hcond0_0 t).mp h)) (fun h => h1 ((hcond0_1 t).mp h)) ((hcond0_2 t).mpr h2)], after0_6]
        rw [outsAt0_B m c t h0 h1 h2]
        simp only [before0_5_B m c t h0 h1 h2, before0_6_B m c t h0 h1 h2]
        unfold out0_B_4 out0_B_5 out0_B_6; (try dsimp only)
        iintro ⟨HΦ, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) _ _).2.2.2 Set.univ _)
        isplitl [H0]; · iexact H0
        isplitl [H1]; · iexact H1
        isplitl [H2]; · iexact H2
        isplitl [H3]; · iexact H3
        isplitl [H4]; · iexists _; iexact H4
        isplitl [H5]; · iexact H5
        isplitl [H6]; · iexact H6
        iintro ⟨H0, H1, H2, H3, ⟨%e4, H4⟩, ⟨%e5, H5⟩, ⟨%e6, H6⟩⟩
        isplitl [HΦ]; · iexact HΦ
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_B_4 c _ _ _ _ _ _ _ _ _ _ _ _ _ _ _ _ _ _ _ _ _ _ _ _)
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _)
        unfold owns; iexists _; isplitr
        swap; · iexact H6
        ipureintro; exact View.read_writes_of_cover _ _ _ _ _ (cover0_B_6 c _ _ _ _ _ _ _ _ _ _ _ _ _ _ _ _ _ _ _ _ _ _ _ _)
      · exfalso; omega

/-- The table's body at a point is the kernel's on that point's buffers. -/
theorem defs₀_row (t : Fin cfg0.N) :
    defs₀ (F := F) .tc cfg0.body (cfg0.bodyArgs t (cfg0.slots t)) = bodyAt0 t := by
  unfold defs₀; rw [Defs.onTc_tc]

/-- The same for every point, as the pipeline asks. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The whole run, and every semaphore at zero at the end. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The whole run: the arrays at the end are the ones described. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The arguments end unchanged and every semaphore is at zero, over any floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.NormIdeal.Gen

end
-- ==== Proof.ReadoutMath.lean ====
/- The gated readout of one head, value by value: the norm of the head, its weight, the gate, and the derivative. -/
module

public import proofs.«01_k».proof.Proof.Products

@[expose] public section

noncomputable section

namespace Cert.Proof.Readout

open Idealize.ShloMosaic

/-- The 128 values of one head. -/
abbrev Head := Fin 128 → EReal

/-- The mean square of a head, with the small number that keeps it from zero. -/
def spread (X : Head) : EReal :=
  Ideal.div (∑ l, X l * X l) (Ideal.ofBits .f32 0x43000000#32) + Ideal.ofBits .f32 0x358637BD#32

/-- A value of the head after the norm. -/
def normed (X : Head) (x : EReal) : EReal := x * Ideal.rsqrt (spread X)

/-- The gate's value. -/
def silu (a : EReal) : EReal := a * Ideal.logistic a

/-- The result: the normed value times its weight and the gate. -/
def output (X : Head) (x a w : EReal) : EReal := normed X x * w * silu a

/-- The gradient of the gate's argument. -/
def gateGrad (X : Head) (x a w dy : EReal) : EReal :=
  normed X x * w * dy * Ideal.logistic a
    + a * (normed X x * w * dy) * (Ideal.logistic a * (1 - Ideal.logistic a))

/-- What one value adds to the gradient of its weight. -/
def weightPart (X : Head) (x a dy : EReal) : EReal := normed X x * (dy * silu a)

/-- The gradient of the normed value. -/
def normedGrad (a w dy : EReal) : EReal := dy * silu a * w

/-- What the norm's factor gives back to every value of the head, half of it. -/
def pull (X A W D : Head) : EReal :=
  Ideal.div ((∑ l, X l * normedGrad (A l) (W l) (D l))
    * (Ideal.ofBits .f32 0xBF000000#32 * Ideal.div (Ideal.rsqrt (spread X)) (spread X))) (Ideal.ofBits .f32 0x43000000#32)

/-- The gradient of a value of the head. -/
def headGrad (X A W D : Head) (x a w dy : EReal) : EReal :=
  normedGrad a w dy * Ideal.rsqrt (spread X) + x * pull X A W D + pull X A W D * x

/-- A sum of one number. -/
theorem sum_one (e : EReal) : ∑ _l : Fin 1, e = e := by simp

theorem sum_single (f : Fin 1 → EReal) : ∑ l, f l = f 0 := by simp

/-- Sums of the same numbers are the same. -/
theorem sum_parts {n : ℕ} {f g : Fin n → EReal} (h : ∀ s, f s = g s) : ∑ s, f s = ∑ s, g s := Finset.sum_congr rfl fun s _ => h s

/-- A sum over the tokens of both sequences, taken over 34 stretches of 256 tokens: first over a stretch's place, then over the
stretches. -/
theorem sum_stretches (T : Fin 2 → Fin 4352 → EReal) :
    ∑ c : Fin 256, ∑ p : Fin 34, T ⟨p.val / 17, by omega⟩ ⟨p.val % 17 * 256 + c.val, by omega⟩ = ∑ b : Fin 2, ∑ t : Fin 4352, T b t := by
  rw [Finset.sum_comm]
  let H : Fin 8704 → EReal := fun n => T ⟨n.val / 4352, by omega⟩ ⟨n.val % 4352, by omega⟩
  refine (Fin.sum_mul_add_congr (f := H) fun p c hl => ?_).trans (Fin.sum_mul_add_congr (f := H) fun b t hl => ?_).symm
  · refine congrArg₂ T (Fin.ext ?_) (Fin.ext ?_)
    · show p.val / 17 = (p.val * 256 + c.val) / 4352; omega
    · show p.val % 17 * 256 + c.val = (p.val * 256 + c.val) % 4352; omega
  · refine congrArg₂ T (Fin.ext ?_) (Fin.ext ?_)
    · show b.val = (b.val * 4352 + t.val) / 4352; omega
    · show t.val = (b.val * 4352 + t.val) % 4352; omega

/-! The same values give the same results. -/

variable {X A W D X' A' W' D' : Head} {x a w dy x' a' w' dy' : EReal}

theorem output_congr (hX : ∀ l, X l = X' l) (hx : x = x') (ha : a = a') (hw : w = w') : output X x a w = output X' x' a' w' := by
  rw [funext hX, hx, ha, hw]

theorem gateGrad_congr (hX : ∀ l, X l = X' l) (hx : x = x') (ha : a = a') (hw : w = w') (hd : dy = dy') :
    gateGrad X x a w dy = gateGrad X' x' a' w' dy' := by
  rw [funext hX, hx, ha, hw, hd]

theorem weightPart_congr (hX : ∀ l, X l = X' l) (hx : x = x') (ha : a = a') (hd : dy = dy') :
    weightPart X x a dy = weightPart X' x' a' dy' := by
  rw [funext hX, hx, ha, hd]

theorem headGrad_congr (hX : ∀ l, X l = X' l) (hA : ∀ l, A l = A' l) (hW : ∀ l, W l = W' l) (hD : ∀ l, D l = D' l)
    (hx : x = x') (ha : a = a') (hw : w = w') (hd : dy = dy') :
    headGrad X A W D x a w dy = headGrad X' A' W' D' x' a' w' dy' := by
  rw [funext hX, funext hA, funext hW, funext hD, hx, ha, hw, hd]

/-! The arrays: two sequences of 4352 tokens, eight heads side by side in a token's 1024 values. -/

/-- An array of tokens. -/
abbrev Tokens := (⟨3, ![2, 4352, 1024]⟩ : Shape).Idx → EReal

/-- A weight for every value of a token. -/
abbrev Weights := (⟨1, ![1024]⟩ : Shape).Idx → EReal

/-- The place of value `l` of the head that place `k` is in. -/
def place (k : Fin 1024) (l : Fin 128) : Fin 1024 := ⟨k.val / 128 * 128 + l.val, by omega⟩

/-- Value `l` of head `h`. -/
def inHead (h : Fin 8) (l : Fin 128) : Fin 1024 := ⟨h.val * 128 + l.val, by omega⟩

theorem place_inHead (h : Fin 8) (l l' : Fin 128) : place (inHead h l) l' = inHead h l' :=
  Fin.ext (by show (h.val * 128 + l.val) / 128 * 128 + l'.val = h.val * 128 + l'.val; omega)

/-- Every place is one of its head. -/
theorem inHead_split (k : Fin 1024) : inHead ⟨k.val / 128, by omega⟩ ⟨k.val % 128, by omega⟩ = k :=
  Fin.ext (by show k.val / 128 * 128 + k.val % 128 = k.val; omega)

/-- The head that an entry is in. -/
def headAt (x : Tokens) (i : (⟨3, ![2, 4352, 1024]⟩ : Shape).Idx) : Head := fun l => x (ix3 (i 0) (i 1) (place (i 2) l))

/-- The weights of the head that place `k` is in. -/
def weightsAt (w : Weights) (k : Fin 1024) : Head := fun l => w (ix1 (place k l))

variable (x a dy : Tokens) (w : Weights)

/-- The readout of every token. -/
def outputs : Tokens := fun i => output (headAt x i) (x i) (a i) (w (ix1 (i 2)))

/-- The gate's gradient at every token. -/
def gateGrads : Tokens := fun i => gateGrad (headAt x i) (x i) (a i) (w (ix1 (i 2))) (dy i)

/-- The gradient of the heads' values at every token. -/
def headGrads : Tokens := fun i =>
  headGrad (headAt x i) (headAt a i) (weightsAt w (i 2)) (headAt dy i) (x i) (a i) (w (ix1 (i 2))) (dy i)

/-- The gradient of the weights: every token of both sequences adds its part. -/
def weightGrads : Weights := fun k => ∑ b : Fin 2, ∑ t : Fin 4352,
  weightPart (headAt x (ix3 b t (k 0))) (x (ix3 b t (k 0))) (a (ix3 b t (k 0))) (dy (ix3 b t (k 0)))

end Cert.Proof.Readout

end
-- ==== Proof.NormMath.lean ====
/- A token's norm and its modulation, value by value, and the derivative. -/
module

public import proofs.«01_k».proof.Proof.ReadoutMath

@[expose] public section

noncomputable section

namespace Cert.Proof.Norm

open Idealize.ShloMosaic

/-- The 1024 values of one token. -/
abbrev Row := Fin 1024 → EReal

/-- The mean square of a token, with the small number that keeps it from zero. -/
def spread (X : Row) : EReal :=
  Ideal.div (∑ l, X l * X l) (Ideal.ofBits .f32 0x44800000#32) + Ideal.ofBits .f32 0x358637BD#32

/-- A value of the token after the norm. -/
def normed (X : Row) (x : EReal) : EReal := x * Ideal.rsqrt (spread X)

/-- The gradient of the normed value times its gain: the modulation's factor is `1 + s`. -/
def scaled (s d : EReal) : EReal := d * (1 + s)

/-- What one value adds to the gradient of its gain. -/
def gainPart (X : Row) (x s d : EReal) : EReal := normed X x * scaled s d

/-- What one value adds to the gradient of its shift, and to that of its scale. -/
def modPart (k : Fin 2) (X : Row) (x g d : EReal) : EReal :=
  match k with
  | 0 => d
  | 1 => normed X x * g * d

/-- What the norm's factor gives back to every value of the token, half of it. -/
def pull (X S G D : Row) : EReal :=
  Ideal.div ((∑ l, X l * (scaled (S l) (D l) * G l))
    * (Ideal.ofBits .f32 0xBF000000#32 * Ideal.div (Ideal.rsqrt (spread X)) (spread X))) (Ideal.ofBits .f32 0x44800000#32)

/-- The gradient of a value of the token. -/
def rowGrad (X S G D : Row) (x s g d : EReal) : EReal :=
  scaled s d * g * Ideal.rsqrt (spread X) + x * pull X S G D + pull X S G D * x

/-! The same values give the same results. -/

variable {X S G D X' S' G' D' : Row} {x s g d x' s' g' d' : EReal}

theorem gainPart_congr (hX : ∀ l, X l = X' l) (hx : x = x') (hs : s = s') (hd : d = d') : gainPart X x s d = gainPart X' x' s' d' := by
  rw [funext hX, hx, hs, hd]

theorem modPart_congr (k : Fin 2) (hX : ∀ l, X l = X' l) (hx : x = x') (hg : g = g') (hd : d = d') :
    modPart k X x g d = modPart k X' x' g' d' := by
  rw [funext hX, hx, hg, hd]

theorem rowGrad_congr (hX : ∀ l, X l = X' l) (hS : ∀ l, S l = S' l) (hG : ∀ l, G l = G' l) (hD : ∀ l, D l = D' l)
    (hx : x = x') (hs : s = s') (hg : g = g') (hd : d = d') : rowGrad X S G D x s g d = rowGrad X' S' G' D' x' s' g' d' := by
  rw [funext hX, funext hS, funext hG, funext hD, hx, hs, hg, hd]

/-! Sums over tokens. -/

/-- A quantity that starts with its part at point `s` and then adds a part at every point holds the parts' sum. -/
theorem sum_from {N : ℕ} (f : (n : ℕ) → n < N → EReal) (part : Fin N → EReal) (s J : ℕ) (hs : s < N) (h0 : f s hs = part ⟨s, hs⟩)
    (step : ∀ k (h : s + (k + 1) < N), k + 1 < J → f (s + (k + 1)) h = f (s + k) (by omega) + part ⟨s + (k + 1), h⟩) :
    ∀ k (h : s + k < N), k < J → f (s + k) h = ∑ j : Fin (k + 1), part ⟨s + j.val, by omega⟩ := by
  intro k
  induction k with
  | zero => intro h _; simpa using h0
  | succ k ih =>
    intro h hJ
    rw [step k h hJ, ih (by omega) (by omega), Fin.sum_univ_castSucc (n := k + 1)]
    rfl

/-- A sum over the tokens of both sequences: the first 256 of each, and the other 4096 of each. -/
theorem sum_segments (T : Fin 2 → Fin 4352 → EReal) : ∑ b : Fin 2, ∑ t : Fin 4352, T b t
    = (∑ b : Fin 2, ∑ t : Fin 256, T b ⟨t.val, by omega⟩) + ∑ b : Fin 2, ∑ t : Fin 4096, T b ⟨t.val + 256, by omega⟩ := by
  rw [← Finset.sum_add_distrib]
  refine Finset.sum_congr rfl fun b _ => (Fin.sum_univ_add (a := 256) (b := 4096) (T b)).trans ?_
  refine congrArg₂ (· + ·) rfl (Finset.sum_congr rfl fun t _ => congrArg (T b) (Fin.ext (Nat.add_comm _ _)))

/-- The last 4096 tokens of a sequence, taken over sixteen stretches of 256. -/
theorem sum_rest (T : Fin 4352 → EReal) : ∑ p : Fin 16, ∑ r : Fin 256, T ⟨(p.val + 1) * 256 + r.val, by omega⟩
    = ∑ t : Fin 4096, T ⟨t.val + 256, by omega⟩ := by
  refine Fin.sum_mul_add_congr (f := fun t : Fin 4096 => T ⟨t.val + 256, by omega⟩) fun p r hl => congrArg T (Fin.ext ?_)
  show (p.val + 1) * 256 + r.val = p.val * 256 + r.val + 256
  omega

/-! The arrays: two sequences of 4352 tokens, of which the first 256 take modulation 0 and the others modulation 1. -/

/-- An array of tokens, and its parts. -/
abbrev Tokens (n : ℕ) := (⟨3, ![2, n, 1024]⟩ : Shape).Idx → EReal

/-- A shift and a scale for each sequence and segment. -/
abbrev Mods := (⟨4, ![2, 2, 2, 1024]⟩ : Shape).Idx → EReal

/-- A gain for every value of a token. -/
abbrev Gains := (⟨1, ![1024]⟩ : Shape).Idx → EReal

/-- The modulation that a token takes. -/
def seg (t : Fin 4352) : Fin 2 := ⟨min (t.val / 256) 1, by omega⟩

/-- A token of the two arrays side by side. -/
def joined (x : Tokens 4096) (ctx : Tokens 256) (b : Fin 2) (t : Fin 4352) : Row := fun l =>
  if h : t.val < 256 then ctx (ix3 b ⟨t.val, h⟩ l) else x (ix3 b ⟨t.val - 256, by omega⟩ l)

variable (x : Tokens 4096) (ctx : Tokens 256) (gain : Gains) (mod : Mods) (da dh : Tokens 4352)

/-- The gradient of a token. -/
def grad (b : Fin 2) (t : Fin 4352) (l : Fin 1024) : EReal :=
  rowGrad (joined x ctx b t) (fun l => mod (ix4 b (seg t) 1 l)) (fun l => gain (ix1 l)) (fun l => da (ix3 b t l))
    (joined x ctx b t l) (mod (ix4 b (seg t) 1 l)) (gain (ix1 l)) (da (ix3 b t l))

/-- The gradient of the last 4096 tokens, added to the one given. -/
def gradX : Tokens 4096 := fun i =>
  dh (ix3 (i 0) ⟨(i 1).val + 256, by have := (i 1).isLt; dsimp at *; omega⟩ (i 2))
    + grad x ctx gain mod da (i 0) ⟨(i 1).val + 256, by have := (i 1).isLt; dsimp at *; omega⟩ (i 2)

/-- What a token adds to the gains' gradient. -/
def gainAt (b : Fin 2) (t : Fin 4352) (l : Fin 1024) : EReal :=
  gainPart (joined x ctx b t) (joined x ctx b t l) (mod (ix4 b (seg t) 1 l)) (da (ix3 b t l))

/-- The gains' gradient. -/
def gainGrads : Gains := fun j => ∑ b : Fin 2, ∑ t : Fin 4352, gainAt x ctx mod da b t (j 0)

/-- What a token adds to the gradient of its shift and scale. -/
def modAt (k : Fin 2) (b : Fin 2) (t : Fin 4352) (l : Fin 1024) : EReal :=
  modPart k (joined x ctx b t) (joined x ctx b t l) (gain (ix1 l)) (da (ix3 b t l))

/-- A segment's tokens add their parts. -/
def segGrad (k b s : Fin 2) (l : Fin 1024) : EReal :=
  match s with
  | 0 => ∑ t : Fin 256, modAt x ctx gain da k b ⟨t.val, by omega⟩ l
  | 1 => ∑ t : Fin 4096, modAt x ctx gain da k b ⟨t.val + 256, by omega⟩ l

/-- The gradient of the shifts and scales. -/
def modGrads : Mods := fun j => segGrad x ctx gain da (j 2) (j 0) (j 1) (j 3)

end Cert.Proof.Norm

end
-- ==== Proof.NormValue.lean ====
/- What the norm's backward call leaves in its three results. -/
module

public import proofs.«01_k».proof.Proof.NormFrame
public import proofs.«01_k».proof.Proof.NormMath
public import Idealize.ShloMosaic.Lib.Pipeline.ValueKit
public import Idealize.ShloMosaic.Lib.Pipeline.ReadBack

@[expose] public section

set_option maxRecDepth 16384

noncomputable section

namespace Cert.Proof.Norm

open Cert.NormIdeal Cert.NormIdeal.Gen Idealize.ShloMosaic Idealize.ShloMosaic.TcCoe Idealize.SL.Sem
open Cert.Proof.Readout (sum_one sum_single sum_parts)

/-- A token of one block. -/
def blockRow (x : (⟨3, ![1, 256, 1024]⟩ : Shape).Idx → EReal) (r : Fin 256) : Row := fun l => x (ix3 0 r l)

/-! One block: its tokens `x`, the gains `w`, the scales `s` and the tokens' gradients `d`. -/
section
variable (x d : (⟨3, ![1, 256, 1024]⟩ : Shape).Idx → EReal) (w : Mat 1 1024) (s v : (⟨4, ![1, 1, 1, 1024]⟩ : Shape).Idx → EReal)

theorem block_row (i : S1x256x1024.Idx) : k0_pay1 (F := Ideal) (k0_pay8 (F := Ideal) x) (k0_pay12 (F := Ideal) x) (k0_pay13 (F := Ideal) x)
      (k0_pay19 (F := Ideal) w s d) i
    = rowGrad (blockRow x (i 1)) (fun l => s (ix4 0 0 0 l)) (fun l => w (ix2 0 l)) (blockRow d (i 1))
      (x i) (s (ix4 0 0 0 (i 2))) (w (ix2 0 (i 2))) (d i) := by
  pointwise [k0_pay1, k0_pay8, k0_pay11, k0_pay12, k0_pay13, k0_pay19, k0_pay17, k0_pay10, k0_pay9]
  refine (congrArg₂ (· + ·) (congrArg₂ (· + ·) rfl (congrArg (x i * ·) (sum_one _))) (congrArg (· * x i) (sum_one _))).trans ?_
  rfl

theorem gain_zero (j : S1x1024.Idx) : k0_pay2 (F := Ideal) j = 0 := by pointwise [k0_pay2]

theorem gain_add (u : Mat 1 1024) (l : Fin 1024) : k0_pay3 (F := Ideal) (k0_pay18 (F := Ideal) x s d) u (ix2 0 l)
    = u (ix2 0 l) + ∑ r, gainPart (blockRow x r) (x (ix3 0 r l)) (s (ix4 0 0 0 l)) (d (ix3 0 r l)) := by
  pointwise [k0_pay3, k0_pay18, k0_pay17, k0_pay14, k0_pay8, k0_pay12, k0_pay11, k0_pay10]
  rfl

theorem shift_set (l : Fin 1024) : k0_pay4 (F := Ideal) (k0_pay15 (F := Ideal) d) (ix4 0 0 0 l) = ∑ r, d (ix3 0 r l) := by
  pointwise [k0_pay4, k0_pay15, k0_pay10]
  try rfl

theorem scale_set (l : Fin 1024) : k0_pay5 (F := Ideal) (k0_pay16 (F := Ideal) x w d) (ix4 0 0 0 l)
    = ∑ r, normed (blockRow x r) (x (ix3 0 r l)) * w (ix2 0 l) * d (ix3 0 r l) := by
  pointwise [k0_pay5, k0_pay16, k0_pay14, k0_pay8, k0_pay12, k0_pay11, k0_pay10, k0_pay9]
  try rfl

theorem shift_add (l : Fin 1024) : k0_pay6 (F := Ideal) (k0_pay15 (F := Ideal) d) v (ix4 0 0 0 l) = v (ix4 0 0 0 l) + ∑ r, d (ix3 0 r l) := by
  pointwise [k0_pay6, k0_pay15, k0_pay10]
  try rfl

theorem scale_add (l : Fin 1024) : k0_pay7 (F := Ideal) (k0_pay16 (F := Ideal) x w d) v (ix4 0 0 0 l)
    = v (ix4 0 0 0 l) + ∑ r, normed (blockRow x r) (x (ix3 0 r l)) * w (ix2 0 l) * d (ix3 0 r l) := by
  pointwise [k0_pay7, k0_pay16, k0_pay14, k0_pay8, k0_pay12, k0_pay11, k0_pay10, k0_pay9]
  try rfl
end

/-! The two rows of a block of shifts and scales. -/

abbrev shiftRow : Rect S1x1x2x1024 := Rect.unit (s := S1x1x2x1024) ![0, 0, 0, 0] ![1, 1, 1, 1024] inb_S1x1x2x1024_S1x1x1x1024_0_0_0_0
abbrev scaleRow : Rect S1x1x2x1024 := Rect.unit (s := S1x1x2x1024) ![0, 0, 1, 0] ![1, 1, 1, 1024] inb_S1x1x2x1024_S1x1x1x1024_0_0_1_0

theorem shiftRow_emb (l : Fin 1024) : ix4 (0 : Fin 1) (0 : Fin 1) (0 : Fin 2) l = shiftRow.emb (ix4 0 0 0 l) := by blk_ext
theorem scaleRow_emb (l : Fin 1024) : ix4 (0 : Fin 1) (0 : Fin 1) (1 : Fin 2) l = scaleRow.emb (ix4 0 0 0 l) := by blk_ext

theorem shiftRow_off (l : Fin 1024) : shiftRow.emb (ix4 0 0 0 l) ∉ scaleRow.set :=
  LoadRect.idx_not_mem_of_disj (B := shiftRow.toLoadRect) (by decide) (ix4 0 0 0 l)

section
variable (P Q : FVec Ideal S1x1x1x1024 .f32) (l : Fin 1024)

/-- The scales' row stored after the shifts'. -/
abbrev rowStores : S1x1x2x1024.Idx → EReal := View.canon (Val := Elt Ideal) (s := S1x1x2x1024) (e := .f32) [⟨scaleRow, P⟩, ⟨shiftRow, Q⟩]

theorem rowStores_shift : rowStores P Q (ix4 0 0 0 l) = Q (ix4 0 0 0 l) :=
  (congrArg (rowStores P Q) (shiftRow_emb l)).trans
    ((View.canon_cons_of_not_mem (Val := Elt Ideal) (e := .f32) ⟨scaleRow, P⟩ [⟨shiftRow, Q⟩] (shiftRow_off l)).trans
      (View.canon_cons_emb (Val := Elt Ideal) (e := .f32) shiftRow Q [] (ix4 0 0 0 l)))

theorem rowStores_scale : rowStores P Q (ix4 0 0 1 l) = P (ix4 0 0 0 l) :=
  (congrArg (rowStores P Q) (scaleRow_emb l)).trans
    (View.canon_cons_emb (Val := Elt Ideal) (e := .f32) scaleRow P [⟨shiftRow, Q⟩] (ix4 0 0 0 l))

theorem load_shift (X : S1x1x2x1024.Idx → EReal) : View.ld (Val := Elt Ideal) (S := S1x1x2x1024) (e' := .f32) X shiftRow (ix4 0 0 0 l) = X (ix4 0 0 0 l) :=
  congrArg X (shiftRow_emb l).symm

theorem load_scale (X : S1x1x2x1024.Idx → EReal) : View.ld (Val := Elt Ideal) (S := S1x1x2x1024) (e' := .f32) X scaleRow (ix4 0 0 0 l) = X (ix4 0 0 1 l) :=
  congrArg X (scaleRow_emb l).symm
end

/-! The points. -/

variable (m : (ℓ : Loc nD τ sig) → Buf (Elt Ideal) ℓ) (c : Dev nD)

theorem idx : ∀ t : Fin cfg0.N, win0_0.index t = ![t.val / 17, t.val % 17, 0] ∧ win0_1.index t = ![0, 0]
    ∧ win0_2.index t = ![t.val / 17, min (t.val % 17) 1, 0, 0] ∧ win0_3.index t = ![t.val / 17, t.val % 17, 0]
    ∧ win0_4.index t = ![t.val / 17, t.val % 17, 0] ∧ win0_5.index t = ![0, 0] ∧ win0_6.index t = ![t.val / 17, min (t.val % 17) 1, 0, 0] :=
  (by decide +kernel : ∀ t : Fin grid0.N, _)

theorem t_lt (t : Fin cfg0.N) : t.val < 34 := t.isLt

/-- The point's sequence. -/
def bat (t : Fin cfg0.N) : Fin 2 := ⟨t.val / 17, by have := t_lt t; omega⟩
/-- The token that is token `r` of the point's block. -/
def row (t : Fin cfg0.N) (r : Fin 256) : Fin 4352 := ⟨t.val % 17 * 256 + r.val, by omega⟩

/-- The call's tokens, gains, modulations and gradients. -/
abbrev inH : Tokens 4352 := V m c main_v0
abbrev inG : Mat 1 1024 := V m c main_v1
abbrev inM : Mods := V m c main_arg3
abbrev inD : Tokens 4352 := V m c main_arg4

theorem blkH (t : Fin cfg0.N) (r : Fin 256) (l : Fin 1024) : iblk m c 0 t (ix3 0 r l) = inH m c (ix3 (bat t) (row t r) l) := by
  blk_ext [iblk, idx t, bat, row]
theorem blkG (t : Fin cfg0.N) (l : Fin 1024) : iblk m c 1 t (ix2 0 l) = inG m c (ix2 0 l) := by
  blk_ext [iblk, idx t]
theorem blkM (t : Fin cfg0.N) (r : Fin 256) (k : Fin 2) (l : Fin 1024) : iblk m c 2 t (ix4 0 0 k l) = inM m c (ix4 (bat t) (seg (row t r)) k l) := by
  have e : seg (row t r) = ⟨min (t.val % 17) 1, by omega⟩ := Fin.ext (by show min ((t.val % 17 * 256 + r.val) / 256) 1 = _; congr 1; omega)
  rw [e]
  blk_ext [iblk, idx t, bat]
theorem blkD (t : Fin cfg0.N) (r : Fin 256) (l : Fin 1024) : iblk m c 3 t (ix3 0 r l) = inD m c (ix3 (bat t) (row t r) l) := by
  blk_ext [iblk, idx t, bat, row]

/-- A token's gradient, of the call's arrays. -/
def callGrad (i : S2x4352x1024.Idx) : EReal :=
  rowGrad (fun l => inH m c (ix3 (i 0) (i 1) l)) (fun l => inM m c (ix4 (i 0) (seg (i 1)) 1 l)) (fun l => inG m c (ix2 0 l))
    (fun l => inD m c (ix3 (i 0) (i 1) l)) (inH m c i) (inM m c (ix4 (i 0) (seg (i 1)) 1 (i 2))) (inG m c (ix2 0 (i 2))) (inD m c i)

/-- A token's part of the gains' gradient. -/
def callGain (b : Fin 2) (t : Fin 4352) (l : Fin 1024) : EReal :=
  gainPart (fun l => inH m c (ix3 b t l)) (inH m c (ix3 b t l)) (inM m c (ix4 b (seg t) 1 l)) (inD m c (ix3 b t l))

/-- A token's part of the modulation's gradient. -/
def callMod (k : Fin 2) (b : Fin 2) (t : Fin 4352) (l : Fin 1024) : EReal :=
  modPart k (fun l => inH m c (ix3 b t l)) (inH m c (ix3 b t l)) (inG m c (ix2 0 l)) (inD m c (ix3 b t l))

/-- The three cases of a point: the first one, one that starts a segment, and any other. -/
theorem cases (t : Fin cfg0.N) : (t.val % 34 = 0 ∧ t.val % 17 < 2 ∧ ¬2 ≤ t.val % 17) ∨ (¬t.val % 34 = 0 ∧ t.val % 17 < 2 ∧ ¬2 ≤ t.val % 17)
    ∨ (¬t.val % 34 = 0 ∧ ¬t.val % 17 < 2 ∧ 2 ≤ t.val % 17) := by
  omega

theorem point_row (t : Fin cfg0.N) (r : Fin 256) (l : Fin 1024) : (outsAt0 m c t.val t.isLt).1 (ix3 0 r l) = callGrad m c (ix3 (bat t) (row t r) l) := by
  have key : k0_pay1 (F := Ideal) (k0_pay8 (F := Ideal) (iblk m c 0 t)) (k0_pay12 (F := Ideal) (iblk m c 0 t)) (k0_pay13 (F := Ideal) (iblk m c 0 t))
      (k0_pay19 (F := Ideal) (iblk m c 1 t) (View.ld (Val := Elt Ideal) (S := S1x1x2x1024) (e' := .f32) (iblk m c 2 t) scaleRow) (iblk m c 3 t)) (ix3 0 r l)
      = callGrad m c (ix3 (bat t) (row t r) l) := by
    refine (block_row _ _ _ _ _).trans ?_
    exact rowGrad_congr (fun l => blkH m c t r l) (fun l => (load_scale l _).trans (blkM m c t r 1 l)) (fun l => blkG m c t l)
      (fun l => blkD m c t r l) (blkH m c t r l) ((load_scale l _).trans (blkM m c t r 1 l)) (blkG m c t l) (blkD m c t r l)
  obtain ⟨h0, h1, h2⟩ | ⟨h0, h1, h2⟩ | ⟨h0, h1, h2⟩ := cases t
  · rw [outsAt0_A m c t h0 h1 h2]; frame_out; exact key
  · rw [outsAt0_C m c t h0 h1 h2]; frame_out; exact key
  · rw [outsAt0_B m c t h0 h1 h2]; frame_out; exact key

theorem value_row : (dats m 0 c).arrAt 4 (cfgs 0).N = callGrad m c := by
  refine (dats m 0 c).arrAt_eq_of_covers 4 _ (by decide +kernel) fun t _ y => ?_
  blk_simp
  rw [after0_4]
  have e : ((View.whole main_v2_0).slice (win0_4.rect t)).emb y = ix3 (bat t) (row t (y 1)) (y 2) := by blk_ext [idx t, bat, row]
  have e' : y = ix3 0 (y 1) (y 2) := by blk_ext
  exact (congrArg _ e').trans ((point_row m c t (y 1) (y 2)).trans (congrArg (callGrad m c) e.symm))

/-- What a point adds to the gains' gradient. -/
theorem gain_part (t : Fin cfg0.N) (u : Mat 1 1024) (l : Fin 1024) :
    k0_pay3 (F := Ideal) (k0_pay18 (F := Ideal) (iblk m c 0 t) (View.ld (Val := Elt Ideal) (S := S1x1x2x1024) (e' := .f32) (iblk m c 2 t) scaleRow) (iblk m c 3 t)) u (ix2 0 l)
    = u (ix2 0 l) + ∑ r, callGain m c (bat t) (row t r) l := by
  refine (gain_add _ _ _ _ _).trans (congrArg (_ + ·) (sum_parts fun r => ?_))
  exact gainPart_congr (fun l => blkH m c t r l) (blkH m c t r l) ((load_scale l _).trans (blkM m c t r 1 l)) (blkD m c t r l)

theorem gain_first (t : Fin cfg0.N) (h : t.val % 34 = 0) (l : Fin 1024) :
    (outsAt0 m c t.val t.isLt).2.1 (ix2 0 l) = 0 + ∑ r, callGain m c (bat t) (row t r) l := by
  rw [outsAt0_A m c t h (by omega) (by omega)]; frame_out
  exact (gain_part m c t _ l).trans (congrArg (· + _) (gain_zero _))

theorem gain_step (t : Fin cfg0.N) (h : ¬t.val % 34 = 0) (l : Fin 1024) : (outsAt0 m c t.val t.isLt).2.1 (ix2 0 l)
    = (outsAt0 m c (t.val - 1) (Nat.lt_of_le_of_lt (Nat.sub_le _ _) t.isLt)).2.1 (ix2 0 l) + ∑ r, callGain m c (bat t) (row t r) l := by
  by_cases h1 : t.val % 17 < 2
  · rw [outsAt0_C m c t h h1 (by omega)]; frame_out; exact gain_part m c t _ l
  · rw [outsAt0_B m c t h h1 (by omega)]; frame_out; exact gain_part m c t _ l

/-- What a point adds to the gradient of a segment's shift or scale. -/
def modPoint (k : Fin 2) (l : Fin 1024) (t : Fin cfg0.N) : EReal := ∑ r, callMod m c k (bat t) (row t r) l

theorem mod_first (t : Fin cfg0.N) (h1 : t.val % 17 < 2) (k : Fin 2) (l : Fin 1024) :
    (outsAt0 m c t.val t.isLt).2.2 (ix4 0 0 k l) = modPoint m c k l t := by
  have key : rowStores (k0_pay5 (F := Ideal) (k0_pay16 (F := Ideal) (iblk m c 0 t) (iblk m c 1 t) (iblk m c 3 t)))
      (k0_pay4 (F := Ideal) (k0_pay15 (F := Ideal) (iblk m c 3 t))) (ix4 0 0 k l) = modPoint m c k l t := by
    match k with
    | 0 =>
      refine (rowStores_shift _ _ l).trans ((shift_set _ l).trans (sum_parts fun r => ?_))
      exact blkD m c t r l
    | 1 =>
      refine (rowStores_scale _ _ l).trans ((scale_set _ _ _ l).trans (sum_parts fun r => ?_))
      exact modPart_congr 1 (fun l => blkH m c t r l) (blkH m c t r l) (blkG m c t l) (blkD m c t r l)
  by_cases h0 : t.val % 34 = 0
  · rw [outsAt0_A m c t h0 h1 (by omega)]; frame_out; exact key
  · rw [outsAt0_C m c t h0 h1 (by omega)]; frame_out; exact key

theorem mod_step (t : Fin cfg0.N) (h2 : 2 ≤ t.val % 17) (k : Fin 2) (l : Fin 1024) : (outsAt0 m c t.val t.isLt).2.2 (ix4 0 0 k l)
    = (outsAt0 m c (t.val - 1) (Nat.lt_of_le_of_lt (Nat.sub_le _ _) t.isLt)).2.2 (ix4 0 0 k l) + modPoint m c k l t := by
  rw [outsAt0_B m c t (by omega) (by omega) h2]; frame_out
  match k with
  | 0 =>
    refine (rowStores_shift _ _ l).trans ((shift_add _ _ l).trans (congrArg₂ (· + ·) (load_shift l _) (sum_parts fun r => ?_)))
    exact blkD m c t r l
  | 1 =>
    refine (rowStores_scale _ _ l).trans ((scale_add _ _ _ _ l).trans (congrArg₂ (· + ·) (load_scale l _) (sum_parts fun r => ?_)))
    exact modPart_congr 1 (fun l => blkH m c t r l) (blkH m c t r l) (blkG m c t l) (blkD m c t r l)

/-- The gain's gradient, of the call's arrays: the sum over the grid's points of their rows. -/
def callGains (l : Fin 1024) : EReal :=
  ∑ p : Fin 34, ∑ r : Fin 256, callGain m c ⟨p.val / 17, by omega⟩ ⟨p.val % 17 * 256 + r.val, by omega⟩ l

theorem point_gain (t : Fin cfg0.N) (hf : (cfg0.win 5).flush t = true) (l : Fin 1024) :
    (outsAt0 m c t.val t.isLt).2.1 (ix2 0 l) = callGains m c l := by
  rw [Pipeline.eq_sum_fin_of_reset_step_apply_of_flush (fun n h (l : Fin 1024) => (outsAt0 m c n h).2.1 (ix2 0 l)) 34 (fun _ => 0)
    (fun p l => ∑ r, callGain m c (bat p) (row p r) l) (fun t h l => gain_first m c t h l) (fun t h l => gain_step m c t h l)
    t ((flush0_5 t).mp hf) l, zero_add]
  have ht := t_lt t
  refine sum_parts fun p => sum_parts fun r => ?_
  refine congrArg₂ (fun b n => callGain m c b n l) (Fin.ext ?_) (Fin.ext ?_)
  · show (34 * (t.val / 34) + p.val) / 17 = p.val / 17; omega
  · show (34 * (t.val / 34) + p.val) % 17 * 256 + r.val = p.val % 17 * 256 + r.val; omega

theorem value_gain : (dats m 0 c).arrAt 5 (cfgs 0).N = fun j : S1x1024.Idx => callGains m c (j 1) := by
  refine (dats m 0 c).arrAt_eq_of_covers 5 _ (by decide +kernel) fun t hf y => ?_
  blk_simp
  have e : ((View.whole main_v2_1).slice (win0_5.rect t)).emb y = ix2 0 (y 1) := by blk_ext [idx t]
  have e' : y = ix2 0 (y 1) := by blk_ext
  rw [after0_5]
  have E := congrArg (fun j : S1x1024.Idx => callGains m c (j 1)) e.symm
  exact (congrArg _ e').trans ((point_gain m c t hf (y 1)).trans E)

/-- A block of shifts and scales is written back after the first segment's point and after the second's last. -/
theorem flush_seg : ∀ t : Fin cfg0.N, (cfg0.win 6).flush t = true → t.val % 17 = 0 ∨ t.val % 17 = 16 := by decide +kernel

/-- A segment's gradient, of the call's arrays. -/
def callSeg (k b s : Fin 2) (l : Fin 1024) : EReal :=
  match s with
  | 0 => ∑ r : Fin 256, callMod m c k b ⟨r.val, by omega⟩ l
  | 1 => ∑ p : Fin 16, ∑ r : Fin 256, callMod m c k b ⟨(p.val + 1) * 256 + r.val, by omega⟩ l

theorem point_seg (t : Fin cfg0.N) (h : t.val % 17 = 0 ∨ t.val % 17 = 16) (k : Fin 2) (l : Fin 1024) :
    (outsAt0 m c t.val t.isLt).2.2 (ix4 0 0 k l) = callSeg m c k (bat t) ⟨min (t.val % 17) 1, by omega⟩ l := by
  rcases h with h | h
  · rw [mod_first m c t (by omega)]
    have e : (⟨min (t.val % 17) 1, by omega⟩ : Fin 2) = 0 := Fin.ext (by show min (t.val % 17) 1 = 0; omega)
    rw [e]
    exact sum_parts fun r => congrArg (fun n => callMod m c k (bat t) n l) (Fin.ext (by show t.val % 17 * 256 + r.val = r.val; omega))
  · have ht := t_lt t
    have e : (⟨min (t.val % 17) 1, by omega⟩ : Fin 2) = 1 := Fin.ext (by show min (t.val % 17) 1 = 1; omega)
    rw [e]
    have hs : t.val - 15 + 15 = t.val := by omega
    have key := sum_from (fun n h => (outsAt0 m c n h).2.2 (ix4 0 0 k l)) (modPoint m c k l) (t.val - 15) 16 (by omega)
      (mod_first m c ⟨t.val - 15, by omega⟩ (by show (t.val - 15) % 17 < 2; omega) k l)
      (fun j hj hJ => mod_step m c ⟨t.val - 15 + (j + 1), hj⟩ (by show 2 ≤ (t.val - 15 + (j + 1)) % 17; omega) k l)
      15 (by omega) (by omega)
    simp only [hs] at key
    refine key.trans (sum_parts fun p => sum_parts fun r => ?_)
    refine congrArg₂ (fun b n => callMod m c k b n l) (Fin.ext ?_) (Fin.ext ?_)
    · show (t.val - 15 + p.val) / 17 = t.val / 17; omega
    · show (t.val - 15 + p.val) % 17 * 256 + r.val = (p.val + 1) * 256 + r.val; omega

theorem value_seg : (dats m 0 c).arrAt 6 (cfgs 0).N = fun j : S2x2x2x1024.Idx => callSeg m c (j 2) (j 0) (j 1) (j 3) := by
  refine (dats m 0 c).arrAt_eq_of_covers 6 _ (by decide +kernel) fun t hf y => ?_
  blk_simp
  have e : ((View.whole main_v2_2).slice (win0_6.rect t)).emb y = ix4 (bat t) ⟨min (t.val % 17) 1, by omega⟩ (y 2) (y 3) := by blk_ext [idx t, bat]
  have e' : y = ix4 0 0 (y 2) (y 3) := by blk_ext
  rw [after0_6]
  have E := congrArg (fun j : S2x2x2x1024.Idx => callSeg m c (j 2) (j 0) (j 1) (j 3)) e.symm
  exact (congrArg _ e').trans ((point_seg m c t (flush_seg t hf) (y 2) (y 3)).trans E)

end Cert.Proof.Norm

end
-- ==== Proof.NormRun.lean ====
/- The norm's run: the host's joined tokens, the backward call, and what the three results hold at the end. -/
module

public import proofs.«01_k».proof.Proof.NormValue
public import proofs.«01_k».proof.Proof.Gen.Norm
public import proofs.«01_k».proof.Defs

@[expose] public section

set_option maxRecDepth 16384

noncomputable section

namespace Cert.Proof.Norm

open Cert.NormIdeal Cert.NormIdeal.Gen Idealize.ShloMosaic Idealize.ShloMosaic.TcCoe Idealize.SL.Sem
open Cert.Proof.Readout (sum_one sum_single sum_parts)

/-! The program and its idealization have the same text: the run over any floats is the run of both. -/

theorem same_calls : Cert.Norm.defs₀ (F := Bits) = Cert.NormIdeal.defs₀ (F := Bits) := by
  unfold Cert.Norm.defs₀ Cert.NormIdeal.defs₀
  refine congrArg Defs.onTc (funext fun l => funext fun a => ?_)
  match l, a with
  | 0, (t, s) => rfl
  | ⟨_ + 1, h⟩, _ => exact absurd h (Nat.not_lt.2 (Nat.le_add_left _ _))

theorem same_defs : Cert.Norm.defs (F := Bits) = Cert.NormIdeal.defs (F := Bits) := congrArg (Pipeline.defs _) same_calls

theorem frame_norm : Cert.quiescent_Norm := fun m ρ _ => by
  rw [same_defs]
  exact Cert.NormIdeal.Gen.frame (F := Bits) m ρ

variable (m : (ℓ : Loc nD τ sig) → Buf (Elt Ideal) ℓ) (ρ : Dev nD → PrngReg) (c : Dev nD)

/-- What a buffer holds at the end that is no array of the call. -/
abbrev Wend (b : Ref sig .tc) : Buf (Elt Ideal) ((c.tc : Thread nD τ).loc b) := Pipeline.afterTail₀ cfgs (dats m) 0 (V0 m) [hostOps1] c b

/-- The run's end: the results, and the arguments unchanged. -/
theorem ends : θ_run defs (onTc (τ := τ) (main (F := Ideal))) ⟨m, fun _ => 0, ρ⟩ (fun r => ∀ c : Dev nD,
      r.2.mem ((c.tc : Thread nD τ).loc main_v4) = Wend m c main_v4
      ∧ r.2.mem ((c.tc : Thread nD τ).loc main_v5) = Wend m c main_v5
      ∧ r.2.mem ((c.tc : Thread nD τ).loc main_v2_2) = (dats m 0 c).arrAt 6 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (θ_run_and (run_main m ρ) (unchanged m ρ)) fun r h c =>
    ⟨(h.1 c).2 main_v4 (Pipeline.mem_restRefs_of main_v4 (by decide) (by decide)),
     (h.1 c).2 main_v5 (Pipeline.mem_restRefs_of main_v5 (by decide) (by decide)), (h.1 c).1 6, h.2 c⟩

abbrev argX : Tokens 4096 := m ((c : Thread nD τ).loc main_arg0)
abbrev argC : Tokens 256 := m ((c : Thread nD τ).loc main_arg1)
abbrev argG : Gains := m ((c : Thread nD τ).loc main_arg2)
abbrev argM : Mods := m ((c : Thread nD τ).loc main_arg3)
abbrev argD : Tokens 4352 := m ((c : Thread nD τ).loc main_arg4)
abbrev argH : Tokens 4352 := m ((c : Thread nD τ).loc main_arg5)

theorem enter_h (b : Fin 2) (t : Fin 4352) (l : Fin 1024) : inH m c (ix3 b t l) = joined (argX m c) (argC m c) b t l := by
  refine (show inH m c (ix3 b t l) = concatenate S2x4352x1024 1 [⟨S2x256x1024, argC m c⟩, ⟨S2x4096x1024, argX m c⟩]
    concatenates_S2x256x1024_S2x4096x1024_S2x4352x1024_d1 (ix3 b t l) from rfl).trans ?_
  unfold joined
  pointwise []
theorem enter_g (l : Fin 1024) : inG m c (ix2 0 l) = argG m c (ix1 l) := by
  refine (show inG m c (ix2 0 l) = broadcastInDim S1x1024 ![1] bcast_S1024_S1x1024_1 (argG m c) (ix2 0 l) from rfl).trans ?_
  pointwise []
theorem enter_m : inM m c = argM m c := V_main_arg3 m c
theorem enter_d : inD m c = argD m c := V_main_arg4 m c

theorem call_grad (b : Fin 2) (t : Fin 4352) (l : Fin 1024) : callGrad m c (ix3 b t l)
    = grad (argX m c) (argC m c) (argG m c) (argM m c) (argD m c) b t l :=
  rowGrad_congr (fun l => enter_h m c b t l) (fun l => congrFun (enter_m m c) _) (fun l => enter_g m c l) (fun l => congrFun (enter_d m c) _)
    (enter_h m c b t l) (congrFun (enter_m m c) _) (enter_g m c l) (congrFun (enter_d m c) _)

theorem call_gain (b : Fin 2) (t : Fin 4352) (l : Fin 1024) : callGain m c b t l = gainAt (argX m c) (argC m c) (argM m c) (argD m c) b t l :=
  gainPart_congr (fun l => enter_h m c b t l) (enter_h m c b t l) (congrFun (enter_m m c) _) (congrFun (enter_d m c) _)

theorem call_mod (k b : Fin 2) (t : Fin 4352) (l : Fin 1024) : callMod m c k b t l = modAt (argX m c) (argC m c) (argG m c) (argD m c) k b t l :=
  modPart_congr k (fun l => enter_h m c b t l) (enter_h m c b t l) (enter_g m c l) (congrFun (enter_d m c) _)

/-- What the last host operations find. -/
abbrev Vend (b : Ref sig .tc) : Buf (Elt Ideal) ((c.tc : Thread nD τ).loc b) :=
  Pipeline.withArrays (cfgs 0).spec c (V0 m c) (fun w => (dats m 0 c).arrAt w (cfgs 0).N) (Proc.devRef .tc b)

theorem found (w : Fin (cfgs 0).W) : Vend m c (Pipeline.arrRef (cfgs 0).spec w) = (dats m 0 c).arrAt w (cfgs 0).N :=
  Pipeline.withArrays_arr (cfgs 0).spec launch0.win.arr_inj c _ _ w

theorem found_h : Vend m c main_arg5 = argH m c :=
  (Pipeline.withArrays_of_ne (cfgs 0).spec c _ _ main_arg5 (by decide)).trans (V_main_arg5 m c)

theorem final_x : Wend m c main_v4 = gradX (argX m c) (argC m c) (argG m c) (argM m c) (argD m c) (argH m c) := by
  refine (show Wend m c main_v4 = extractStridedSlice S2x4096x1024 ![0, 256, 0] (addf (F := Ideal) (φ := .f32) (Vend m c main_arg5) (Vend m c main_v2_0))
    slices_S2x4352x1024_S2x4096x1024_0_256_0 from rfl).trans ?_
  rw [found_h, show Vend m c main_v2_0 = callGrad m c from (found m c 4).trans (value_row m c)]
  funext i
  pointwise []
  have hi : (i 1).val < 4096 := (i 1).isLt
  have e : (⟨256 + (i 1).val, by omega⟩ : Fin 4352) = ⟨(i 1).val + 256, by omega⟩ := Fin.ext (Nat.add_comm _ _)
  exact (congrArg (fun t : Fin 4352 => argH m c (ix3 (i 0) t (i 2)) + callGrad m c (ix3 (i 0) t (i 2))) e).trans
    (congrArg (argH m c (ix3 (i 0) ⟨(i 1).val + 256, by omega⟩ (i 2)) + ·) (call_grad m c _ _ _))

theorem gains (l : Fin 1024) : callGains m c l = ∑ b : Fin 2, ∑ t : Fin 4352, gainAt (argX m c) (argC m c) (argM m c) (argD m c) b t l := by
  refine Eq.trans (Finset.sum_comm.trans ?_) (Readout.sum_stretches fun b t => gainAt (argX m c) (argC m c) (argM m c) (argD m c) b t l)
  exact sum_parts fun r => sum_parts fun p => call_gain m c _ _ _

theorem final_gain : Wend m c main_v5 = gainGrads (argX m c) (argC m c) (argM m c) (argD m c) := by
  refine (show Wend m c main_v5 = shapeCast S1024 (Vend m c main_v2_1) shapeCasts_S1x1024_S1024 from rfl).trans ?_
  rw [show Vend m c main_v2_1 = fun j : S1x1024.Idx => callGains m c (j 1) from (found m c 5).trans (value_gain m c)]
  funext i
  pointwise []
  exact gains m c (i 0)

theorem seg_grad (k b s : Fin 2) (l : Fin 1024) : callSeg m c k b s l = segGrad (argX m c) (argC m c) (argG m c) (argD m c) k b s l :=
  match s with
  | 0 => sum_parts fun _ => call_mod m c _ _ _ _
  | 1 => (sum_parts fun _ => sum_parts fun _ => call_mod m c _ _ _ _).trans
      (sum_rest fun t => modAt (argX m c) (argC m c) (argG m c) (argD m c) k b t l)

theorem final_mod : (dats m 0 c).arrAt 6 (cfgs 0).N = modGrads (argX m c) (argC m c) (argG m c) (argD m c) :=
  (value_seg m c).trans (funext fun j => seg_grad m c (j 2) (j 0) (j 1) (j 3))

end Cert.Proof.Norm

end
-- ==== Proof.NormRef.lean ====
/- The reference's derivative of the norm: the gradients of the tokens, of the gain, and of the shifts and scales. -/
module

public import proofs.«01_k».proof.Proof.Gen.NormRefIdeal.Read
public import proofs.«01_k».proof.Proof.NormMath
public import proofs.«01_k».proof.Proof.HostSum
public import Idealize.ShloMosaic.Lib.Pipeline.ValueKit

@[expose] public section

set_option maxRecDepth 16384

noncomputable section

namespace Cert.Proof.Norm

open Cert.NormRefIdeal Cert.NormRefIdeal.Read Idealize.ShloMosaic Idealize.ShloMosaic.TcCoe Idealize.SL.Sem
open Cert.Proof.Readout (sum_one sum_single sum_parts)

variable (x : Tokens 4096) (ctx : Tokens 256) (gain : Gains) (mod : Mods) (da dh : Tokens 4352)

/-- A token of the first 256, of both arrays side by side. -/
theorem joined_first (b : Fin 2) (t : Fin 256) : joined x ctx b ⟨t.val, by omega⟩ = fun l => ctx (ix3 b t l) := by
  funext l; exact dif_pos t.isLt

/-- One of the other 4096. -/
theorem joined_rest (b : Fin 2) (t : Fin 4096) : joined x ctx b ⟨t.val + 256, by omega⟩ = fun l => x (ix3 b t l) := by
  funext l
  refine (dif_neg (by show ¬ t.val + 256 < 256; omega)).trans (congrArg (fun n => x (ix3 b n l)) (Fin.ext ?_))
  show t.val + 256 - 256 = t.val; omega

theorem seg_first (t : Fin 256) : seg ⟨t.val, by omega⟩ = 0 := Fin.ext (by show min (t.val / 256) 1 = 0; omega)
theorem seg_rest (t : Fin 4096) : seg ⟨t.val + 256, by omega⟩ = 1 := Fin.ext (by show min ((t.val + 256) / 256) 1 = 1; omega)

/-- What the token at `t` and `l` adds to the gradient of the gain: among the first 256, and among the others. -/
theorem ref_gain_first (b : Fin 2) (t : Fin 256) (l : Fin 1024) : val_main_v69 (F := Ideal) ctx mod da (ix3 b t l)
    = gainAt x ctx mod da b ⟨t.val, by omega⟩ l := by
  unfold gainAt
  rw [joined_first, seg_first]
  pointwise [val_main_v69, val_main_v66, val_main_v65, val_main_v59, val_main_v58, val_main_v51, val_main_v50, val_main_v49, val_main_v48,
    val_main_v7, val_main_v6, val_main_cst_8, val_main_v44, val_main_v43, val_main_v39, val_main_v38, val_main_v37, val_main_v36, val_main_v35,
    val_main_v34, val_main_v33, val_main_v32, val_main_cst_4, val_main_cst_5, val_main_cst_6]
  rfl

theorem ref_gain_rest (b : Fin 2) (t : Fin 4096) (l : Fin 1024) : val_main_v98 (F := Ideal) x mod da (ix3 b t l)
    = gainAt x ctx mod da b ⟨t.val + 256, by omega⟩ l := by
  unfold gainAt
  rw [joined_rest, seg_rest]
  pointwise [val_main_v98, val_main_v95, val_main_v94, val_main_v57, val_main_v56, val_main_v27, val_main_v26, val_main_v25, val_main_v24,
    val_main_v3, val_main_v2, val_main_cst_3, val_main_v20, val_main_v19, val_main_v15, val_main_v14, val_main_v13, val_main_v12, val_main_v11,
    val_main_v10, val_main_v9, val_main_v8, val_main_cst, val_main_cst_0, val_main_cst_1]
  simp only [Nat.add_comm 256]
  rfl

theorem zero13 (i) : val_main_cst_13 (F := Ideal) i = 0 := by pointwise [val_main_cst_13]
theorem zero14 (i) : val_main_cst_14 (F := Ideal) i = 0 := by pointwise [val_main_cst_14]
theorem zero22 (i) : val_main_cst_22 (F := Ideal) i = 0 := by pointwise [val_main_cst_22]
theorem zero23 (i) : val_main_cst_23 (F := Ideal) i = 0 := by pointwise [val_main_cst_23]

theorem ref_gain_at (l : Fin 1024) : val_main_v104 (F := Ideal) x ctx mod da (ix1 l) = gainGrads x ctx mod da (ix1 l) := by
  pointwise [val_main_v104, val_main_v74, val_main_v103]
  rw [hostSum_first_two, hostSum_first_two]
  pointwise [val_main_v71, val_main_v100, val_main_v70, val_main_v99]
  rw [hostSum_first_two, hostSum_first_two, zero13, zero14, zero22, zero23]
  refine (congrArg₂ (· + ·) ((zero_add _).trans ((sum_one _).trans ((sum_one _).trans (zero_add _))))
    ((zero_add _).trans ((sum_one _).trans ((sum_one _).trans (zero_add _))))).trans ?_
  refine Eq.trans ?_ (sum_segments fun b t => gainAt x ctx mod da b t l).symm
  exact congrArg₂ (· + ·) (sum_parts fun b => sum_parts fun t => ref_gain_first x ctx mod da b t l)
    (sum_parts fun b => sum_parts fun t => ref_gain_rest x ctx mod da b t l)

theorem ref_gain : val_main_v104 (F := Ideal) x ctx mod da = gainGrads x ctx mod da := by
  funext i
  have hi : i = ix1 (i 0) := by blk_ext
  rw [hi]
  exact ref_gain_at x ctx mod da (i 0)

theorem ref_row (b : Fin 2) (t : Fin 4096) (l : Fin 1024) : val_main_v118 (F := Ideal) x gain mod da (ix3 b t l)
    = grad x ctx gain mod da b ⟨t.val + 256, by omega⟩ l := by
  unfold grad
  rw [joined_rest, seg_rest]
  pointwise [val_main_v118, val_main_v117, val_main_v116, val_main_v115, val_main_v114, val_main_v113, val_main_cst_26,
    val_main_v112, val_main_v111, val_main_cst_25, val_main_v110, val_main_v109, val_main_v108, val_main_v107, val_main_v106, val_main_cst_24, val_main_v105,
    val_main_v102, val_main_v101, val_main_v21, val_main_v22, val_main_v18, val_main_v17, val_main_v16, val_main_cst_2,
    val_main_v95, val_main_v94, val_main_v57, val_main_v56, val_main_v27, val_main_v26, val_main_v25, val_main_v24, val_main_v3, val_main_v2, val_main_cst_3,
    val_main_v20, val_main_v19, val_main_v15, val_main_v14, val_main_v13, val_main_v12, val_main_v11, val_main_v10, val_main_v9, val_main_v8, val_main_cst,
    val_main_cst_0, val_main_cst_1]
  simp only [Nat.add_comm 256]
  exact congrArg₂ (· + ·) (congrArg₂ (· + ·) rfl (congrArg (x (ix3 b t l) * ·) (sum_one _))) (congrArg (· * x (ix3 b t l)) (sum_one _))

theorem ref_x : val_main_v126 (F := Ideal) x gain mod da dh = gradX x ctx gain mod da dh := by
  funext i
  have hi : i = ix3 (i 0) (i 1) (i 2) := by blk_ext
  pointwise [val_main_v126, val_main_v125]
  simp only [Nat.add_comm 256]
  exact congrArg (dh _ + ·) ((congrArg (val_main_v118 (F := Ideal) x gain mod da) hi).trans (ref_row x ctx gain mod da (i 0) (i 1) (i 2)))

/-! The four gradients of the shifts and scales: the first 256 tokens and the others. -/

theorem ref_shift_first (b : Fin 2) (l : Fin 1024) : val_main_v68 (F := Ideal) da (ix2 b l) = segGrad x ctx gain da 0 b 0 l := by
  pointwise [val_main_v68, val_main_v61, val_main_v60, val_main_v59, val_main_v58, val_main_cst_9, val_main_cst_12]
  exact sum_one _

theorem ref_shift_rest (b : Fin 2) (l : Fin 1024) : val_main_v97 (F := Ideal) da (ix2 b l) = segGrad x ctx gain da 0 b 1 l := by
  pointwise [val_main_v97, val_main_v90, val_main_v89, val_main_v57, val_main_v56, val_main_cst_18, val_main_cst_21]
  simp only [Nat.add_comm 256]
  exact sum_one _

theorem ref_scale_first (b : Fin 2) (l : Fin 1024) : val_main_v67 (F := Ideal) ctx gain da (ix2 b l) = segGrad x ctx gain da 1 b 0 l := by
  pointwise [val_main_v67, val_main_v64, val_main_v63, val_main_v62, val_main_cst_10, val_main_cst_11, val_main_v59, val_main_v58, val_main_v47, val_main_v46, val_main_v45,
    val_main_v44, val_main_v43, val_main_v39, val_main_v38, val_main_v37, val_main_v36, val_main_v35,
    val_main_v34, val_main_v33, val_main_v32, val_main_cst_4, val_main_cst_5, val_main_cst_6]
  refine (sum_one _).trans (sum_parts fun t => ?_)
  unfold modAt
  rw [joined_first]
  rfl

theorem ref_scale_rest (b : Fin 2) (l : Fin 1024) : val_main_v96 (F := Ideal) x gain da (ix2 b l) = segGrad x ctx gain da 1 b 1 l := by
  pointwise [val_main_v96, val_main_v93, val_main_v92, val_main_v91, val_main_cst_19, val_main_cst_20, val_main_v57, val_main_v56, val_main_v23, val_main_v22, val_main_v21,
    val_main_v20, val_main_v19, val_main_v15, val_main_v14, val_main_v13, val_main_v12, val_main_v11,
    val_main_v10, val_main_v9, val_main_v8, val_main_cst, val_main_cst_0, val_main_cst_1]
  simp only [Nat.add_comm 256]
  refine (sum_one _).trans (sum_parts fun t => ?_)
  unfold modAt
  rw [joined_rest]
  rfl

/-- A segment's gradient is the one of its four. -/
theorem ref_seg (k b s : Fin 2) (l : Fin 1024) : (if _ : s.val < 1 then
      if _ : k.val < 1 then val_main_v68 (F := Ideal) da (ix2 b l) else val_main_v67 (F := Ideal) ctx gain da (ix2 b l)
    else if _ : k.val < 1 then val_main_v97 (F := Ideal) da (ix2 b l) else val_main_v96 (F := Ideal) x gain da (ix2 b l))
    = segGrad x ctx gain da k b s l :=
  match s, k with
  | 0, 0 => ref_shift_first x ctx gain da b l
  | 0, 1 => ref_scale_first x ctx gain da b l
  | 1, 0 => ref_shift_rest x ctx gain da b l
  | 1, 1 => ref_scale_rest x ctx gain da b l

theorem ref_mod : val_main_v129 (F := Ideal) x ctx gain da = modGrads x ctx gain da := by
  funext i
  pointwise [val_main_v129, val_main_v128, val_main_v127, val_main_v121, val_main_v124, val_main_v119, val_main_v120, val_main_v122, val_main_v123]
  exact ref_seg x ctx gain da (i 2) (i 0) (i 1) (i 3)

end Cert.Proof.Norm

end
-- ==== Proof.AdaMath.lean ====
/- The modulation of the layers from the conditioning, its two gradients, and a sum over the devices' or examples' parts,
as formulas over the extended reals. -/
module

public import proofs.«01_k».proof.Proof.Products

@[expose] public section

noncomputable section

namespace Cert.Proof.Ada

open Idealize.ShloMosaic

/-- A stack of `l` matrices. -/
abbrev Stack (l m n : ℕ) : Type := (⟨3, ![l, m, n]⟩ : Shape).Idx → EReal

/-- The matrix at place `a` of a stack. -/
def at' {l m n : ℕ} (x : Stack l m n) (a : Fin l) : Mat m n := fun i => x (ix3 a (i 0) (i 1))

/-- Each layer's modulation: the conditioning's rows times the layer's weight. -/
def modulation {l r d n : ℕ} (s : Mat r d) (w : Stack l d n) : Stack l r n := fun i => apply s (at' w (i 0)) (ix2 (i 1) (i 2))

/-- The gradient of each layer's weight. -/
def weightGrad {l r d n : ℕ} (s : Mat r d) (dm : Stack l r n) : Stack l d n := fun i => outer s (at' dm (i 0)) (ix2 (i 1) (i 2))

/-- The gradient of the conditioning's rows, from all layers. -/
def condGrad {l r d n : ℕ} (dm : Stack l r n) (w : Stack l d n) : Mat r d := fun i => ∑ a : Fin l, applyT (at' dm a) (at' w a) i

/-- The sum of a stack's matrices. -/
def total {l m n : ℕ} (x : Stack l m n) : Mat m n := fun i => ∑ a : Fin l, x (ix3 a (i 0) (i 1))

/-- Sums of products with equal factors. -/
theorem sum_products {n : ℕ} {f g f' g' : Fin n → EReal} (hf : ∀ l, f l = f' l) (hg : ∀ l, g l = g' l) :
    ∑ l, f l * g l = ∑ l, f' l * g' l := Finset.sum_congr rfl fun l _ => by rw [hf, hg]

theorem condGrad_of {l r d n : ℕ} {dm : Stack l r n} {w : Stack l d n} {i : (⟨2, ![r, d]⟩ : Shape).Idx} {f : Fin l → EReal}
    (h : ∀ a, f a = applyT (at' dm a) (at' w a) i) : ∑ a, f a = condGrad dm w i := Finset.sum_congr rfl fun a _ => h a

/-! The sums written out, in the order in which the parts are added. -/

theorem total_4 {m n : ℕ} (x : Stack 4 m n) (i : (⟨2, ![m, n]⟩ : Shape).Idx) : total x i =
    x (ix3 0 (i 0) (i 1)) + x (ix3 1 (i 0) (i 1)) + x (ix3 2 (i 0) (i 1)) + x (ix3 3 (i 0) (i 1)) := by
  unfold total
  simp only [Fin.sum_univ_castSucc, Fin.sum_univ_zero, zero_add]
  rfl

theorem total_8 {m n : ℕ} (x : Stack 8 m n) (i : (⟨2, ![m, n]⟩ : Shape).Idx) : total x i =
    x (ix3 0 (i 0) (i 1)) + x (ix3 1 (i 0) (i 1)) + x (ix3 2 (i 0) (i 1)) + x (ix3 3 (i 0) (i 1)) + x (ix3 4 (i 0) (i 1)) +
    x (ix3 5 (i 0) (i 1)) + x (ix3 6 (i 0) (i 1)) + x (ix3 7 (i 0) (i 1)) := by
  unfold total
  simp only [Fin.sum_univ_castSucc, Fin.sum_univ_zero, zero_add]
  rfl

theorem total_17 {m n : ℕ} (x : Stack 17 m n) (i : (⟨2, ![m, n]⟩ : Shape).Idx) : total x i =
    x (ix3 0 (i 0) (i 1)) + x (ix3 1 (i 0) (i 1)) + x (ix3 2 (i 0) (i 1)) + x (ix3 3 (i 0) (i 1)) + x (ix3 4 (i 0) (i 1)) +
    x (ix3 5 (i 0) (i 1)) + x (ix3 6 (i 0) (i 1)) + x (ix3 7 (i 0) (i 1)) + x (ix3 8 (i 0) (i 1)) + x (ix3 9 (i 0) (i 1)) +
    x (ix3 10 (i 0) (i 1)) + x (ix3 11 (i 0) (i 1)) + x (ix3 12 (i 0) (i 1)) + x (ix3 13 (i 0) (i 1)) + x (ix3 14 (i 0) (i 1)) +
    x (ix3 15 (i 0) (i 1)) + x (ix3 16 (i 0) (i 1)) := by
  unfold total
  simp only [Fin.sum_univ_castSucc, Fin.sum_univ_zero, zero_add]
  rfl

end Cert.Proof.Ada

end
-- ==== Proof.AdaValue.lean ====
/- What the calls of the modulation and of the sums leave in their results, whatever their arguments' arrays hold. -/
module

public import proofs.«01_k».proof.Proof.Gen.AdaIdeal.Frame
public import proofs.«01_k».proof.Proof.AdaMath
public import Idealize.ShloMosaic.Lib.Pipeline.ValueKit
public import Idealize.ShloMosaic.Lib.Pipeline.ReadBack

@[expose] public section

set_option maxRecDepth 16384

noncomputable section

namespace Cert.Proof.Ada

open Cert.AdaIdeal Cert.AdaIdeal.Gen Idealize.ShloMosaic Idealize.ShloMosaic.TcCoe Idealize.SL.Sem

variable (V : (c : Dev nD) → (b : Ref sig .tc) → Buf (Elt Ideal) ((c : Thread nD τ).loc b)) (c : Dev nD)

/-! The modulation and the two gradients: one layer at a point of the grid. -/

theorem idx0 : ∀ t : Fin cfg0.N, win0_0.index t = ![0, 0] ∧ win0_1.index t = ![t.val, 0, 0] ∧ win0_2.index t = ![t.val, 0, 0] :=
  (by decide +kernel : ∀ t : Fin grid0.N, _)

theorem idx1 : ∀ t : Fin cfg1.N, win1_0.index t = ![0, 0] ∧ win1_1.index t = ![t.val, 0, 0] ∧ win1_2.index t = ![t.val, 0, 0] :=
  (by decide +kernel : ∀ t : Fin grid1.N, _)

theorem idx2 : ∀ t : Fin cfg2.N, win2_0.index t = ![t.val, 0, 0] ∧ win2_1.index t = ![t.val, 0, 0] ∧ win2_2.index t = ![0, 0] :=
  (by decide +kernel : ∀ t : Fin grid2.N, _)

theorem value0 : (dat0 V c).arrAt 2 cfg0.N = modulation (l := 4) (r := 32) (d := 1024) (n := 1536) (V c main_arg0) (V c main_arg1) := by
  refine (dat0 V c).arrAt_eq_of_covers 2 _ (by decide +kernel) fun t _ y => ?_
  blk_simp
  rw [after0_2]; unfold out0_2; frame_out
  pointwise [k0_pay1]
  unfold modulation apply at'
  refine sum_products (fun l => ?_) fun l => ?_ <;> blk_ext [iblk0, idx0 t]

theorem value1 : (dat1 V c).arrAt 2 cfg1.N = weightGrad (l := 4) (r := 32) (d := 1024) (n := 1536) (V c main_arg0) (V c main_arg2) := by
  refine (dat1 V c).arrAt_eq_of_covers 2 _ (by decide +kernel) fun t _ y => ?_
  blk_simp
  rw [after1_2]; unfold out1_2; frame_out
  pointwise [k1_pay1]
  unfold weightGrad outer at'
  refine sum_products (fun l => ?_) fun l => ?_ <;> blk_ext [iblk1, idx1 t]

/-- The sum over the layers starts from zero. -/
theorem zero (i : S32x1024.Idx) : k2_pay1 (F := Ideal) i = 0 := by pointwise [k2_pay1]

/-- A layer's point adds its product. -/
theorem add (a : Mat 32 1024) (dm : Stack 1 32 1536) (w : Stack 1 1024 1536) (i : S32x1024.Idx) :
    k2_pay2 (F := Ideal) a dm w i = a i + applyT (at' dm 0) (at' w 0) i := by
  pointwise [k2_pay2]
  rfl

theorem value2 : (dat2 V c).arrAt 2 cfg2.N = condGrad (l := 4) (r := 32) (d := 1024) (n := 1536) (V c main_arg2) (V c main_arg1) := by
  refine (dat2 V c).arrAt_eq_of_covers 2 _ (by decide +kernel) fun t hf y => ?_
  blk_simp
  rw [after2_2, Pipeline.eq_sum_fin_of_reset_step_apply_of_flush (fun n h => outsAt2 V c n h) 4 (fun _ => 0)
    (fun p => applyT (at' (l := 1) (m := 32) (n := 1536) (iblk2 V c 0 p) 0) (at' (l := 1) (m := 1024) (n := 1536) (iblk2 V c 1 p) 0))
    (fun t h j => by rw [outsAt2_A V c t h]; frame_out; exact (add _ _ _ _).trans (by rw [zero]))
    (fun t h j => by rw [outsAt2_B V c t h]; frame_out; exact add _ _ _ _) t ((flush2_2 t).mp hf) _, zero_add]
  refine condGrad_of fun s => applyT_congr (fun l => ?_) fun l => ?_ <;> unfold at' <;>
    blk_ext [iblk2, idx2 t, idx2 ⟨_, Pipeline.run_point_lt_of_flush t ((flush2_2 t).mp hf) s⟩]

/-! The sums: the parts are added one after the other in a block of rows. -/

theorem idx3 : ∀ t : Fin cfg3.N, win3_0.index t = ![0, t.val, 0] ∧ win3_1.index t = ![t.val, 0] :=
  (by decide +kernel : ∀ t : Fin grid3.N, _)

theorem idx4 : ∀ t : Fin cfg4.N, win4_0.index t = ![0, t.val, 0] ∧ win4_1.index t = ![t.val, 0] :=
  (by decide +kernel : ∀ t : Fin grid4.N, _)

theorem idx5 : ∀ t : Fin cfg5.N, win5_0.index t = ![0, t.val, 0] ∧ win5_1.index t = ![t.val, 0] :=
  (by decide +kernel : ∀ t : Fin grid5.N, _)

theorem value4 : (dat4 V c).arrAt 1 cfg4.N = total (l := 4) (m := 8) (n := 1024) (V c main_arg4) := by
  refine (dat4 V c).arrAt_eq_of_covers 1 _ (by decide +kernel) fun t _ y => ?_
  blk_simp
  rw [after4_1]; unfold out4_1; frame_out
  refine Eq.trans ?_ (total_4 _ _).symm
  pointwise [k4_pay1]
  blk_point [iblk4, idx4 t]

theorem value5 : (dat5 V c).arrAt 1 cfg5.N = total (l := 8) (m := 512) (n := 1024) (V c main_arg5) := by
  refine (dat5 V c).arrAt_eq_of_covers 1 _ (by decide +kernel) fun t _ y => ?_
  blk_simp
  rw [after5_1]; unfold out5_1; frame_out
  refine Eq.trans ?_ (total_8 _ _).symm
  pointwise [k5_pay1]
  blk_point [iblk5, idx5 t]

theorem value3 : (dat3 V c).arrAt 1 cfg3.N = total (l := 17) (m := 24) (n := 1024) (V c main_arg3) := by
  refine (dat3 V c).arrAt_eq_of_covers 1 _ (by decide +kernel) fun t _ y => ?_
  blk_simp
  rw [after3_1]; unfold out3_1; frame_out
  refine Eq.trans ?_ (total_17 _ _).symm
  pointwise [k3_pay1, k3_pay2]
  blk_point [iblk3, idx3 t]

end Cert.Proof.Ada

end
-- ==== Proof.AdaRun.lean ====
/- The modulation's run: its six calls one after the other, and what the six results hold at the end. -/
module

public import proofs.«01_k».proof.Proof.AdaValue

@[expose] public section

set_option maxRecDepth 16384

noncomputable section

namespace Cert.Proof.Ada

open Cert.AdaIdeal Cert.AdaIdeal.Gen Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds

/-- The resources the launch hands out. -/
abbrev Res := MT nD τ sig Unit (Elt Ideal) ℕ (UR sig nD τ) ℕ

variable (m : (ℓ : Loc nD τ sig) → Buf (Elt Ideal) ℓ) (ρ : Dev nD → PrngReg) (c : Dev nD)

-- the launch's implicit arguments are found by unifying its conclusion with this one
set_option backward.isDefEq.respectTransparency.types false in
/-- Every run of the six calls ends, with every array that outlives a call at the last boundary's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The run's end: each result as the last boundary has it, and the arguments unchanged. -/
theorem ends : θ_run defs (onTc (τ := τ) (main (F := Ideal))) ⟨m, fun _ => 0, ρ⟩ (fun r => ∀ c : Dev nD,
      r.2.mem ((c.tc : Thread nD τ).loc main_v0) = W6 m ρ c main_v0
      ∧ r.2.mem ((c.tc : Thread nD τ).loc main_v1) = W6 m ρ c main_v1
      ∧ r.2.mem ((c.tc : Thread nD τ).loc main_v2) = W6 m ρ c main_v2
      ∧ r.2.mem ((c.tc : Thread nD τ).loc main_v3) = W6 m ρ c main_v3
      ∧ r.2.mem ((c.tc : Thread nD τ).loc main_v4) = W6 m ρ c main_v4
      ∧ r.2.mem ((c.tc : Thread nD τ).loc main_v5) = W6 m ρ c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  θ_run_mono (run m ρ) fun r h c => ⟨h c _ (mem_uc main_v0 (by decide)),
    h c _ (mem_uc main_v1 (by decide)),
    h c _ (mem_uc main_v2 (by decide)),
    h c _ (mem_uc main_v3 (by decide)),
    h c _ (mem_uc main_v4 (by decide)),
    h c _ (mem_uc main_v5 (by decide)),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c)⟩

/-! The results at the end: a call's result is written once, and the calls read the arguments. -/

/-- A call keeps the arrays that are none of its results. -/
abbrev Kept {W : ℕ} (ref : Fin W → Ref sig .tc) (out : Fin W → Bool) (r : Ref sig .tc) : Prop := ∀ w, ref w = r → out w = false

abbrev Kept5 (r : Ref sig .tc) : Prop := Kept (Pipeline.arrRef spec5) (fun w => (cfg5.win w).isOut) r
abbrev Kept4 (r : Ref sig .tc) : Prop := Kept (Pipeline.arrRef spec4) (fun w => (cfg4.win w).isOut) r ∧ Kept5 r
abbrev Kept3 (r : Ref sig .tc) : Prop := Kept (Pipeline.arrRef spec3) (fun w => (cfg3.win w).isOut) r ∧ Kept4 r
abbrev Kept2 (r : Ref sig .tc) : Prop := Kept (Pipeline.arrRef spec2) (fun w => (cfg2.win w).isOut) r ∧ Kept3 r
abbrev Kept1 (r : Ref sig .tc) : Prop := Kept (Pipeline.arrRef spec1) (fun w => (cfg1.win w).isOut) r ∧ Kept2 r

/-! What a call leaves in an array that no later call writes is there at the end. -/

theorem last5 {r : Ref sig .tc} (h : Kept5 r) : W6 m ρ c r = W5 m ρ c r := W6_of m ρ c r h
theorem last4 {r : Ref sig .tc} (h : Kept4 r) : W6 m ρ c r = W4 m ρ c r := (last5 m ρ c h.2).trans (W5_of m ρ c r h.1)
theorem last3 {r : Ref sig .tc} (h : Kept3 r) : W6 m ρ c r = W3 m ρ c r := (last4 m ρ c h.2).trans (W4_of m ρ c r h.1)
theorem last2 {r : Ref sig .tc} (h : Kept2 r) : W6 m ρ c r = W2 m ρ c r := (last3 m ρ c h.2).trans (W3_of m ρ c r h.1)
theorem last1 {r : Ref sig .tc} (h : Kept1 r) : W6 m ρ c r = W1 m ρ c r := (last2 m ρ c h.2).trans (W2_of m ρ c r h.1)

theorem final0 : W6 m ρ c main_v0 = modulation (l := 4) (r := 32) (d := 1024) (n := 1536) (m ((c : Thread nD τ).loc main_arg0)) (m ((c : Thread nD τ).loc main_arg1)) :=
  (last1 m ρ c (r := main_v0) (by decide)).trans <| (W1_arr m ρ c 2).trans <| (value0 _ c).trans <| congrArg₂ _ rfl rfl
theorem final1 : W6 m ρ c main_v1 = weightGrad (l := 4) (r := 32) (d := 1024) (n := 1536) (m ((c : Thread nD τ).loc main_arg0)) (m ((c : Thread nD τ).loc main_arg2)) :=
  (last2 m ρ c (r := main_v1) (by decide)).trans <| (W2_arr m ρ c 2).trans <| (value1 _ c).trans <| congrArg₂ _ (W1_args m ρ c main_arg0 (by decide)) (W1_args m ρ c main_arg2 (by decide))
theorem final2 : W6 m ρ c main_v2 = condGrad (l := 4) (r := 32) (d := 1024) (n := 1536) (m ((c : Thread nD τ).loc main_arg2)) (m ((c : Thread nD τ).loc main_arg1)) :=
  (last3 m ρ c (r := main_v2) (by decide)).trans <| (W3_arr m ρ c 2).trans <| (value2 _ c).trans <| congrArg₂ _ (W2_args m ρ c main_arg2 (by decide)) (W2_args m ρ c main_arg1 (by decide))
theorem final3 : W6 m ρ c main_v3 = total (l := 17) (m := 24) (n := 1024) (m ((c : Thread nD τ).loc main_arg3)) :=
  (last4 m ρ c (r := main_v3) (by decide)).trans <| (W4_arr m ρ c 1).trans <| (value3 _ c).trans <| congrArg _ (W3_args m ρ c main_arg3 (by decide))
theorem final4 : W6 m ρ c main_v4 = total (l := 4) (m := 8) (n := 1024) (m ((c : Thread nD τ).loc main_arg4)) :=
  (last5 m ρ c (r := main_v4) (by decide)).trans <| (W5_arr m ρ c 1).trans <| (value4 _ c).trans <| congrArg _ (W4_args m ρ c main_arg4 (by decide))
theorem final5 : W6 m ρ c main_v5 = total (l := 8) (m := 512) (n := 1024) (m ((c : Thread nD τ).loc main_arg5)) :=
  (W6_arr m ρ c 1).trans <| (value5 _ c).trans <| congrArg _ (W5_args m ρ c main_arg5 (by decide))

end Cert.Proof.Ada

end
-- ==== Proof.AdaRef.lean ====
/- The reference's results: the modulation, its two gradients and the three sums. -/
module

public import proofs.«01_k».proof.Proof.Gen.AdaRefIdeal.Read
public import proofs.«01_k».proof.Proof.AdaMath
public import Idealize.ShloMosaic.Lib.Pipeline.ValueKit

@[expose] public section

set_option maxRecDepth 16384

noncomputable section

namespace Cert.Proof.Ada

open Cert.AdaRefIdeal Cert.AdaRefIdeal.Read Idealize.ShloMosaic Idealize.ShloMosaic.TcCoe Idealize.SL.Sem

theorem ref_mod (s : Mat 32 1024) (w : Stack 4 1024 1536) : val_main_v2 (F := Ideal) s w = modulation s w := by
  funext i; pointwise [val_main_v2, val_main_v1, val_main_v0]; exact Finset.sum_congr rfl fun l _ => mul_comm _ _

theorem ref_dw (s : Mat 32 1024) (dm : Stack 4 32 1536) : val_main_v6 (F := Ideal) s dm = weightGrad s dm := by
  funext i; pointwise [val_main_v6, val_main_v5, val_main_v3, val_main_v0]; exact Finset.sum_congr rfl fun l _ => mul_comm _ _

theorem ref_ds (w : Stack 4 1024 1536) (dm : Stack 4 32 1536) : val_main_v4 (F := Ideal) w dm = condGrad dm w := by
  funext i; pointwise [val_main_v4, val_main_v3]
  rfl

theorem ref_rows (x : Stack 17 24 1024) : val_main_v7 (F := Ideal) x = total x := by
  funext i; pointwise [val_main_v7, val_main_cst]; rfl

theorem ref_cond (x : Stack 4 8 1024) : val_main_v8 (F := Ideal) x = total x := by
  funext i; pointwise [val_main_v8, val_main_cst_0]; rfl

theorem ref_parts (x : Stack 8 512 1024) : val_main_v9 (F := Ideal) x = total x := by
  funext i; pointwise [val_main_v9, val_main_cst_1]; rfl

end Cert.Proof.Ada

end
-- ==== Proof.ReadoutValue.lean ====
/- What the readout's two calls leave in their results, whatever their arguments' arrays hold. -/
module

public import proofs.«01_k».proof.Proof.Gen.ReadoutIdeal.Frame
public import proofs.«01_k».proof.Proof.ReadoutMath
public import Idealize.ShloMosaic.Lib.Pipeline.ValueKit
public import Idealize.ShloMosaic.Lib.Pipeline.ReadBack

@[expose] public section

set_option maxRecDepth 16384

noncomputable section

namespace Cert.Proof.Readout

open Cert.ReadoutIdeal Cert.ReadoutIdeal.Gen Idealize.ShloMosaic Idealize.ShloMosaic.TcCoe Idealize.SL.Sem

/-- An array of heads, one to a row. -/
abbrev Rows (p q : ℕ) := (⟨3, ![p, q, 128]⟩ : Shape).Idx → EReal

/-- The head of an entry's row. -/
def rowAt {p q : ℕ} (x : Rows p q) (i : (⟨3, ![p, q, 128]⟩ : Shape).Idx) : Head := fun l => x (ix3 (i 0) (i 1) l)

/-- The head in a row of one block. -/
def blockRow (x : Rows 1 2048) (r : Fin 2048) : Head := fun l => x (ix3 0 r l)

/-- The weights in a row of the tile. -/
def tileRow (w : Mat 2048 128) (r : Fin 2048) : Head := fun l => w (ix2 r l)

/-- The row of the tile that a row of the array takes. -/
def inTile (r : Fin 34816) : Fin 2048 := ⟨r.val % 2048, Nat.mod_lt _ (by decide)⟩

/-! One block. -/
section
variable (x a dy : Rows 1 2048) (w : Mat 2048 128) (i : S1x2048x128.Idx)

theorem block_output : k1_pay1 (F := Ideal) x a w i = output (blockRow x (i 1)) (x i) (a i) (w (ix2 (i 1) (i 2))) := by
  pointwise [k1_pay1]
  rfl

theorem block_gate : k0_pay2 (F := Ideal) (k0_pay15 (F := Ideal) x a w dy) i
    = gateGrad (blockRow x (i 1)) (x i) (a i) (w (ix2 (i 1) (i 2))) (dy i) := by
  pointwise [k0_pay2, k0_pay15, k0_pay13, k0_pay12, k0_pay11, k0_pay9, k0_pay8, k0_pay7, k0_pay6, k0_pay5]
  rfl

theorem block_head : k0_pay1 (F := Ideal) (k0_pay5 (F := Ideal) x) (k0_pay10 (F := Ideal) x) (k0_pay17 (F := Ideal) a w dy)
      (k0_pay18 (F := Ideal) x a w dy) (k0_pay19 (F := Ideal) x) i
    = headGrad (blockRow x (i 1)) (blockRow a (i 1)) (tileRow w (i 1)) (blockRow dy (i 1)) (x i) (a i) (w (ix2 (i 1) (i 2))) (dy i) := by
  pointwise [k0_pay1, k0_pay5, k0_pay10, k0_pay17, k0_pay18, k0_pay19, k0_pay14, k0_pay13, k0_pay12, k0_pay9, k0_pay8, k0_pay7, k0_pay6]
  refine (congrArg₂ (· + ·) (congrArg₂ (· + ·) rfl (congrArg (x i * ·) (sum_one _))) (congrArg (· * x i) (sum_one _))).trans ?_
  rfl

/-- What a block gives for the weight of one row and place. -/
def blockPart (j : S2048x128.Idx) : EReal :=
  weightPart (blockRow x (j 0)) (x (ix3 0 (j 0) (j 1))) (a (ix3 0 (j 0) (j 1))) (dy (ix3 0 (j 0) (j 1)))

theorem zero (j : S2048x128.Idx) : k0_pay3 (F := Ideal) j = 0 := by pointwise [k0_pay3]

theorem add (s : Mat 2048 128) (j : S2048x128.Idx) : k0_pay4 (F := Ideal) (k0_pay16 (F := Ideal) x a dy) s j = s j + blockPart x a dy j := by
  pointwise [k0_pay4, k0_pay16, k0_pay14, k0_pay13, k0_pay12, k0_pay11, k0_pay9, k0_pay8, k0_pay6, k0_pay5]
  rfl
end

/-! The arrays. -/

variable (V : (c : Dev nD) → (b : Ref sig .tc) → Buf (Elt Ideal) ((c : Thread nD τ).loc b)) (c : Dev nD)

theorem idx0 : ∀ t : Fin cfg0.N, win0_0.index t = ![t.val / 17, t.val % 17, 0] ∧ win0_1.index t = ![t.val / 17, t.val % 17, 0]
    ∧ win0_2.index t = ![0, 0] ∧ win0_3.index t = ![t.val / 17, t.val % 17, 0] ∧ win0_4.index t = ![t.val / 17, t.val % 17, 0]
    ∧ win0_5.index t = ![t.val / 17, t.val % 17, 0] ∧ win0_6.index t = ![0, 0] :=
  (by decide +kernel : ∀ t : Fin grid0.N, _)

theorem idx1 : ∀ t : Fin cfg1.N, win1_0.index t = ![t.val / 17, t.val % 17, 0] ∧ win1_1.index t = ![t.val / 17, t.val % 17, 0]
    ∧ win1_2.index t = ![0, 0] ∧ win1_3.index t = ![t.val / 17, t.val % 17, 0] :=
  (by decide +kernel : ∀ t : Fin grid1.N, _)

/-- The forward call's result. -/
theorem value_output : (dat1 V c).arrAt 3 cfg1.N = fun i : S2x34816x128.Idx =>
    output (rowAt (V c main_v4) i) (V c main_v4 i) (V c main_v5 i) (V c main_v3 (ix2 (inTile (i 1)) (i 2))) := by
  refine (dat1 V c).arrAt_eq_of_covers 3 _ (by decide +kernel) fun t _ y => ?_
  blk_simp
  rw [after1_3]; unfold out1_3; frame_out
  refine (block_output _ _ _ _).trans ?_
  refine output_congr (fun l => ?_) rfl rfl ?_ <;> dsimp (failIfUnchanged := false) only [blockRow, rowAt, inTile] <;> blk_ext [iblk1, idx1 t]

/-- The backward call's first result at a point. -/
theorem point_head (t : Fin cfg0.N) (i : S1x2048x128.Idx) : (outsAt0 V c t.val t.isLt).1 i
    = headGrad (blockRow (iblk0 V c 0 t) (i 1)) (blockRow (iblk0 V c 1 t) (i 1)) (tileRow (iblk0 V c 2 t) (i 1))
      (blockRow (iblk0 V c 3 t) (i 1)) (iblk0 V c 0 t i) (iblk0 V c 1 t i) (iblk0 V c 2 t (ix2 (i 1) (i 2))) (iblk0 V c 3 t i) := by
  by_cases h : t.val % 34 = 0
  · rw [outsAt0_A V c t h]; frame_out; exact block_head _ _ _ _ _
  · rw [outsAt0_B V c t h]; frame_out; exact block_head _ _ _ _ _

/-- The backward call's second result at a point. -/
theorem point_gate (t : Fin cfg0.N) (i : S1x2048x128.Idx) : (outsAt0 V c t.val t.isLt).2.1 i
    = gateGrad (blockRow (iblk0 V c 0 t) (i 1)) (iblk0 V c 0 t i) (iblk0 V c 1 t i) (iblk0 V c 2 t (ix2 (i 1) (i 2))) (iblk0 V c 3 t i) := by
  by_cases h : t.val % 34 = 0
  · rw [outsAt0_A V c t h]; frame_out; exact block_gate _ _ _ _ _
  · rw [outsAt0_B V c t h]; frame_out; exact block_gate _ _ _ _ _

theorem value_head : (dat0 V c).arrAt 4 cfg0.N = fun i : S2x34816x128.Idx =>
    headGrad (rowAt (V c main_v4) i) (rowAt (V c main_v5) i) (tileRow (V c main_v3) (inTile (i 1))) (rowAt (V c main_v6) i)
      (V c main_v4 i) (V c main_v5 i) (V c main_v3 (ix2 (inTile (i 1)) (i 2))) (V c main_v6 i) := by
  refine (dat0 V c).arrAt_eq_of_covers 4 _ (by decide +kernel) fun t _ y => ?_
  blk_simp
  rw [after0_4]
  refine (point_head V c t _).trans ?_
  refine headGrad_congr (fun l => ?_) (fun l => ?_) (fun l => ?_) (fun l => ?_) rfl rfl ?_ rfl <;>
    dsimp (failIfUnchanged := false) only [blockRow, rowAt, tileRow, inTile] <;> blk_ext [iblk0, idx0 t]

theorem value_gate : (dat0 V c).arrAt 5 cfg0.N = fun i : S2x34816x128.Idx =>
    gateGrad (rowAt (V c main_v4) i) (V c main_v4 i) (V c main_v5 i) (V c main_v3 (ix2 (inTile (i 1)) (i 2))) (V c main_v6 i) := by
  refine (dat0 V c).arrAt_eq_of_covers 5 _ (by decide +kernel) fun t _ y => ?_
  blk_simp
  rw [after0_5]
  refine (point_gate V c t _).trans ?_
  refine gateGrad_congr (fun l => ?_) rfl rfl ?_ rfl <;> dsimp (failIfUnchanged := false) only [blockRow, rowAt, inTile] <;> blk_ext [iblk0, idx0 t]

/-- Row `r` of point `p`'s block, in the array. -/
def rowOf (p : Fin 34) (r : Fin 2048) : Fin 2 × Fin 34816 :=
  (⟨p.val / 17, by omega⟩, ⟨p.val % 17 * 2048 + r.val, by omega⟩)

/-- The weight's gradient before the host's sum: at a row of the tile, the rows of the 34 blocks that take it. -/
theorem value_weight : (dat0 V c).arrAt 6 cfg0.N = fun j : S2048x128.Idx => ∑ p : Fin 34,
    weightPart (fun l => V c main_v4 (ix3 (rowOf p (j 0)).1 (rowOf p (j 0)).2 l)) (V c main_v4 (ix3 (rowOf p (j 0)).1 (rowOf p (j 0)).2 (j 1)))
      (V c main_v5 (ix3 (rowOf p (j 0)).1 (rowOf p (j 0)).2 (j 1))) (V c main_v6 (ix3 (rowOf p (j 0)).1 (rowOf p (j 0)).2 (j 1))) := by
  refine (dat0 V c).arrAt_eq_of_covers 6 _ (by decide +kernel) fun t hf y => ?_
  blk_simp
  rw [after0_6, Pipeline.eq_sum_fin_of_reset_step_apply_of_flush (fun n h => (outsAt0 V c n h).2.2) 34 (fun _ => 0)
    (fun p => blockPart (iblk0 V c 0 p) (iblk0 V c 1 p) (iblk0 V c 3 p))
    (fun t h j => by rw [outsAt0_A V c t h]; frame_out; exact (add _ _ _ _ _).trans (by rw [zero]))
    (fun t h j => by rw [outsAt0_B V c t h]; frame_out; exact add _ _ _ _ _) t ((flush0_6 t).mp hf) _, zero_add]
  refine sum_parts fun p => weightPart_congr (fun l => ?_) ?_ ?_ ?_ <;> dsimp (failIfUnchanged := false) only [blockRow, rowOf] <;>
    blk_ext [iblk0, idx0 t, idx0 ⟨_, Pipeline.run_point_lt_of_flush t ((flush0_6 t).mp hf) p⟩]

end Cert.Proof.Readout

end
-- ==== Proof.ReadoutRun.lean ====
/- The readout's run: the host's reshapes, its two calls and the host's sum, and what the four results hold at the end. -/
module

public import proofs.«01_k».proof.Proof.ReadoutValue
public import proofs.«01_k».proof.Proof.HostSum

@[expose] public section

set_option maxRecDepth 16384

noncomputable section

namespace Cert.Proof.Readout

open Cert.ReadoutIdeal Cert.ReadoutIdeal.Gen Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds

/-- The resources the launch hands out. -/
abbrev Res := MT nD τ sig Unit (Elt Ideal) ℕ (UR sig nD τ) ℕ

variable (m : (ℓ : Loc nD τ sig) → Buf (Elt Ideal) ℓ) (ρ : Dev nD → PrngReg) (c : Dev nD)

-- the launch's implicit arguments are found by unifying its conclusion with this one
set_option backward.isDefEq.respectTransparency.types false in
/-- Every run of the calls ends, with every array that outlives a call at the last boundary's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The run's end: each result as the last boundary has it, and the arguments unchanged. -/
theorem ends : θ_run defs (onTc (τ := τ) (main (F := Ideal))) ⟨m, fun _ => 0, ρ⟩ (fun r => ∀ c : Dev nD,
      r.2.mem ((c.tc : Thread nD τ).loc main_v9) = W4 m ρ c main_v9
      ∧ r.2.mem ((c.tc : Thread nD τ).loc main_v10) = W4 m ρ c main_v10
      ∧ r.2.mem ((c.tc : Thread nD τ).loc main_v11) = W4 m ρ c main_v11
      ∧ r.2.mem ((c.tc : Thread nD τ).loc main_v14) = W4 m ρ c main_v14
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  θ_run_mono (run m ρ) fun r h c => ⟨h c _ (mem_uc main_v9 (by decide)),
    h c _ (mem_uc main_v10 (by decide)),
    h c _ (mem_uc main_v11 (by decide)),
    h c _ (mem_uc main_v14 (by decide)),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c)⟩

/-! The calls' arguments are the program's, row by row. -/

/-- The rows of an array of tokens: eight to a token. -/
def rows (x : Tokens) : Rows 2 34816 := shapeCast S2x34816x128 x shapeCasts_S2x4352x1024_S2x34816x128

/-- The tile: the eight rows of weights, 256 times. -/
def tile (w : Weights) : Mat 2048 128 :=
  shapeCast S2048x128 (broadcastInDim S256x8x1x128 ![0, 1, 2, 3] bcast_S1x8x1x128_S256x8x1x128_0_1_2_3
    (shapeCast S1x8x1x128 (shapeCast S8x128 w shapeCasts_S1024_S8x128) shapeCasts_S8x128_S1x8x1x128)) shapeCasts_S256x8x1x128_S2048x128

theorem enter_x : V1 m ρ c main_v4 = rows (m ((c : Thread nD τ).loc main_arg0)) := rfl
theorem enter_a : V1 m ρ c main_v5 = rows (m ((c : Thread nD τ).loc main_arg1)) := rfl
theorem enter_dy : V1 m ρ c main_v6 = rows (m ((c : Thread nD τ).loc main_arg3)) := rfl
theorem enter_w : V1 m ρ c main_v3 = tile (m ((c : Thread nD τ).loc main_arg2)) := rfl
theorem keep_x : V2 m ρ c main_v4 = V1 m ρ c main_v4 := W2_of m ρ c main_v4 (by decide)
theorem keep_a : V2 m ρ c main_v5 = V1 m ρ c main_v5 := W2_of m ρ c main_v5 (by decide)
theorem keep_w : V2 m ρ c main_v3 = V1 m ρ c main_v3 := W2_of m ρ c main_v3 (by decide)

variable (x a dy : Tokens) (w : Weights) (i : S2x4352x1024.Idx)

/-- The row that an entry of the tokens is in. -/
def rowNo : Fin 34816 := ⟨(i 1).val * 8 + (i 2).val / 128, by have := (i 1).isLt; have := (i 2).isLt; dsimp at *; omega⟩

/-- Its place in the row. -/
def laneNo : Fin 128 := ⟨(i 2).val % 128, by omega⟩

theorem rows_at (b : Fin 2) (r : Fin 34816) (l : Fin 128) :
    rows x (ix3 b r l) = x (ix3 b ⟨r.val / 8, by omega⟩ ⟨r.val % 8 * 128 + l.val, by omega⟩) := by
  unfold rows
  pointwise []

theorem tile_at (r : Fin 2048) (l : Fin 128) : tile w (ix2 r l) = w (ix1 ⟨r.val % 8 * 128 + l.val, by omega⟩) := by
  unfold tile
  pointwise []

theorem tokens_at (f : Rows 2 34816) : shapeCast S2x4352x1024 f shapeCasts_S2x34816x128_S2x4352x1024 i
    = f (ix3 (i 0) (rowNo i) (laneNo i)) := by
  unfold rowNo laneNo
  pointwise []

/-- Reading a row of the tokens' array is reading a head. -/
theorem row_head (l : Fin 128) : rowAt (rows x) (ix3 (i 0) (rowNo i) (laneNo i)) l = headAt x i l := by
  refine (rows_at x (i 0) (rowNo i) l).trans (congrArg x (congrArg₂ (ix3 (i 0)) (Fin.ext ?_) (Fin.ext ?_)))
  · show ((i 1).val * 8 + (i 2).val / 128) / 8 = (i 1).val
    have := (i 2).isLt; dsimp at *; omega
  · show ((i 1).val * 8 + (i 2).val / 128) % 8 * 128 + l.val = (i 2).val / 128 * 128 + l.val
    have := (i 2).isLt; dsimp at *; omega

/-- An entry is its head's value at its place. -/
theorem head_self : headAt x i (laneNo i) = x i := by
  refine congrArg x ?_
  funext d
  match d with
  | ⟨0, _⟩ => rfl
  | ⟨1, _⟩ => rfl
  | ⟨2, _⟩ => exact Fin.ext (by show (i 2).val / 128 * 128 + (i 2).val % 128 = (i 2).val; omega)

theorem row_self : rows x (ix3 (i 0) (rowNo i) (laneNo i)) = x i := (row_head x i (laneNo i)).trans (head_self x i)

/-- Reading the tile in a row is reading the weights of its head. -/
theorem tile_head (l : Fin 128) : tileRow (tile w) (inTile (rowNo i)) l = weightsAt w (i 2) l := by
  refine (tile_at w (inTile (rowNo i)) l).trans (congrArg (fun k => w (ix1 k)) (Fin.ext ?_))
  show ((i 1).val * 8 + (i 2).val / 128) % 2048 % 8 * 128 + l.val = (i 2).val / 128 * 128 + l.val
  have := (i 2).isLt; dsimp at *; omega

theorem tile_self : tile w (ix2 (inTile (rowNo i)) (laneNo i)) = w (ix1 (i 2)) :=
  (tile_head w i (laneNo i)).trans (congrArg (fun k => w (ix1 k))
    (Fin.ext (by show (i 2).val / 128 * 128 + (i 2).val % 128 = (i 2).val; omega)))

/-! The results at the end. -/

theorem final_output : W4 m ρ c main_v9
    = outputs (m ((c : Thread nD τ).loc main_arg0)) (m ((c : Thread nD τ).loc main_arg1)) (m ((c : Thread nD τ).loc main_arg2)) := by
  refine (show W4 m ρ c main_v9 = shapeCast S2x4352x1024 (W3 m ρ c main_v8) shapeCasts_S2x34816x128_S2x4352x1024 from rfl).trans ?_
  funext i
  rw [tokens_at, (W3_arr m ρ c 3).trans (value_output (V2 m ρ) c), keep_x, keep_a, keep_w, enter_x, enter_a, enter_w]
  exact output_congr (row_head _ i) (row_self _ i) (row_self _ i) (tile_self _ i)

theorem final_head : W4 m ρ c main_v10
    = headGrads (m ((c : Thread nD τ).loc main_arg0)) (m ((c : Thread nD τ).loc main_arg1)) (m ((c : Thread nD τ).loc main_arg3))
      (m ((c : Thread nD τ).loc main_arg2)) := by
  refine (show W4 m ρ c main_v10 = shapeCast S2x4352x1024 (W3 m ρ c main_v7_0) shapeCasts_S2x34816x128_S2x4352x1024 from rfl).trans ?_
  funext i
  rw [tokens_at, (W3_of m ρ c main_v7_0 (by decide)).trans ((W2_arr m ρ c 4).trans (value_head (V1 m ρ) c)),
    enter_x, enter_a, enter_w, enter_dy]
  exact headGrad_congr (row_head _ i) (row_head _ i) (tile_head _ i) (row_head _ i) (row_self _ i) (row_self _ i) (tile_self _ i) (row_self _ i)

theorem final_gate : W4 m ρ c main_v11
    = gateGrads (m ((c : Thread nD τ).loc main_arg0)) (m ((c : Thread nD τ).loc main_arg1)) (m ((c : Thread nD τ).loc main_arg3))
      (m ((c : Thread nD τ).loc main_arg2)) := by
  refine (show W4 m ρ c main_v11 = shapeCast S2x4352x1024 (W3 m ρ c main_v7_1) shapeCasts_S2x34816x128_S2x4352x1024 from rfl).trans ?_
  funext i
  rw [tokens_at, (W3_of m ρ c main_v7_1 (by decide)).trans ((W2_arr m ρ c 5).trans (value_gate (V1 m ρ) c)),
    enter_x, enter_a, enter_w, enter_dy]
  exact gateGrad_congr (row_head _ i) (row_self _ i) (row_self _ i) (tile_self _ i) (row_self _ i)

/-- The host's sum of the tile's 256 copies. -/
def copies (v : Mat 2048 128) : Weights := shapeCast S1024 (Host.reduceAdd (F := Ideal) (φ := .f32)
  (shapeCast S256x8x1x128 v shapeCasts_S2048x128_S256x8x1x128) (constant S_ .f32 0x00000000#32) reducesTo_S256x8x1x128_S8x128_d0_2 h_S_)
  shapeCasts_S8x128_S1024

theorem copies_at (v : Mat 2048 128) (k : S1024.Idx) : copies v k
    = ∑ a : Fin 256, v (ix2 ⟨a.val * 8 + (k 0).val / 128, by have := (k 0).isLt; dsimp at *; omega⟩ ⟨(k 0).val % 128, by omega⟩) := by
  unfold copies
  pointwise []
  rw [hostSum_zero_two_of_four]
  refine (zero_add _).trans (sum_parts fun a => (sum_single _).trans ?_)
  pointwise []

/-- The row of point `p`'s block that copy `a` of the tile takes for the head of place `k` is that head of one token. -/
theorem rowOf_copy (p : Fin 34) (a : Fin 256) (k : Fin 1024) : rowOf p ⟨a.val * 8 + k.val / 128, by omega⟩
    = (⟨p.val / 17, by omega⟩, rowNo (ix3 ⟨p.val / 17, by omega⟩ ⟨p.val % 17 * 256 + a.val, by omega⟩ k)) :=
  Prod.ext rfl (Fin.ext (by
    show p.val % 17 * 2048 + (a.val * 8 + k.val / 128) = (p.val % 17 * 256 + a.val) * 8 + k.val / 128
    omega))

/-- The token that copy `a` of the tile takes at point `p`. -/
def tokenAt (p : Fin 34) (a : Fin 256) (k : Fin 1024) : S2x4352x1024.Idx := ix3 ⟨p.val / 17, by omega⟩ ⟨p.val % 17 * 256 + a.val, by omega⟩ k

theorem copy_head (p : Fin 34) (a : Fin 256) (k : Fin 1024) (l : Fin 128) :
    rows x (ix3 (rowOf p ⟨a.val * 8 + k.val / 128, by omega⟩).1 (rowOf p ⟨a.val * 8 + k.val / 128, by omega⟩).2 l)
      = headAt x (tokenAt p a k) l := by
  rw [rowOf_copy p a k]; exact row_head x (tokenAt p a k) l

theorem copy_self (p : Fin 34) (a : Fin 256) (k : Fin 1024) :
    rows x (ix3 (rowOf p ⟨a.val * 8 + k.val / 128, by omega⟩).1 (rowOf p ⟨a.val * 8 + k.val / 128, by omega⟩).2 ⟨k.val % 128, by omega⟩)
      = x (tokenAt p a k) := (copy_head x p a k _).trans (head_self x (tokenAt p a k))

theorem final_weight : W4 m ρ c main_v14
    = weightGrads (m ((c : Thread nD τ).loc main_arg0)) (m ((c : Thread nD τ).loc main_arg1)) (m ((c : Thread nD τ).loc main_arg3)) := by
  refine (show W4 m ρ c main_v14 = copies (W3 m ρ c main_v7_2) from rfl).trans ?_
  funext k
  rw [copies_at, (W3_of m ρ c main_v7_2 (by decide)).trans ((W2_arr m ρ c 6).trans (value_weight (V1 m ρ) c)), enter_x, enter_a, enter_dy]
  refine Eq.trans ?_ (sum_stretches fun b t => weightPart (headAt _ (ix3 b t (k 0))) _ _ _)
  refine sum_parts fun a => sum_parts fun p => ?_
  exact weightPart_congr (copy_head _ p a (k 0)) (copy_self _ p a (k 0)) (copy_self _ p a (k 0)) (copy_self _ p a (k 0))

end Cert.Proof.Readout

end
-- ==== Proof.ReadoutRef.lean ====
/- The reference's readout and its derivative: the result and the three gradients. -/
module

public import proofs.«01_k».proof.Proof.Gen.ReadoutRefIdeal.Read
public import proofs.«01_k».proof.Proof.ReadoutMath
public import proofs.«01_k».proof.Proof.HostSum
public import Idealize.ShloMosaic.Lib.Pipeline.ValueKit

@[expose] public section

set_option maxRecDepth 16384

noncomputable section

namespace Cert.Proof.Readout

open Cert.ReadoutRefIdeal Cert.ReadoutRefIdeal.Read Idealize.ShloMosaic Idealize.ShloMosaic.TcCoe Idealize.SL.Sem

variable (x a dy : Tokens) (w : Weights)

theorem ref_output : val_main_v49 (F := Ideal) x a w = outputs x a w := by
  funext i
  pointwise [val_main_v49, val_main_v21, val_main_v19, val_main_v18, val_main_v17, val_main_v16, val_main_v2,
    val_main_v20_0, val_main_v20_2, val_main_call0_v4, val_main_call0_cst_0, val_main_call0_v3, val_main_call0_v2, val_main_call0_cst,
    val_main_call0_v1, val_main_call0_v0, val_main_v0,
    val_main_v15, val_main_v14, val_main_v10, val_main_v9, val_main_v8, val_main_cst_1, val_main_v7, val_main_v6, val_main_cst_0, val_main_v5,
    val_main_v4, val_main_cst, val_main_v3, val_main_v1]
  rfl

theorem ref_gate : val_main_v50 (F := Ideal) x a w dy = gateGrads x a dy w := by
  funext i
  pointwise [val_main_v50, val_main_v25, val_main_call1_v2, val_main_call1_v1, val_main_call1_v0, val_main_v23, val_main_v22,
    val_main_v20_1, val_main_call0_v7, val_main_call0_v6, val_main_call0_cst_1,
    val_main_v19, val_main_v18, val_main_v17, val_main_v16, val_main_v2,
    val_main_v20_0, val_main_v20_2, val_main_call0_v4, val_main_call0_cst_0, val_main_call0_v3, val_main_call0_v2, val_main_call0_cst,
    val_main_call0_v1, val_main_call0_v0, val_main_v0,
    val_main_v15, val_main_v14, val_main_v10, val_main_v9, val_main_v8, val_main_cst_1, val_main_v7, val_main_v6, val_main_cst_0, val_main_v5,
    val_main_v4, val_main_cst, val_main_v3, val_main_v1]
  rfl

/-- The norm's factor is summed over an axis of length one, twice. -/
theorem ref_head : val_main_v48 (F := Ideal) x a w dy = headGrads x a dy w := by
  funext i
  pointwise [val_main_v48, val_main_v46, val_main_v45, val_main_v44, val_main_v43, val_main_v42, val_main_v41, val_main_cst_7,
    val_main_v40, val_main_v39, val_main_cst_6, val_main_v38, val_main_v37, val_main_v36, val_main_v35, val_main_v34, val_main_cst_5,
    val_main_v33, val_main_v31, val_main_v30, val_main_v26, val_main_v24, val_main_v22, val_main_v13, val_main_v12, val_main_cst_2,
    val_main_v11, val_main_v16, val_main_v2,
    val_main_v20_0, val_main_v20_2, val_main_call0_v4, val_main_call0_cst_0, val_main_call0_v3, val_main_call0_v2, val_main_call0_cst,
    val_main_call0_v1, val_main_call0_v0, val_main_v0,
    val_main_v15, val_main_v14, val_main_v10, val_main_v9, val_main_v8, val_main_cst_1, val_main_v7, val_main_v6, val_main_cst_0, val_main_v5,
    val_main_v4, val_main_cst, val_main_v3, val_main_v1]
  refine (congrArg₂ (· + ·) (congrArg₂ (· + ·) rfl (congrArg (x i * ·) (sum_one _))) (congrArg (· * x i) (sum_one _))).trans ?_
  rfl

/-- What a token adds to the gradient of the weights, by head and place. -/
theorem ref_part (b : Fin 2) (t : Fin 4352) (h : Fin 8) (l : Fin 128) : val_main_v27 (F := Ideal) x a dy (ix4 b t h l)
    = weightPart (headAt x (ix3 b t (inHead h l))) (x (ix3 b t (inHead h l))) (a (ix3 b t (inHead h l))) (dy (ix3 b t (inHead h l))) := by
  pointwise [val_main_v27, val_main_v26, val_main_v24, val_main_v22,
    val_main_v20_0, val_main_v20_2, val_main_call0_v4, val_main_call0_cst_0, val_main_call0_v3, val_main_call0_v2, val_main_call0_cst,
    val_main_call0_v1, val_main_call0_v0, val_main_v0,
    val_main_v15, val_main_v14, val_main_v10, val_main_v9, val_main_v8, val_main_cst_1, val_main_v7, val_main_v6, val_main_cst_0, val_main_v5,
    val_main_v4, val_main_cst, val_main_v3, val_main_v1]
  refine weightPart_congr (X := fun l => x (ix3 b t (inHead h l))) (fun l' => congrArg (fun k => x (ix3 b t k)) ?_) rfl rfl rfl
  exact (place_inHead h l l').symm

theorem zero3 (i) : val_main_cst_3 (F := Ideal) i = 0 := by pointwise [val_main_cst_3]
theorem zero4 (i) : val_main_cst_4 (F := Ideal) i = 0 := by pointwise [val_main_cst_4]

theorem ref_weight : val_main_v47 (F := Ideal) x a dy = weightGrads x a dy := by
  funext i
  pointwise [val_main_v47, val_main_v32]
  rw [hostSum_first_two_of_four]
  pointwise [val_main_v29, val_main_v28]
  rw [hostSum_first_two_of_four, zero3, zero4]
  refine (zero_add _).trans ((sum_one _).trans ((sum_one _).trans ((zero_add _).trans ?_)))
  refine Finset.sum_congr rfl fun b _ => Finset.sum_congr rfl fun t _ => (ref_part x a dy b t _ _).trans ?_
  rw [inHead_split (i 0)]

end Cert.Proof.Readout

end
-- ==== Proof.AdamwMath.lean ====
/- One step of the optimiser, entry by entry. -/
module

public import proofs.«01_k».proof.Proof.Products

@[expose] public section

noncomputable section

namespace Cert.Proof.Adamw

open Idealize.ShloMosaic

variable {p q : ℕ} (w g m v : Mat p q)

/-- The new first moment; the numbers are the decay rate and its complement. -/
def newM : Mat p q := fun i => Ideal.ofBits .f32 0x3F666666#32 * m i + Ideal.ofBits .f32 0x3DCCCCCD#32 * g i

/-- The new second moment. -/
def newV : Mat p q := fun i => Ideal.ofBits .f32 0x3F7FBE77#32 * v i + Ideal.ofBits .f32 0x3A83126F#32 * (g i * g i)

/-- The change of the weight: the moments with their bias taken out, and the decay of the weight. -/
def delta : Mat p q := fun i => Ideal.ofBits .f32 0xBA83126F#32
  * (Ideal.div (Ideal.div (newM g m i) (Ideal.ofBits .f32 0x3F26BD02#32))
      (Ideal.sqrt (Ideal.div (newV g v i) (Ideal.ofBits .f32 0x3C231ACC#32)) + Ideal.ofBits .f32 0x322BCC77#32)
    + Ideal.ofBits .f32 0x3C23D70A#32 * w i)

/-! A step of blocks is the block of the step. -/

variable {w g m v} {p' q' : ℕ} {w' g' m' v' : Mat p' q'} {i : (⟨2, ![p, q]⟩ : Shape).Idx} {i' : (⟨2, ![p', q']⟩ : Shape).Idx}

theorem newM_congr (hg : g i = g' i') (hm : m i = m' i') : newM g m i = newM g' m' i' := by unfold newM; rw [hg, hm]

theorem newV_congr (hg : g i = g' i') (hv : v i = v' i') : newV g v i = newV g' v' i' := by unfold newV; rw [hg, hv]

theorem delta_congr (hw : w i = w' i') (hg : g i = g' i') (hm : m i = m' i') (hv : v i = v' i') :
    delta w g m v i = delta w' g' m' v' i' := by unfold delta; rw [newM_congr hg hm, newV_congr hg hv, hw]

theorem delta_of_eq {w' g' m' v' : Mat p q} (hw : w = w') (hg : g = g') (hm : m = m') (hv : v = v') :
    delta w g m v = delta w' g' m' v' := by rw [hw, hg, hm, hv]

end Cert.Proof.Adamw

end
-- ==== Proof.AdamwValue.lean ====
/- What each call of the optimiser leaves in its three results, whatever its arguments' arrays hold. -/
module

public import proofs.«01_k».proof.Proof.Gen.AdamwIdeal.Frame
public import proofs.«01_k».proof.Proof.AdamwMath
public import Idealize.ShloMosaic.Lib.Pipeline.ValueKit
public import Idealize.ShloMosaic.Lib.Pipeline.ReadBack

@[expose] public section

set_option maxRecDepth 16384

noncomputable section

namespace Cert.Proof.Adamw

open Cert.AdamwIdeal Cert.AdamwIdeal.Gen Idealize.ShloMosaic Idealize.ShloMosaic.TcCoe Idealize.SL.Sem

variable (V : (c : Dev nD) → (b : Ref sig .tc) → Buf (Elt Ideal) ((c : Thread nD τ).loc b)) (c : Dev nD)

/-! 4096 rows of 1024: blocks of 512 rows. -/

theorem step0 (w g m v : Mat 512 1024) : k0_pay3 (F := Ideal) g m v w = delta w g m v
    ∧ k0_pay1 (F := Ideal) g m = newM g m ∧ k0_pay2 (F := Ideal) g v = newV g v := ⟨rfl, rfl, rfl⟩

theorem delta0 : (dat0 V c).arrAt 4 cfg0.N = delta (p := 4096) (q := 1024) (V c main_arg0) (V c main_arg1) (V c main_arg2) (V c main_arg3) := by
  refine (dat0 V c).arrAt_eq_of_covers 4 _ (by decide +kernel) fun t _ y => ?_
  blk_simp
  rw [after0_4]; unfold out0_4; frame_out
  exact (congrFun (step0 _ _ _ _).1 y).trans (delta_congr rfl rfl rfl rfl)

theorem newM0 : (dat0 V c).arrAt 5 cfg0.N = newM (p := 4096) (q := 1024) (V c main_arg1) (V c main_arg2) := by
  refine (dat0 V c).arrAt_eq_of_covers 5 _ (by decide +kernel) fun t _ y => ?_
  blk_simp
  rw [after0_5]; unfold out0_5; frame_out
  exact (congrFun (step0 (iblk0 V c 0 t) _ _ (iblk0 V c 3 t)).2.1 y).trans (newM_congr rfl rfl)

theorem newV0 : (dat0 V c).arrAt 6 cfg0.N = newV (p := 4096) (q := 1024) (V c main_arg1) (V c main_arg3) := by
  refine (dat0 V c).arrAt_eq_of_covers 6 _ (by decide +kernel) fun t _ y => ?_
  blk_simp
  rw [after0_6]; unfold out0_6; frame_out
  exact (congrFun (step0 (iblk0 V c 0 t) _ (iblk0 V c 2 t) _).2.2 y).trans (newV_congr rfl rfl)

/-! 1024 rows of 768: blocks of 512 rows. -/

theorem step1 (w g m v : Mat 512 768) : k1_pay3 (F := Ideal) g m v w = delta w g m v
    ∧ k1_pay1 (F := Ideal) g m = newM g m ∧ k1_pay2 (F := Ideal) g v = newV g v := ⟨rfl, rfl, rfl⟩

theorem delta1 : (dat1 V c).arrAt 4 cfg1.N = delta (p := 1024) (q := 768) (V c main_arg4) (V c main_arg5) (V c main_arg6) (V c main_arg7) := by
  refine (dat1 V c).arrAt_eq_of_covers 4 _ (by decide +kernel) fun t _ y => ?_
  blk_simp
  rw [after1_4]; unfold out1_4; frame_out
  exact (congrFun (step1 _ _ _ _).1 y).trans (delta_congr rfl rfl rfl rfl)

theorem newM1 : (dat1 V c).arrAt 5 cfg1.N = newM (p := 1024) (q := 768) (V c main_arg5) (V c main_arg6) := by
  refine (dat1 V c).arrAt_eq_of_covers 5 _ (by decide +kernel) fun t _ y => ?_
  blk_simp
  rw [after1_5]; unfold out1_5; frame_out
  exact (congrFun (step1 (iblk1 V c 0 t) _ _ (iblk1 V c 3 t)).2.1 y).trans (newM_congr rfl rfl)

theorem newV1 : (dat1 V c).arrAt 6 cfg1.N = newV (p := 1024) (q := 768) (V c main_arg5) (V c main_arg7) := by
  refine (dat1 V c).arrAt_eq_of_covers 6 _ (by decide +kernel) fun t _ y => ?_
  blk_simp
  rw [after1_6]; unfold out1_6; frame_out
  exact (congrFun (step1 (iblk1 V c 0 t) _ (iblk1 V c 2 t) _).2.2 y).trans (newV_congr rfl rfl)

/-! 256 rows of 1024: blocks of 256 rows. -/

theorem step2 (w g m v : Mat 256 1024) : k2_pay3 (F := Ideal) g m v w = delta w g m v
    ∧ k2_pay1 (F := Ideal) g m = newM g m ∧ k2_pay2 (F := Ideal) g v = newV g v := ⟨rfl, rfl, rfl⟩

theorem delta2 : (dat2 V c).arrAt 4 cfg2.N = delta (p := 256) (q := 1024) (V c main_arg8) (V c main_arg9) (V c main_arg10) (V c main_arg11) := by
  refine (dat2 V c).arrAt_eq_of_covers 4 _ (by decide +kernel) fun t _ y => ?_
  blk_simp
  rw [after2_4]; unfold out2_4; frame_out
  exact (congrFun (step2 _ _ _ _).1 y).trans (delta_congr rfl rfl rfl rfl)

theorem newM2 : (dat2 V c).arrAt 5 cfg2.N = newM (p := 256) (q := 1024) (V c main_arg9) (V c main_arg10) := by
  refine (dat2 V c).arrAt_eq_of_covers 5 _ (by decide +kernel) fun t _ y => ?_
  blk_simp
  rw [after2_5]; unfold out2_5; frame_out
  exact (congrFun (step2 (iblk2 V c 0 t) _ _ (iblk2 V c 3 t)).2.1 y).trans (newM_congr rfl rfl)

theorem newV2 : (dat2 V c).arrAt 6 cfg2.N = newV (p := 256) (q := 1024) (V c main_arg9) (V c main_arg11) := by
  refine (dat2 V c).arrAt_eq_of_covers 6 _ (by decide +kernel) fun t _ y => ?_
  blk_simp
  rw [after2_6]; unfold out2_6; frame_out
  exact (congrFun (step2 (iblk2 V c 0 t) _ (iblk2 V c 2 t) _).2.2 y).trans (newV_congr rfl rfl)

/-! 1024 rows of 1280: blocks of 256 rows. -/

theorem step3 (w g m v : Mat 256 1280) : k3_pay3 (F := Ideal) g m v w = delta w g m v
    ∧ k3_pay1 (F := Ideal) g m = newM g m ∧ k3_pay2 (F := Ideal) g v = newV g v := ⟨rfl, rfl, rfl⟩

theorem delta3 : (dat3 V c).arrAt 4 cfg3.N = delta (p := 1024) (q := 1280) (V c main_arg12) (V c main_arg13) (V c main_arg14) (V c main_arg15) := by
  refine (dat3 V c).arrAt_eq_of_covers 4 _ (by decide +kernel) fun t _ y => ?_
  blk_simp
  rw [after3_4]; unfold out3_4; frame_out
  exact (congrFun (step3 _ _ _ _).1 y).trans (delta_congr rfl rfl rfl rfl)

theorem newM3 : (dat3 V c).arrAt 5 cfg3.N = newM (p := 1024) (q := 1280) (V c main_arg13) (V c main_arg14) := by
  refine (dat3 V c).arrAt_eq_of_covers 5 _ (by decide +kernel) fun t _ y => ?_
  blk_simp
  rw [after3_5]; unfold out3_5; frame_out
  exact (congrFun (step3 (iblk3 V c 0 t) _ _ (iblk3 V c 3 t)).2.1 y).trans (newM_congr rfl rfl)

theorem newV3 : (dat3 V c).arrAt 6 cfg3.N = newV (p := 1024) (q := 1280) (V c main_arg13) (V c main_arg15) := by
  refine (dat3 V c).arrAt_eq_of_covers 6 _ (by decide +kernel) fun t _ y => ?_
  blk_simp
  rw [after3_6]; unfold out3_6; frame_out
  exact (congrFun (step3 (iblk3 V c 0 t) _ (iblk3 V c 2 t) _).2.2 y).trans (newV_congr rfl rfl)

/-! 1024 rows of 512: blocks of 1024 rows. -/

theorem step4 (w g m v : Mat 1024 512) : k4_pay3 (F := Ideal) g m v w = delta w g m v
    ∧ k4_pay1 (F := Ideal) g m = newM g m ∧ k4_pay2 (F := Ideal) g v = newV g v := ⟨rfl, rfl, rfl⟩

theorem delta4 : (dat4 V c).arrAt 4 cfg4.N = delta (p := 1024) (q := 512) (V c main_arg16) (V c main_arg17) (V c main_arg18) (V c main_arg19) := by
  refine (dat4 V c).arrAt_eq_of_covers 4 _ (by decide +kernel) fun t _ y => ?_
  blk_simp
  rw [after4_4]; unfold out4_4; frame_out
  exact (congrFun (step4 _ _ _ _).1 y).trans (delta_congr rfl rfl rfl rfl)

theorem newM4 : (dat4 V c).arrAt 5 cfg4.N = newM (p := 1024) (q := 512) (V c main_arg17) (V c main_arg18) := by
  refine (dat4 V c).arrAt_eq_of_covers 5 _ (by decide +kernel) fun t _ y => ?_
  blk_simp
  rw [after4_5]; unfold out4_5; frame_out
  exact (congrFun (step4 (iblk4 V c 0 t) _ _ (iblk4 V c 3 t)).2.1 y).trans (newM_congr rfl rfl)

theorem newV4 : (dat4 V c).arrAt 6 cfg4.N = newV (p := 1024) (q := 512) (V c main_arg17) (V c main_arg19) := by
  refine (dat4 V c).arrAt_eq_of_covers 6 _ (by decide +kernel) fun t _ y => ?_
  blk_simp
  rw [after4_6]; unfold out4_6; frame_out
  exact (congrFun (step4 (iblk4 V c 0 t) _ (iblk4 V c 2 t) _).2.2 y).trans (newV_congr rfl rfl)

/-! 4096 rows of 1536: blocks of 256 rows. -/

theorem step5 (w g m v : Mat 256 1536) : k5_pay3 (F := Ideal) g m v w = delta w g m v
    ∧ k5_pay1 (F := Ideal) g m = newM g m ∧ k5_pay2 (F := Ideal) g v = newV g v := ⟨rfl, rfl, rfl⟩

theorem delta5 : (dat5 V c).arrAt 4 cfg5.N = delta (p := 4096) (q := 1536) (V c main_arg20) (V c main_arg21) (V c main_arg22) (V c main_arg23) := by
  refine (dat5 V c).arrAt_eq_of_covers 4 _ (by decide +kernel) fun t _ y => ?_
  blk_simp
  rw [after5_4]; unfold out5_4; frame_out
  exact (congrFun (step5 _ _ _ _).1 y).trans (delta_congr rfl rfl rfl rfl)

theorem newM5 : (dat5 V c).arrAt 5 cfg5.N = newM (p := 4096) (q := 1536) (V c main_arg21) (V c main_arg22) := by
  refine (dat5 V c).arrAt_eq_of_covers 5 _ (by decide +kernel) fun t _ y => ?_
  blk_simp
  rw [after5_5]; unfold out5_5; frame_out
  exact (congrFun (step5 (iblk5 V c 0 t) _ _ (iblk5 V c 3 t)).2.1 y).trans (newM_congr rfl rfl)

theorem newV5 : (dat5 V c).arrAt 6 cfg5.N = newV (p := 4096) (q := 1536) (V c main_arg21) (V c main_arg23) := by
  refine (dat5 V c).arrAt_eq_of_covers 6 _ (by decide +kernel) fun t _ y => ?_
  blk_simp
  rw [after5_6]; unfold out5_6; frame_out
  exact (congrFun (step5 (iblk5 V c 0 t) _ (iblk5 V c 2 t) _).2.2 y).trans (newV_congr rfl rfl)

/-! 448 rows of 1024: blocks of 448 rows. -/

theorem step6 (w g m v : Mat 448 1024) : k6_pay3 (F := Ideal) g m v w = delta w g m v
    ∧ k6_pay1 (F := Ideal) g m = newM g m ∧ k6_pay2 (F := Ideal) g v = newV g v := ⟨rfl, rfl, rfl⟩

theorem delta6 : (dat6 V c).arrAt 4 cfg6.N = delta (p := 448) (q := 1024) (V c main_arg24) (V c main_arg25) (V c main_arg26) (V c main_arg27) := by
  refine (dat6 V c).arrAt_eq_of_covers 4 _ (by decide +kernel) fun t _ y => ?_
  blk_simp
  rw [after6_4]; unfold out6_4; frame_out
  exact (congrFun (step6 _ _ _ _).1 y).trans (delta_congr rfl rfl rfl rfl)

theorem newM6 : (dat6 V c).arrAt 5 cfg6.N = newM (p := 448) (q := 1024) (V c main_arg25) (V c main_arg26) := by
  refine (dat6 V c).arrAt_eq_of_covers 5 _ (by decide +kernel) fun t _ y => ?_
  blk_simp
  rw [after6_5]; unfold out6_5; frame_out
  exact (congrFun (step6 (iblk6 V c 0 t) _ _ (iblk6 V c 3 t)).2.1 y).trans (newM_congr rfl rfl)

theorem newV6 : (dat6 V c).arrAt 6 cfg6.N = newV (p := 448) (q := 1024) (V c main_arg25) (V c main_arg27) := by
  refine (dat6 V c).arrAt_eq_of_covers 6 _ (by decide +kernel) fun t _ y => ?_
  blk_simp
  rw [after6_6]; unfold out6_6; frame_out
  exact (congrFun (step6 (iblk6 V c 0 t) _ (iblk6 V c 2 t) _).2.2 y).trans (newV_congr rfl rfl)

end Cert.Proof.Adamw

end
-- ==== Proof.AdamwRun.lean ====
/- The optimiser's run: its seven calls one after the other, and what the twenty-one results hold at the end. -/
module

public import proofs.«01_k».proof.Proof.AdamwValue

@[expose] public section

set_option maxRecDepth 16384

noncomputable section

namespace Cert.Proof.Adamw

open Cert.AdamwIdeal Cert.AdamwIdeal.Gen Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds

/-- The resources the launch hands out. -/
abbrev Res := MT nD τ sig Unit (Elt Ideal) ℕ (UR sig nD τ) ℕ

variable (m : (ℓ : Loc nD τ sig) → Buf (Elt Ideal) ℓ) (ρ : Dev nD → PrngReg) (c : Dev nD)

-- the launch's implicit arguments are found by unifying its conclusion with this one
set_option backward.isDefEq.respectTransparency.types false in
/-- Every run of the seven calls ends, with every array that outlives a call at the last boundary's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

/-- The run's end: each result as the last boundary has it, and the arguments unchanged. -/
theorem ends : θ_run defs (onTc (τ := τ) (main (F := Ideal))) ⟨m, fun _ => 0, ρ⟩ (fun r => ∀ c : Dev nD,
      r.2.mem ((c.tc : Thread nD τ).loc main_v0_0) = W7 m ρ c main_v0_0
      ∧ r.2.mem ((c.tc : Thread nD τ).loc main_v0_1) = W7 m ρ c main_v0_1
      ∧ r.2.mem ((c.tc : Thread nD τ).loc main_v0_2) = W7 m ρ c main_v0_2
      ∧ r.2.mem ((c.tc : Thread nD τ).loc main_v1_0) = W7 m ρ c main_v1_0
      ∧ r.2.mem ((c.tc : Thread nD τ).loc main_v1_1) = W7 m ρ c main_v1_1
      ∧ r.2.mem ((c.tc : Thread nD τ).loc main_v1_2) = W7 m ρ c main_v1_2
      ∧ r.2.mem ((c.tc : Thread nD τ).loc main_v2_0) = W7 m ρ c main_v2_0
      ∧ r.2.mem ((c.tc : Thread nD τ).loc main_v2_1) = W7 m ρ c main_v2_1
      ∧ r.2.mem ((c.tc : Thread nD τ).loc main_v2_2) = W7 m ρ c main_v2_2
      ∧ r.2.mem ((c.tc : Thread nD τ).loc main_v3_0) = W7 m ρ c main_v3_0
      ∧ r.2.mem ((c.tc : Thread nD τ).loc main_v3_1) = W7 m ρ c main_v3_1
      ∧ r.2.mem ((c.tc : Thread nD τ).loc main_v3_2) = W7 m ρ c main_v3_2
      ∧ r.2.mem ((c.tc : Thread nD τ).loc main_v4_0) = W7 m ρ c main_v4_0
      ∧ r.2.mem ((c.tc : Thread nD τ).loc main_v4_1) = W7 m ρ c main_v4_1
      ∧ r.2.mem ((c.tc : Thread nD τ).loc main_v4_2) = W7 m ρ c main_v4_2
      ∧ r.2.mem ((c.tc : Thread nD τ).loc main_v5_0) = W7 m ρ c main_v5_0
      ∧ r.2.mem ((c.tc : Thread nD τ).loc main_v5_1) = W7 m ρ c main_v5_1
      ∧ r.2.mem ((c.tc : Thread nD τ).loc main_v5_2) = W7 m ρ c main_v5_2
      ∧ r.2.mem ((c.tc : Thread nD τ).loc main_v6_0) = W7 m ρ c main_v6_0
      ∧ r.2.mem ((c.tc : Thread nD τ).loc main_v6_1) = W7 m ρ c main_v6_1
      ∧ r.2.mem ((c.tc : Thread nD τ).loc main_v6_2) = W7 m ρ c main_v6_2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  θ_run_mono (run m ρ) fun r h c => ⟨h c _ (mem_uc main_v0_0 (by decide)),
    h c _ (mem_uc main_v0_1 (by decide)),
    h c _ (mem_uc main_v0_2 (by decide)),
    h c _ (mem_uc main_v1_0 (by decide)),
    h c _ (mem_uc main_v1_1 (by decide)),
    h c _ (mem_uc main_v1_2 (by decide)),
    h c _ (mem_uc main_v2_0 (by decide)),
    h c _ (mem_uc main_v2_1 (by decide)),
    h c _ (mem_uc main_v2_2 (by decide)),
    h c _ (mem_uc main_v3_0 (by decide)),
    h c _ (mem_uc main_v3_1 (by decide)),
    h c _ (mem_uc main_v3_2 (by decide)),
    h c _ (mem_uc main_v4_0 (by decide)),
    h c _ (mem_uc main_v4_1 (by decide)),
    h c _ (mem_uc main_v4_2 (by decide)),
    h c _ (mem_uc main_v5_0 (by decide)),
    h c _ (mem_uc main_v5_1 (by decide)),
    h c _ (mem_uc main_v5_2 (by decide)),
    h c _ (mem_uc main_v6_0 (by decide)),
    h c _ (mem_uc main_v6_1 (by decide)),
    h c _ (mem_uc main_v6_2 (by decide)),
    (h c _ (mem_uc main_arg0 (by decide))).trans (W7_main_arg0 m ρ c),
    (h c _ (mem_uc main_arg1 (by decide))).trans (W7_main_arg1 m ρ c),
    (h c _ (mem_uc main_arg2 (by decide))).trans (W7_main_arg2 m ρ c),
    (h c _ (mem_uc main_arg3 (by decide))).trans (W7_main_arg3 m ρ c),
    (h c _ (mem_uc main_arg4 (by decide))).trans (W7_main_arg4 m ρ c),
    (h c _ (mem_uc main_arg5 (by decide))).trans (W7_main_arg5 m ρ c),
    (h c _ (mem_uc main_arg6 (by decide))).trans (W7_main_arg6 m ρ c),
    (h c _ (mem_uc main_arg7 (by decide))).trans (W7_main_arg7 m ρ c),
    (h c _ (mem_uc main_arg8 (by decide))).trans (W7_main_arg8 m ρ c),
    (h c _ (mem_uc main_arg9 (by decide))).trans (W7_main_arg9 m ρ c),
    (h c _ (mem_uc main_arg10 (by decide))).trans (W7_main_arg10 m ρ c),
    (h c _ (mem_uc main_arg11 (by decide))).trans (W7_main_arg11 m ρ c),
    (h c _ (mem_uc main_arg12 (by decide))).trans (W7_main_arg12 m ρ c),
    (h c _ (mem_uc main_arg13 (by decide))).trans (W7_main_arg13 m ρ c),
    (h c _ (mem_uc main_arg14 (by decide))).trans (W7_main_arg14 m ρ c),
    (h c _ (mem_uc main_arg15 (by decide))).trans (W7_main_arg15 m ρ c),
    (h c _ (mem_uc main_arg16 (by decide))).trans (W7_main_arg16 m ρ c),
    (h c _ (mem_uc main_arg17 (by decide))).trans (W7_main_arg17 m ρ c),
    (h c _ (mem_uc main_arg18 (by decide))).trans (W7_main_arg18 m ρ c),
    (h c _ (mem_uc main_arg19 (by decide))).trans (W7_main_arg19 m ρ c),
    (h c _ (mem_uc main_arg20 (by decide))).trans (W7_main_arg20 m ρ c),
    (h c _ (mem_uc main_arg21 (by decide))).trans (W7_main_arg21 m ρ c),
    (h c _ (mem_uc main_arg22 (by decide))).trans (W7_main_arg22 m ρ c),
    (h c _ (mem_uc main_arg23 (by decide))).trans (W7_main_arg23 m ρ c),
    (h c _ (mem_uc main_arg24 (by decide))).trans (W7_main_arg24 m ρ c),
    (h c _ (mem_uc main_arg25 (by decide))).trans (W7_main_arg25 m ρ c),
    (h c _ (mem_uc main_arg26 (by decide))).trans (W7_main_arg26 m ρ c),
    (h c _ (mem_uc main_arg27 (by decide))).trans (W7_main_arg27 m ρ c)⟩

/-! The results at the end: a call's results are written once, and the calls read the arguments. -/

/-- A call keeps the arrays that are none of its results. -/
abbrev Kept {W : ℕ} (ref : Fin W → Ref sig .tc) (out : Fin W → Bool) (r : Ref sig .tc) : Prop := ∀ w, ref w = r → out w = false

abbrev Kept6 (r : Ref sig .tc) : Prop := Kept (Pipeline.arrRef spec6) (fun w => (cfg6.win w).isOut) r
abbrev Kept5 (r : Ref sig .tc) : Prop := Kept (Pipeline.arrRef spec5) (fun w => (cfg5.win w).isOut) r ∧ Kept6 r
abbrev Kept4 (r : Ref sig .tc) : Prop := Kept (Pipeline.arrRef spec4) (fun w => (cfg4.win w).isOut) r ∧ Kept5 r
abbrev Kept3 (r : Ref sig .tc) : Prop := Kept (Pipeline.arrRef spec3) (fun w => (cfg3.win w).isOut) r ∧ Kept4 r
abbrev Kept2 (r : Ref sig .tc) : Prop := Kept (Pipeline.arrRef spec2) (fun w => (cfg2.win w).isOut) r ∧ Kept3 r
abbrev Kept1 (r : Ref sig .tc) : Prop := Kept (Pipeline.arrRef spec1) (fun w => (cfg1.win w).isOut) r ∧ Kept2 r

/-! What a call leaves in an array that no later call writes is there at the end. -/

theorem last6 {r : Ref sig .tc} (h : Kept6 r) : W7 m ρ c r = W6 m ρ c r := W7_of m ρ c r h
theorem last5 {r : Ref sig .tc} (h : Kept5 r) : W7 m ρ c r = W5 m ρ c r := (last6 m ρ c h.2).trans (W6_of m ρ c r h.1)
theorem last4 {r : Ref sig .tc} (h : Kept4 r) : W7 m ρ c r = W4 m ρ c r := (last5 m ρ c h.2).trans (W5_of m ρ c r h.1)
theorem last3 {r : Ref sig .tc} (h : Kept3 r) : W7 m ρ c r = W3 m ρ c r := (last4 m ρ c h.2).trans (W4_of m ρ c r h.1)
theorem last2 {r : Ref sig .tc} (h : Kept2 r) : W7 m ρ c r = W2 m ρ c r := (last3 m ρ c h.2).trans (W3_of m ρ c r h.1)
theorem last1 {r : Ref sig .tc} (h : Kept1 r) : W7 m ρ c r = W1 m ρ c r := (last2 m ρ c h.2).trans (W2_of m ρ c r h.1)

theorem final0 : W7 m ρ c main_v0_0 = delta (p := 4096) (q := 1024) (m ((c : Thread nD τ).loc main_arg0)) (m ((c : Thread nD τ).loc main_arg1)) (m ((c : Thread nD τ).loc main_arg2)) (m ((c : Thread nD τ).loc main_arg3))
    ∧ W7 m ρ c main_v0_1 = newM (p := 4096) (q := 1024) (m ((c : Thread nD τ).loc main_arg1)) (m ((c : Thread nD τ).loc main_arg2))
    ∧ W7 m ρ c main_v0_2 = newV (p := 4096) (q := 1024) (m ((c : Thread nD τ).loc main_arg1)) (m ((c : Thread nD τ).loc main_arg3)) :=
  ⟨(last1 m ρ c (r := main_v0_0) (by decide)).trans <| (W1_arr m ρ c 4).trans <| (delta0 _ c).trans <| delta_of_eq rfl rfl rfl rfl,
    (last1 m ρ c (r := main_v0_1) (by decide)).trans <| (W1_arr m ρ c 5).trans <| (newM0 _ c).trans <| congrArg₂ _ rfl rfl,
    (last1 m ρ c (r := main_v0_2) (by decide)).trans <| (W1_arr m ρ c 6).trans <| (newV0 _ c).trans <| congrArg₂ _ rfl rfl⟩

theorem final1 : W7 m ρ c main_v1_0 = delta (p := 1024) (q := 768) (m ((c : Thread nD τ).loc main_arg4)) (m ((c : Thread nD τ).loc main_arg5)) (m ((c : Thread nD τ).loc main_arg6)) (m ((c : Thread nD τ).loc main_arg7))
    ∧ W7 m ρ c main_v1_1 = newM (p := 1024) (q := 768) (m ((c : Thread nD τ).loc main_arg5)) (m ((c : Thread nD τ).loc main_arg6))
    ∧ W7 m ρ c main_v1_2 = newV (p := 1024) (q := 768) (m ((c : Thread nD τ).loc main_arg5)) (m ((c : Thread nD τ).loc main_arg7)) :=
  ⟨(last2 m ρ c (r := main_v1_0) (by decide)).trans <| (W2_arr m ρ c 4).trans <| (delta1 _ c).trans <| delta_of_eq (W1_args m ρ c main_arg4 (by decide)) (W1_args m ρ c main_arg5 (by decide)) (W1_args m ρ c main_arg6 (by decide)) (W1_args m ρ c main_arg7 (by decide)),
    (last2 m ρ c (r := main_v1_1) (by decide)).trans <| (W2_arr m ρ c 5).trans <| (newM1 _ c).trans <| congrArg₂ _ (W1_args m ρ c main_arg5 (by decide)) (W1_args m ρ c main_arg6 (by decide)),
    (last2 m ρ c (r := main_v1_2) (by decide)).trans <| (W2_arr m ρ c 6).trans <| (newV1 _ c).trans <| congrArg₂ _ (W1_args m ρ c main_arg5 (by decide)) (W1_args m ρ c main_arg7 (by decide))⟩

theorem final2 : W7 m ρ c main_v2_0 = delta (p := 256) (q := 1024) (m ((c : Thread nD τ).loc main_arg8)) (m ((c : Thread nD τ).loc main_arg9)) (m ((c : Thread nD τ).loc main_arg10)) (m ((c : Thread nD τ).loc main_arg11))
    ∧ W7 m ρ c main_v2_1 = newM (p := 256) (q := 1024) (m ((c : Thread nD τ).loc main_arg9)) (m ((c : Thread nD τ).loc main_arg10))
    ∧ W7 m ρ c main_v2_2 = newV (p := 256) (q := 1024) (m ((c : Thread nD τ).loc main_arg9)) (m ((c : Thread nD τ).loc main_arg11)) :=
  ⟨(last3 m ρ c (r := main_v2_0) (by decide)).trans <| (W3_arr m ρ c 4).trans <| (delta2 _ c).trans <| delta_of_eq (W2_args m ρ c main_arg8 (by decide)) (W2_args m ρ c main_arg9 (by decide)) (W2_args m ρ c main_arg10 (by decide)) (W2_args m ρ c main_arg11 (by decide)),
    (last3 m ρ c (r := main_v2_1) (by decide)).trans <| (W3_arr m ρ c 5).trans <| (newM2 _ c).trans <| congrArg₂ _ (W2_args m ρ c main_arg9 (by decide)) (W2_args m ρ c main_arg10 (by decide)),
    (last3 m ρ c (r := main_v2_2) (by decide)).trans <| (W3_arr m ρ c 6).trans <| (newV2 _ c).trans <| congrArg₂ _ (W2_args m ρ c main_arg9 (by decide)) (W2_args m ρ c main_arg11 (by decide))⟩

theorem final3 : W7 m ρ c main_v3_0 = delta (p := 1024) (q := 1280) (m ((c : Thread nD τ).loc main_arg12)) (m ((c : Thread nD τ).loc main_arg13)) (m ((c : Thread nD τ).loc main_arg14)) (m ((c : Thread nD τ).loc main_arg15))
    ∧ W7 m ρ c main_v3_1 = newM (p := 1024) (q := 1280) (m ((c : Thread nD τ).loc main_arg13)) (m ((c : Thread nD τ).loc main_arg14))
    ∧ W7 m ρ c main_v3_2 = newV (p := 1024) (q := 1280) (m ((c : Thread nD τ).loc main_arg13)) (m ((c : Thread nD τ).loc main_arg15)) :=
  ⟨(last4 m ρ c (r := main_v3_0) (by decide)).trans <| (W4_arr m ρ c 4).trans <| (delta3 _ c).trans <| delta_of_eq (W3_args m ρ c main_arg12 (by decide)) (W3_args m ρ c main_arg13 (by decide)) (W3_args m ρ c main_arg14 (by decide)) (W3_args m ρ c main_arg15 (by decide)),
    (last4 m ρ c (r := main_v3_1) (by decide)).trans <| (W4_arr m ρ c 5).trans <| (newM3 _ c).trans <| congrArg₂ _ (W3_args m ρ c main_arg13 (by decide)) (W3_args m ρ c main_arg14 (by decide)),
    (last4 m ρ c (r := main_v3_2) (by decide)).trans <| (W4_arr m ρ c 6).trans <| (newV3 _ c).trans <| congrArg₂ _ (W3_args m ρ c main_arg13 (by decide)) (W3_args m ρ c main_arg15 (by decide))⟩

theorem final4 : W7 m ρ c main_v4_0 = delta (p := 1024) (q := 512) (m ((c : Thread nD τ).loc main_arg16)) (m ((c : Thread nD τ).loc main_arg17)) (m ((c : Thread nD τ).loc main_arg18)) (m ((c : Thread nD τ).loc main_arg19))
    ∧ W7 m ρ c main_v4_1 = newM (p := 1024) (q := 512) (m ((c : Thread nD τ).loc main_arg17)) (m ((c : Thread nD τ).loc main_arg18))
    ∧ W7 m ρ c main_v4_2 = newV (p := 1024) (q := 512) (m ((c : Thread nD τ).loc main_arg17)) (m ((c : Thread nD τ).loc main_arg19)) :=
  ⟨(last5 m ρ c (r := main_v4_0) (by decide)).trans <| (W5_arr m ρ c 4).trans <| (delta4 _ c).trans <| delta_of_eq (W4_args m ρ c main_arg16 (by decide)) (W4_args m ρ c main_arg17 (by decide)) (W4_args m ρ c main_arg18 (by decide)) (W4_args m ρ c main_arg19 (by decide)),
    (last5 m ρ c (r := main_v4_1) (by decide)).trans <| (W5_arr m ρ c 5).trans <| (newM4 _ c).trans <| congrArg₂ _ (W4_args m ρ c main_arg17 (by decide)) (W4_args m ρ c main_arg18 (by decide)),
    (last5 m ρ c (r := main_v4_2) (by decide)).trans <| (W5_arr m ρ c 6).trans <| (newV4 _ c).trans <| congrArg₂ _ (W4_args m ρ c main_arg17 (by decide)) (W4_args m ρ c main_arg19 (by decide))⟩

theorem final5 : W7 m ρ c main_v5_0 = delta (p := 4096) (q := 1536) (m ((c : Thread nD τ).loc main_arg20)) (m ((c : Thread nD τ).loc main_arg21)) (m ((c : Thread nD τ).loc main_arg22)) (m ((c : Thread nD τ).loc main_arg23))
    ∧ W7 m ρ c main_v5_1 = newM (p := 4096) (q := 1536) (m ((c : Thread nD τ).loc main_arg21)) (m ((c : Thread nD τ).loc main_arg22))
    ∧ W7 m ρ c main_v5_2 = newV (p := 4096) (q := 1536) (m ((c : Thread nD τ).loc main_arg21)) (m ((c : Thread nD τ).loc main_arg23)) :=
  ⟨(last6 m ρ c (r := main_v5_0) (by decide)).trans <| (W6_arr m ρ c 4).trans <| (delta5 _ c).trans <| delta_of_eq (W5_args m ρ c main_arg20 (by decide)) (W5_args m ρ c main_arg21 (by decide)) (W5_args m ρ c main_arg22 (by decide)) (W5_args m ρ c main_arg23 (by decide)),
    (last6 m ρ c (r := main_v5_1) (by decide)).trans <| (W6_arr m ρ c 5).trans <| (newM5 _ c).trans <| congrArg₂ _ (W5_args m ρ c main_arg21 (by decide)) (W5_args m ρ c main_arg22 (by decide)),
    (last6 m ρ c (r := main_v5_2) (by decide)).trans <| (W6_arr m ρ c 6).trans <| (newV5 _ c).trans <| congrArg₂ _ (W5_args m ρ c main_arg21 (by decide)) (W5_args m ρ c main_arg23 (by decide))⟩

theorem final6 : W7 m ρ c main_v6_0 = delta (p := 448) (q := 1024) (m ((c : Thread nD τ).loc main_arg24)) (m ((c : Thread nD τ).loc main_arg25)) (m ((c : Thread nD τ).loc main_arg26)) (m ((c : Thread nD τ).loc main_arg27))
    ∧ W7 m ρ c main_v6_1 = newM (p := 448) (q := 1024) (m ((c : Thread nD τ).loc main_arg25)) (m ((c : Thread nD τ).loc main_arg26))
    ∧ W7 m ρ c main_v6_2 = newV (p := 448) (q := 1024) (m ((c : Thread nD τ).loc main_arg25)) (m ((c : Thread nD τ).loc main_arg27)) :=
  ⟨(W7_arr m ρ c 4).trans <| (delta6 _ c).trans <| delta_of_eq (W6_args m ρ c main_arg24 (by decide)) (W6_args m ρ c main_arg25 (by decide)) (W6_args m ρ c main_arg26 (by decide)) (W6_args m ρ c main_arg27 (by decide)),
    (W7_arr m ρ c 5).trans <| (newM6 _ c).trans <| congrArg₂ _ (W6_args m ρ c main_arg25 (by decide)) (W6_args m ρ c main_arg26 (by decide)),
    (W7_arr m ρ c 6).trans <| (newV6 _ c).trans <| congrArg₂ _ (W6_args m ρ c main_arg25 (by decide)) (W6_args m ρ c main_arg27 (by decide))⟩

end Cert.Proof.Adamw

end
-- ==== Proof.AdamwRef.lean ====
/- The reference's results: the optimiser's step of each array. -/
module

public import proofs.«01_k».proof.Proof.Gen.AdamwRefIdeal.Read
public import proofs.«01_k».proof.Proof.AdamwMath

@[expose] public section

set_option maxRecDepth 16384

noncomputable section

namespace Cert.Proof.Adamw

open Cert.AdamwRefIdeal Cert.AdamwRefIdeal.Read Idealize.ShloMosaic Idealize.ShloMosaic.TcCoe Idealize.SL.Sem

theorem ref_delta0 (w g m v : Mat 4096 1024) : val_main_v23 (F := Ideal) w g m v = delta w g m v := rfl
theorem ref_newM0 (g m : Mat 4096 1024) : val_main_v4 (F := Ideal) g m = newM g m := rfl
theorem ref_newV0 (g v : Mat 4096 1024) : val_main_v10 (F := Ideal) g v = newV g v := rfl

theorem ref_delta1 (w g m v : Mat 1024 768) : val_main_v47 (F := Ideal) w g m v = delta w g m v := rfl
theorem ref_newM1 (g m : Mat 1024 768) : val_main_v28 (F := Ideal) g m = newM g m := rfl
theorem ref_newV1 (g v : Mat 1024 768) : val_main_v34 (F := Ideal) g v = newV g v := rfl

theorem ref_delta2 (w g m v : Mat 256 1024) : val_main_v71 (F := Ideal) w g m v = delta w g m v := rfl
theorem ref_newM2 (g m : Mat 256 1024) : val_main_v52 (F := Ideal) g m = newM g m := rfl
theorem ref_newV2 (g v : Mat 256 1024) : val_main_v58 (F := Ideal) g v = newV g v := rfl

theorem ref_delta3 (w g m v : Mat 1024 1280) : val_main_v95 (F := Ideal) w g m v = delta w g m v := rfl
theorem ref_newM3 (g m : Mat 1024 1280) : val_main_v76 (F := Ideal) g m = newM g m := rfl
theorem ref_newV3 (g v : Mat 1024 1280) : val_main_v82 (F := Ideal) g v = newV g v := rfl

theorem ref_delta4 (w g m v : Mat 1024 512) : val_main_v119 (F := Ideal) w g m v = delta w g m v := rfl
theorem ref_newM4 (g m : Mat 1024 512) : val_main_v100 (F := Ideal) g m = newM g m := rfl
theorem ref_newV4 (g v : Mat 1024 512) : val_main_v106 (F := Ideal) g v = newV g v := rfl

theorem ref_delta5 (w g m v : Mat 4096 1536) : val_main_v143 (F := Ideal) w g m v = delta w g m v := rfl
theorem ref_newM5 (g m : Mat 4096 1536) : val_main_v124 (F := Ideal) g m = newM g m := rfl
theorem ref_newV5 (g v : Mat 4096 1536) : val_main_v130 (F := Ideal) g v = newV g v := rfl

theorem ref_delta6 (w g m v : Mat 448 1024) : val_main_v167 (F := Ideal) w g m v = delta w g m v := rfl
theorem ref_newM6 (g m : Mat 448 1024) : val_main_v148 (F := Ideal) g m = newM g m := rfl
theorem ref_newV6 (g v : Mat 448 1024) : val_main_v154 (F := Ideal) g v = newV g v := rfl

end Cert.Proof.Adamw

end
-- ==== Proof.LinearValue.lean ====
/- What each call of the four projections (forward, gradient of the argument, gradient of the weight) leaves in its result,
   whatever its arguments' arrays hold. -/
module

public import proofs.«01_k».proof.Proof.Gen.LinearIdeal.Frame
public import proofs.«01_k».proof.Proof.Products
public import Idealize.ShloMosaic.Lib.Pipeline.ValueKit
public import Idealize.ShloMosaic.Lib.Pipeline.ReadBack

@[expose] public section

set_option maxRecDepth 16384

noncomputable section

namespace Cert.Proof.Linear

open Cert.LinearIdeal Cert.LinearIdeal.Gen Idealize.ShloMosaic Idealize.ShloMosaic.TcCoe Idealize.SL.Sem

variable (V : (c : Dev nD) → (b : Ref sig .tc) → Buf (Elt Ideal) ((c : Thread nD τ).loc b)) (c : Dev nD)

/-! The projections: tiles of 1088 rows, the columns outermost. -/

theorem idx0 : ∀ t : Fin cfg0.N, win0_0.index t = ![t.val % 8, 0] ∧ win0_1.index t = ![0, t.val / 8] ∧ win0_2.index t = ![t.val % 8, t.val / 8] :=
  (by decide +kernel : ∀ t : Fin grid0.N, _)

theorem idx3 : ∀ t : Fin cfg3.N, win3_0.index t = ![t.val % 8, 0] ∧ win3_1.index t = ![0, t.val / 8] ∧ win3_2.index t = ![t.val % 8, t.val / 8] :=
  (by decide +kernel : ∀ t : Fin grid3.N, _)

theorem idx6 : ∀ t : Fin cfg6.N, win6_0.index t = ![t.val % 8, 0] ∧ win6_1.index t = ![0, t.val / 8] ∧ win6_2.index t = ![t.val % 8, t.val / 8] :=
  (by decide +kernel : ∀ t : Fin grid6.N, _)

theorem idx9 : ∀ t : Fin cfg9.N, win9_0.index t = ![t.val % 8, 0] ∧ win9_1.index t = ![0, t.val / 8] ∧ win9_2.index t = ![t.val % 8, t.val / 8] :=
  (by decide +kernel : ∀ t : Fin grid9.N, _)

theorem value0 : (dat0 V c).arrAt 2 cfg0.N = apply (m := 8704) (k := 1024) (n := 3072) (V c main_arg0) (V c main_arg1) := by
  refine (dat0 V c).arrAt_eq_of_covers 2 _ (by decide +kernel) fun t _ y => ?_
  blk_simp
  rw [after0_2]; unfold out0_2; frame_out
  pointwise [k0_pay1]
  refine apply_congr (m := 1088) (n := 1536) (fun l => ?_) fun l => ?_ <;> blk_ext [iblk0, idx0 t]

theorem value3 : (dat3 V c).arrAt 2 cfg3.N = apply (m := 8704) (k := 1024) (n := 1024) (V c main_arg3) (V c main_arg4) := by
  refine (dat3 V c).arrAt_eq_of_covers 2 _ (by decide +kernel) fun t _ y => ?_
  blk_simp
  rw [after3_2]; unfold out3_2; frame_out
  pointwise [k3_pay1]
  refine apply_congr (m := 1088) (n := 1024) (fun l => ?_) fun l => ?_ <;> blk_ext [iblk3, idx3 t]

theorem value6 : (dat6 V c).arrAt 2 cfg6.N = apply (m := 8704) (k := 1024) (n := 5120) (V c main_arg6) (V c main_arg7) := by
  refine (dat6 V c).arrAt_eq_of_covers 2 _ (by decide +kernel) fun t _ y => ?_
  blk_simp
  rw [after6_2]; unfold out6_2; frame_out
  pointwise [k6_pay1]
  refine apply_congr (m := 1088) (n := 1280) (fun l => ?_) fun l => ?_ <;> blk_ext [iblk6, idx6 t]

theorem value9 : (dat9 V c).arrAt 2 cfg9.N = apply (m := 8704) (k := 1024) (n := 2048) (V c main_arg9) (V c main_arg10) := by
  refine (dat9 V c).arrAt_eq_of_covers 2 _ (by decide +kernel) fun t _ y => ?_
  blk_simp
  rw [after9_2]; unfold out9_2; frame_out
  pointwise [k9_pay1]
  refine apply_congr (m := 1088) (n := 2048) (fun l => ?_) fun l => ?_ <;> blk_ext [iblk9, idx9 t]

/-! The gradients of their arguments: tiles of 544 rows. -/

theorem idx1 : ∀ t : Fin cfg1.N, win1_0.index t = ![t.val, 0] ∧ win1_1.index t = ![0, 0] ∧ win1_3.index t = ![t.val, 0] :=
  (by decide +kernel : ∀ t : Fin grid1.N, _)

theorem idx4 : ∀ t : Fin cfg4.N, win4_0.index t = ![t.val, 0] ∧ win4_1.index t = ![0, 0] ∧ win4_3.index t = ![t.val, 0] :=
  (by decide +kernel : ∀ t : Fin grid4.N, _)

theorem idx7 : ∀ t : Fin cfg7.N, win7_0.index t = ![t.val, 0] ∧ win7_1.index t = ![0, 0] ∧ win7_3.index t = ![t.val, 0] :=
  (by decide +kernel : ∀ t : Fin grid7.N, _)

theorem idx10 : ∀ t : Fin cfg10.N, win10_0.index t = ![t.val, 0] ∧ win10_1.index t = ![0, 0] ∧ win10_3.index t = ![t.val, 0] :=
  (by decide +kernel : ∀ t : Fin grid10.N, _)

theorem value1 : (dat1 V c).arrAt 3 cfg1.N = applyT (m := 8704) (k := 1024) (n := 3072) (V c main_arg2) (V c main_arg1) := by
  refine (dat1 V c).arrAt_eq_of_covers 3 _ (by decide +kernel) fun t _ y => ?_
  blk_simp
  rw [after1_3]; unfold out1_3; frame_out
  pointwise [k1_pay1]
  refine applyT_congr (m := 544) (fun l => ?_) fun l => ?_ <;> blk_ext [iblk1, idx1 t]

theorem value4 : (dat4 V c).arrAt 3 cfg4.N = applyT (m := 8704) (k := 1024) (n := 1024) (V c main_arg5) (V c main_arg4) := by
  refine (dat4 V c).arrAt_eq_of_covers 3 _ (by decide +kernel) fun t _ y => ?_
  blk_simp
  rw [after4_3]; unfold out4_3; frame_out
  pointwise [k4_pay1]
  refine applyT_congr (m := 544) (fun l => ?_) fun l => ?_ <;> blk_ext [iblk4, idx4 t]

theorem value7 : (dat7 V c).arrAt 3 cfg7.N = applyT (m := 8704) (k := 1024) (n := 5120) (V c main_arg8) (V c main_arg7) := by
  refine (dat7 V c).arrAt_eq_of_covers 3 _ (by decide +kernel) fun t _ y => ?_
  blk_simp
  rw [after7_3]; unfold out7_3; frame_out
  pointwise [k7_pay1]
  refine applyT_congr (m := 544) (fun l => ?_) fun l => ?_ <;> blk_ext [iblk7, idx7 t]

theorem value10 : (dat10 V c).arrAt 3 cfg10.N = applyT (m := 8704) (k := 1024) (n := 2048) (V c main_arg11) (V c main_arg10) := by
  refine (dat10 V c).arrAt_eq_of_covers 3 _ (by decide +kernel) fun t _ y => ?_
  blk_simp
  rw [after10_3]; unfold out10_3; frame_out
  pointwise [k10_pay1]
  refine applyT_congr (m := 544) (fun l => ?_) fun l => ?_ <;> blk_ext [iblk10, idx10 t]

/-! The gradients of the weights: blocks of 1024 columns, each summed over eight stretches of 1088 tokens. -/

theorem idx2 : ∀ t : Fin cfg2.N, win2_0.index t = ![t.val % 8, 0] ∧ win2_1.index t = ![t.val % 8, t.val / 8] ∧ win2_2.index t = ![0, t.val / 8] :=
  (by decide +kernel : ∀ t : Fin grid2.N, _)

theorem idx5 : ∀ t : Fin cfg5.N, win5_0.index t = ![t.val % 8, 0] ∧ win5_1.index t = ![t.val % 8, t.val / 8] ∧ win5_2.index t = ![0, t.val / 8] :=
  (by decide +kernel : ∀ t : Fin grid5.N, _)

theorem idx8 : ∀ t : Fin cfg8.N, win8_0.index t = ![t.val % 8, 0] ∧ win8_1.index t = ![t.val % 8, t.val / 8] ∧ win8_2.index t = ![0, t.val / 8] :=
  (by decide +kernel : ∀ t : Fin grid8.N, _)

theorem idx11 : ∀ t : Fin cfg11.N, win11_0.index t = ![t.val % 8, 0] ∧ win11_1.index t = ![t.val % 8, t.val / 8] ∧ win11_2.index t = ![0, t.val / 8] :=
  (by decide +kernel : ∀ t : Fin grid11.N, _)

/-- The blocks start from zero. -/
theorem zero (i : S1024x1024.Idx) : k2_pay1 (F := Ideal) i = 0 := by pointwise [k2_pay1]

/-- A point adds its stretch's products. -/
theorem add (x : Mat 1088 1024) (a : Mat 1024 1024) (y : Mat 1088 1024) (i : S1024x1024.Idx) :
    k2_pay2 (F := Ideal) x a y i = a i + outer x y i := by
  pointwise [k2_pay2]
  rfl

/-- The first point of a block leaves its stretch's products. -/
theorem start (x : Mat 1088 1024) (y : Mat 1088 1024) (i : S1024x1024.Idx) : k2_pay2 (F := Ideal) x (k2_pay1 (F := Ideal)) y i = 0 + outer x y i := by
  rw [add, zero]

theorem value2 : (dat2 V c).arrAt 2 cfg2.N = outer (m := 8704) (k := 1024) (n := 3072) (V c main_arg0) (V c main_arg2) := by
  refine (dat2 V c).arrAt_eq_of_covers 2 _ (by decide +kernel) fun t hf y => ?_
  blk_simp
  rw [after2_2, Pipeline.eq_sum_fin_of_reset_step_apply_of_flush (fun n h => outsAt2 V c n h) 8 (fun _ => 0)
    (fun p => outer (m := 1088) (k := 1024) (n := 1024) (iblk2 V c 0 p) (iblk2 V c 1 p))
    (fun t h j => by rw [outsAt2_A V c t h]; frame_out; exact start _ _ _)
    (fun t h j => by rw [outsAt2_B V c t h]; frame_out; exact add _ _ _ _) t ((flush2_2 t).mp hf) _, zero_add]
  refine outer_stretches rfl (fun s r hl => ?_) fun s r hl => ?_ <;>
    blk_ext [iblk2, idx2 t, idx2 ⟨_, Pipeline.run_point_lt_of_flush t ((flush2_2 t).mp hf) s⟩]

theorem value5 : (dat5 V c).arrAt 2 cfg5.N = outer (m := 8704) (k := 1024) (n := 1024) (V c main_arg3) (V c main_arg5) := by
  refine (dat5 V c).arrAt_eq_of_covers 2 _ (by decide +kernel) fun t hf y => ?_
  blk_simp
  rw [after5_2, Pipeline.eq_sum_fin_of_reset_step_apply_of_flush (fun n h => outsAt5 V c n h) 8 (fun _ => 0)
    (fun p => outer (m := 1088) (k := 1024) (n := 1024) (iblk5 V c 0 p) (iblk5 V c 1 p))
    (fun t h j => by rw [outsAt5_A V c t h]; frame_out; exact start _ _ _)
    (fun t h j => by rw [outsAt5_B V c t h]; frame_out; exact add _ _ _ _) t ((flush5_2 t).mp hf) _, zero_add]
  refine outer_stretches rfl (fun s r hl => ?_) fun s r hl => ?_ <;>
    blk_ext [iblk5, idx5 t, idx5 ⟨_, Pipeline.run_point_lt_of_flush t ((flush5_2 t).mp hf) s⟩]

theorem value8 : (dat8 V c).arrAt 2 cfg8.N = outer (m := 8704) (k := 1024) (n := 5120) (V c main_arg6) (V c main_arg8) := by
  refine (dat8 V c).arrAt_eq_of_covers 2 _ (by decide +kernel) fun t hf y => ?_
  blk_simp
  rw [after8_2, Pipeline.eq_sum_fin_of_reset_step_apply_of_flush (fun n h => outsAt8 V c n h) 8 (fun _ => 0)
    (fun p => outer (m := 1088) (k := 1024) (n := 1024) (iblk8 V c 0 p) (iblk8 V c 1 p))
    (fun t h j => by rw [outsAt8_A V c t h]; frame_out; exact start _ _ _)
    (fun t h j => by rw [outsAt8_B V c t h]; frame_out; exact add _ _ _ _) t ((flush8_2 t).mp hf) _, zero_add]
  refine outer_stretches rfl (fun s r hl => ?_) fun s r hl => ?_ <;>
    blk_ext [iblk8, idx8 t, idx8 ⟨_, Pipeline.run_point_lt_of_flush t ((flush8_2 t).mp hf) s⟩]

theorem value11 : (dat11 V c).arrAt 2 cfg11.N = outer (m := 8704) (k := 1024) (n := 2048) (V c main_arg9) (V c main_arg11) := by
  refine (dat11 V c).arrAt_eq_of_covers 2 _ (by decide +kernel) fun t hf y => ?_
  blk_simp
  rw [after11_2, Pipeline.eq_sum_fin_of_reset_step_apply_of_flush (fun n h => outsAt11 V c n h) 8 (fun _ => 0)
    (fun p => outer (m := 1088) (k := 1024) (n := 1024) (iblk11 V c 0 p) (iblk11 V c 1 p))
    (fun t h j => by rw [outsAt11_A V c t h]; frame_out; exact start _ _ _)
    (fun t h j => by rw [outsAt11_B V c t h]; frame_out; exact add _ _ _ _) t ((flush11_2 t).mp hf) _, zero_add]
  refine outer_stretches rfl (fun s r hl => ?_) fun s r hl => ?_ <;>
    blk_ext [iblk11, idx11 t, idx11 ⟨_, Pipeline.run_point_lt_of_flush t ((flush11_2 t).mp hf) s⟩]

end Cert.Proof.Linear

end
-- ==== Proof.LinearRun.lean ====
/- The projections' run: their twelve calls one after the other, and what the twelve results hold at the end. -/
module

public import proofs.«01_k».proof.Proof.LinearValue

@[expose] public section

set_option maxRecDepth 16384

noncomputable section

namespace Cert.Proof.Linear

open Cert.LinearIdeal Cert.LinearIdeal.Gen Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Rounds

/-- The resources the launch hands out. -/
abbrev Res := MT nD τ sig Unit (Elt Ideal) ℕ (UR sig nD τ) ℕ

variable (m : (ℓ : Loc nD τ sig) → Buf (Elt Ideal) ℓ) (ρ : Dev nD → PrngReg) (c : Dev nD)

-- the launch's implicit arguments are found by unifying its conclusion with this one
set_option backward.isDefEq.respectTransparency.types false in
/-- Every run of the twelve calls ends, with every array that outlives a call at the last boundary's contents. -/
theorem run : θ_run defs (onTc (τ := τ) (main (F := Ideal))) ⟨m, fun _ => 0, ρ⟩ (fun r => ∀ c : Dev nD,
      ∀ b ∈ Pipeline.ucRefs τ sig, r.2.mem (((c : Thread nD τ)).1, b) = W12 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp Res)
            ⊢ BI.own (emb₁ (initOf (Pipeline.cells cfgs cellOf_inj) (Pipeline.launchToks cfgs cellOf_inj))) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ => h)

/-- The run's end: each result as the last boundary has it, and the arguments unchanged. -/
theorem ends : θ_run defs (onTc (τ := τ) (main (F := Ideal))) ⟨m, fun _ => 0, ρ⟩ (fun r => ∀ c : Dev nD,
      r.2.mem ((c.tc : Thread nD τ).loc main_v0) = W12 m ρ c main_v0
      ∧ r.2.mem ((c.tc : Thread nD τ).loc main_v1) = W12 m ρ c main_v1
      ∧ r.2.mem ((c.tc : Thread nD τ).loc main_v2) = W12 m ρ c main_v2
      ∧ r.2.mem ((c.tc : Thread nD τ).loc main_v3) = W12 m ρ c main_v3
      ∧ r.2.mem ((c.tc : Thread nD τ).loc main_v4) = W12 m ρ c main_v4
      ∧ r.2.mem ((c.tc : Thread nD τ).loc main_v5) = W12 m ρ c main_v5
      ∧ r.2.mem ((c.tc : Thread nD τ).loc main_v6) = W12 m ρ c main_v6
      ∧ r.2.mem ((c.tc : Thread nD τ).loc main_v7) = W12 m ρ c main_v7
      ∧ r.2.mem ((c.tc : Thread nD τ).loc main_v8) = W12 m ρ c main_v8
      ∧ r.2.mem ((c.tc : Thread nD τ).loc main_v9) = W12 m ρ c main_v9
      ∧ r.2.mem ((c.tc : Thread nD τ).loc main_v10) = W12 m ρ c main_v10
      ∧ r.2.mem ((c.tc : Thread nD τ).loc main_v11) = W12 m ρ c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  θ_run_mono (run m ρ) fun r h c => ⟨h c _ (mem_uc main_v0 (by decide)),
    h c _ (mem_uc main_v1 (by decide)),
    h c _ (mem_uc main_v2 (by decide)),
    h c _ (mem_uc main_v3 (by decide)),
    h c _ (mem_uc main_v4 (by decide)),
    h c _ (mem_uc main_v5 (by decide)),
    h c _ (mem_uc main_v6 (by decide)),
    h c _ (mem_uc main_v7 (by decide)),
    h c _ (mem_uc main_v8 (by decide)),
    h c _ (mem_uc main_v9 (by decide)),
    h c _ (mem_uc main_v10 (by decide)),
    h c _ (mem_uc main_v11 (by decide)),
    (h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c)⟩

/-! The results at the end: a call's result is written once, and the calls read the arguments. -/

/-- A call keeps the arrays that are none of its results. -/
abbrev Kept {W : ℕ} (ref : Fin W → Ref sig .tc) (out : Fin W → Bool) (r : Ref sig .tc) : Prop := ∀ w, ref w = r → out w = false

abbrev Kept11 (r : Ref sig .tc) : Prop := Kept (Pipeline.arrRef spec11) (fun w => (cfg11.win w).isOut) r
abbrev Kept10 (r : Ref sig .tc) : Prop := Kept (Pipeline.arrRef spec10) (fun w => (cfg10.win w).isOut) r ∧ Kept11 r
abbrev Kept9 (r : Ref sig .tc) : Prop := Kept (Pipeline.arrRef spec9) (fun w => (cfg9.win w).isOut) r ∧ Kept10 r
abbrev Kept8 (r : Ref sig .tc) : Prop := Kept (Pipeline.arrRef spec8) (fun w => (cfg8.win w).isOut) r ∧ Kept9 r
abbrev Kept7 (r : Ref sig .tc) : Prop := Kept (Pipeline.arrRef spec7) (fun w => (cfg7.win w).isOut) r ∧ Kept8 r
abbrev Kept6 (r : Ref sig .tc) : Prop := Kept (Pipeline.arrRef spec6) (fun w => (cfg6.win w).isOut) r ∧ Kept7 r
abbrev Kept5 (r : Ref sig .tc) : Prop := Kept (Pipeline.arrRef spec5) (fun w => (cfg5.win w).isOut) r ∧ Kept6 r
abbrev Kept4 (r : Ref sig .tc) : Prop := Kept (Pipeline.arrRef spec4) (fun w => (cfg4.win w).isOut) r ∧ Kept5 r
abbrev Kept3 (r : Ref sig .tc) : Prop := Kept (Pipeline.arrRef spec3) (fun w => (cfg3.win w).isOut) r ∧ Kept4 r
abbrev Kept2 (r : Ref sig .tc) : Prop := Kept (Pipeline.arrRef spec2) (fun w => (cfg2.win w).isOut) r ∧ Kept3 r
abbrev Kept1 (r : Ref sig .tc) : Prop := Kept (Pipeline.arrRef spec1) (fun w => (cfg1.win w).isOut) r ∧ Kept2 r

/-! What a call leaves in an array that no later call writes is there at the end. -/

theorem last11 {r : Ref sig .tc} (h : Kept11 r) : W12 m ρ c r = W11 m ρ c r := W12_of m ρ c r h
theorem last10 {r : Ref sig .tc} (h : Kept10 r) : W12 m ρ c r = W10 m ρ c r := (last11 m ρ c h.2).trans (W11_of m ρ c r h.1)
theorem last9 {r : Ref sig .tc} (h : Kept9 r) : W12 m ρ c r = W9 m ρ c r := (last10 m ρ c h.2).trans (W10_of m ρ c r h.1)
theorem last8 {r : Ref sig .tc} (h : Kept8 r) : W12 m ρ c r = W8 m ρ c r := (last9 m ρ c h.2).trans (W9_of m ρ c r h.1)
theorem last7 {r : Ref sig .tc} (h : Kept7 r) : W12 m ρ c r = W7 m ρ c r := (last8 m ρ c h.2).trans (W8_of m ρ c r h.1)
theorem last6 {r : Ref sig .tc} (h : Kept6 r) : W12 m ρ c r = W6 m ρ c r := (last7 m ρ c h.2).trans (W7_of m ρ c r h.1)
theorem last5 {r : Ref sig .tc} (h : Kept5 r) : W12 m ρ c r = W5 m ρ c r := (last6 m ρ c h.2).trans (W6_of m ρ c r h.1)
theorem last4 {r : Ref sig .tc} (h : Kept4 r) : W12 m ρ c r = W4 m ρ c r := (last5 m ρ c h.2).trans (W5_of m ρ c r h.1)
theorem last3 {r : Ref sig .tc} (h : Kept3 r) : W12 m ρ c r = W3 m ρ c r := (last4 m ρ c h.2).trans (W4_of m ρ c r h.1)
theorem last2 {r : Ref sig .tc} (h : Kept2 r) : W12 m ρ c r = W2 m ρ c r := (last3 m ρ c h.2).trans (W3_of m ρ c r h.1)
theorem last1 {r : Ref sig .tc} (h : Kept1 r) : W12 m ρ c r = W1 m ρ c r := (last2 m ρ c h.2).trans (W2_of m ρ c r h.1)

theorem final0 : W12 m ρ c main_v0 = apply (m := 8704) (k := 1024) (n := 3072) (m ((c : Thread nD τ).loc main_arg0)) (m ((c : Thread nD τ).loc main_arg1)) :=
  (last1 m ρ c (r := main_v0) (by decide)).trans <| (W1_arr m ρ c 2).trans <| (value0 _ c).trans <| rfl
theorem final1 : W12 m ρ c main_v1 = applyT (m := 8704) (k := 1024) (n := 3072) (m ((c : Thread nD τ).loc main_arg2)) (m ((c : Thread nD τ).loc main_arg1)) :=
  (last2 m ρ c (r := main_v1) (by decide)).trans <| (W2_arr m ρ c 3).trans <| (value1 _ c).trans <| congrArg₂ _ (W1_args m ρ c main_arg2 (by decide)) (W1_args m ρ c main_arg1 (by decide))
theorem final2 : W12 m ρ c main_v2 = outer (m := 8704) (k := 1024) (n := 3072) (m ((c : Thread nD τ).loc main_arg0)) (m ((c : Thread nD τ).loc main_arg2)) :=
  (last3 m ρ c (r := main_v2) (by decide)).trans <| (W3_arr m ρ c 2).trans <| (value2 _ c).trans <| congrArg₂ _ (W2_args m ρ c main_arg0 (by decide)) (W2_args m ρ c main_arg2 (by decide))
theorem final3 : W12 m ρ c main_v3 = apply (m := 8704) (k := 1024) (n := 1024) (m ((c : Thread nD τ).loc main_arg3)) (m ((c : Thread nD τ).loc main_arg4)) :=
  (last4 m ρ c (r := main_v3) (by decide)).trans <| (W4_arr m ρ c 2).trans <| (value3 _ c).trans <| congrArg₂ _ (W3_args m ρ c main_arg3 (by decide)) (W3_args m ρ c main_arg4 (by decide))
theorem final4 : W12 m ρ c main_v4 = applyT (m := 8704) (k := 1024) (n := 1024) (m ((c : Thread nD τ).loc main_arg5)) (m ((c : Thread nD τ).loc main_arg4)) :=
  (last5 m ρ c (r := main_v4) (by decide)).trans <| (W5_arr m ρ c 3).trans <| (value4 _ c).trans <| congrArg₂ _ (W4_args m ρ c main_arg5 (by decide)) (W4_args m ρ c main_arg4 (by decide))
theorem final5 : W12 m ρ c main_v5 = outer (m := 8704) (k := 1024) (n := 1024) (m ((c : Thread nD τ).loc main_arg3)) (m ((c : Thread nD τ).loc main_arg5)) :=
  (last6 m ρ c (r := main_v5) (by decide)).trans <| (W6_arr m ρ c 2).trans <| (value5 _ c).trans <| congrArg₂ _ (W5_args m ρ c main_arg3 (by decide)) (W5_args m ρ c main_arg5 (by decide))
theorem final6 : W12 m ρ c main_v6 = apply (m := 8704) (k := 1024) (n := 5120) (m ((c : Thread nD τ).loc main_arg6)) (m ((c : Thread nD τ).loc main_arg7)) :=
  (last7 m ρ c (r := main_v6) (by decide)).trans <| (W7_arr m ρ c 2).trans <| (value6 _ c).trans <| congrArg₂ _ (W6_args m ρ c main_arg6 (by decide)) (W6_args m ρ c main_arg7 (by decide))
theorem final7 : W12 m ρ c main_v7 = applyT (m := 8704) (k := 1024) (n := 5120) (m ((c : Thread nD τ).loc main_arg8)) (m ((c : Thread nD τ).loc main_arg7)) :=
  (last8 m ρ c (r := main_v7) (by decide)).trans <| (W8_arr m ρ c 3).trans <| (value7 _ c).trans <| congrArg₂ _ (W7_args m ρ c main_arg8 (by decide)) (W7_args m ρ c main_arg7 (by decide))
theorem final8 : W12 m ρ c main_v8 = outer (m := 8704) (k := 1024) (n := 5120) (m ((c : Thread nD τ).loc main_arg6)) (m ((c : Thread nD τ).loc main_arg8)) :=
  (last9 m ρ c (r := main_v8) (by decide)).trans <| (W9_arr m ρ c 2).trans <| (value8 _ c).trans <| congrArg₂ _ (W8_args m ρ c main_arg6 (by decide)) (W8_args m ρ c main_arg8 (by decide))
theorem final9 : W12 m ρ c main_v9 = apply (m := 8704) (k := 1024) (n := 2048) (m ((c : Thread nD τ).loc main_arg9)) (m ((c : Thread nD τ).loc main_arg10)) :=
  (last10 m ρ c (r := main_v9) (by decide)).trans <| (W10_arr m ρ c 2).trans <| (value9 _ c).trans <| congrArg₂ _ (W9_args m ρ c main_arg9 (by decide)) (W9_args m ρ c main_arg10 (by decide))
theorem final10 : W12 m ρ c main_v10 = applyT (m := 8704) (k := 1024) (n := 2048) (m ((c : Thread nD τ).loc main_arg11)) (m ((c : Thread nD τ).loc main_arg10)) :=
  (last11 m ρ c (r := main_v10) (by decide)).trans <| (W11_arr m ρ c 3).trans <| (value10 _ c).trans <| congrArg₂ _ (W10_args m ρ c main_arg11 (by decide)) (W10_args m ρ c main_arg10 (by decide))
theorem final11 : W12 m ρ c main_v11 = outer (m := 8704) (k := 1024) (n := 2048) (m ((c : Thread nD τ).loc main_arg9)) (m ((c : Thread nD τ).loc main_arg11)) :=
  (W12_arr m ρ c 2).trans <| (value11 _ c).trans <| congrArg₂ _ (W11_args m ρ c main_arg9 (by decide)) (W11_args m ρ c main_arg11 (by decide))

end Cert.Proof.Linear

end
-- ==== Proof.ConvPoint.lean ====
/- One grid point of the convolution's gradient: tile `t % 17` (256 rows) of batch entry `t / 17`.
   The shifted operands of the tile are the array's own shifted rows: inside the tile a rotation brings
   the neighbour, at its edge the neighbouring tile's edge row is read, masked where a segment ends. -/
module

public import proofs.«01_k».proof.Proof.Gen.ConvIdeal.Value
public import proofs.«01_k».proof.Proof.ConvMath
public import Idealize.ShloMosaic.Lib.Pipeline.ValueKit

@[expose] public section

set_option maxRecDepth 16384

noncomputable section

namespace Cert.Proof.Conv

open Cert.ConvIdeal Cert.ConvIdeal.Gen Idealize.ShloMosaic Idealize.ShloMosaic.TcCoe Idealize.SL.Sem

variable (m : (ℓ : Loc nD τ sig) → Buf (Elt Ideal) ℓ) (c : Dev nD) (t : Fin cfg0.N)

/-- The three arguments. -/
abbrev argZ : Z := m ((c : Thread nD τ).loc main_arg0)
abbrev argW : W := m ((c : Thread nD τ).loc main_arg1)
abbrev argY : Y := m ((c : Thread nD τ).loc main_arg2)

/-- Which block each window holds at a point. -/
theorem idx : ∀ t : Fin cfg0.N, win0_0.index t = ![t.val / 17, t.val % 17, 0] ∧ win0_1.index t = ![t.val / 17, t.val % 17 * 32 - 1, 0]
    ∧ win0_2.index t = ![t.val / 17, min (t.val % 17 * 32 + 32) 543, 0] ∧ win0_3.index t = ![0, 0]
    ∧ win0_4.index t = ![t.val / 17, t.val % 17, 0] ∧ win0_5.index t = ![t.val / 17, t.val % 17 * 32 - 1, 0]
    ∧ win0_6.index t = ![t.val / 17, min (t.val % 17 * 32 + 32) 543, 0] ∧ win0_7.index t = ![t.val / 17, t.val % 17, 0]
    ∧ win0_8.index t = ![0, 0] :=
  (by decide +kernel : ∀ t : Fin grid0.N, _)

theorem t_lt (t : Fin cfg0.N) : t.val < 34 := t.isLt

/-- The point's batch entry. -/
def bat (t : Fin cfg0.N) : Fin 2 := ⟨t.val / 17, by have := t_lt t; omega⟩
/-- The array's row that is row `r` of the point's tile. -/
def row (t : Fin cfg0.N) (r : Fin 256) : Fin 4352 := ⟨t.val % 17 * 256 + r.val, by omega⟩

/-- The masks, as the conditions on the tile that they state. -/
theorem flagPrev : ∀ t : Fin cfg0.N, Scalar.andi (Scalar.cmpi .ne (BitVec.ofNat 32 (grid0.coords t 1).val) 0#32) (Scalar.cmpi .ne (BitVec.ofNat 32 (grid0.coords t 1).val) 1#32)
    = BitVec.ofBool (decide (¬ (t.val % 17 = 0 ∨ t.val % 17 = 1))) :=
  (by decide +kernel : ∀ t : Fin grid0.N, _)
theorem flagNext : ∀ t : Fin cfg0.N, Scalar.andi (Scalar.cmpi .ne (BitVec.ofNat 32 (grid0.coords t 1).val) 0#32) (Scalar.cmpi .ne (BitVec.ofNat 32 (grid0.coords t 1).val) 16#32)
    = BitVec.ofBool (decide (¬ (t.val % 17 = 0 ∨ t.val % 17 = 16))) :=
  (by decide +kernel : ∀ t : Fin grid0.N, _)
theorem firstRow : ∀ r : Fin 256, IntOp.cmpi .eq (BitVec.ofNat 32 r.val) 0#32 = BitVec.ofBool (decide (r.val = 0)) := by decide +kernel
theorem lastRow : ∀ r : Fin 256, IntOp.cmpi .eq (BitVec.ofNat 32 r.val) 255#32 = BitVec.ofBool (decide (r.val = 255)) := by decide +kernel

theorem sel_bool {α : Type} (p : Prop) [Decidable p] (x y : α) : Scalar.select (BitVec.ofBool (decide p)) x y = if p then x else y := by
  by_cases h : p <;> simp [Scalar.select, h]

/-! The blocks, read out of the arrays. -/

theorem blkZ (r : Fin 256) (k : Fin 3072) : iblk m c 0 t (ix3 0 r k) = argZ m c (ix3 (bat t) (row t r) k) := by
  blk_ext [iblk, V, idx t, bat, row]
theorem blkZprev (r : Fin 8) (k : Fin 3072) : iblk m c 1 t (ix3 0 r k) = argZ m c (ix3 (bat t) ⟨(t.val % 17 * 32 - 1) * 8 + r.val, by omega⟩ k) := by
  blk_ext [iblk, V, idx t, bat, row]
theorem blkZnext (r : Fin 8) (k : Fin 3072) : iblk m c 2 t (ix3 0 r k) = argZ m c (ix3 (bat t) ⟨min (t.val % 17 * 32 + 32) 543 * 8 + r.val, by omega⟩ k) := by
  blk_ext [iblk, V, idx t, bat, row]
theorem blkW (j : Fin 3) (k : Fin 1024) : iblk m c 3 t (ix2 j k) = argW m c (ix2 j k) := by
  blk_ext [iblk, V, idx t]
theorem blkY (r : Fin 256) (k : Fin 1024) : iblk m c 4 t (ix3 0 r k) = argY m c (ix3 (bat t) (row t r) k) := by
  blk_ext [iblk, V, idx t, bat, row]
theorem blkYprev (r : Fin 8) (k : Fin 1024) : iblk m c 5 t (ix3 0 r k) = argY m c (ix3 (bat t) ⟨(t.val % 17 * 32 - 1) * 8 + r.val, by omega⟩ k) := by
  blk_ext [iblk, V, idx t, bat, row]
theorem blkYnext (r : Fin 8) (k : Fin 1024) : iblk m c 6 t (ix3 0 r k) = argY m c (ix3 (bat t) ⟨min (t.val % 17 * 32 + 32) 543 * 8 + r.val, by omega⟩ k) := by
  blk_ext [iblk, V, idx t, bat, row]

/-! The shifts of a tile. -/

/-- The row above, from the rotated tile and the row before it. -/
theorem before_tile (f : Fin 4352 → EReal) (r : Fin 256) (e : EReal)
    (he : ∀ h : ¬ (t.val % 17 = 0 ∨ t.val % 17 = 1), e = f ⟨t.val % 17 * 256 - 1, by omega⟩) :
    (if r.val = 0 then (if ¬ (t.val % 17 = 0 ∨ t.val % 17 = 1) then e else 0) else f (row t ⟨(r.val + 256 - 1) % 256, by omega⟩)) = before f (row t r) := by
  have ht := t_lt t
  unfold before row
  dsimp only
  by_cases h0 : r.val = 0
  · rw [if_pos h0]
    by_cases h1 : t.val % 17 = 0 ∨ t.val % 17 = 1
    · rw [if_neg (not_not.mpr h1), if_pos (by omega)]
    · rw [if_pos h1, if_neg (by omega), he h1]
      exact congrArg f (Fin.ext (by dsimp only; omega))
  · rw [if_neg h0, if_neg (by omega)]
    exact congrArg f (Fin.ext (by dsimp only; omega))

/-- The row below, from the rotated tile and the row after it. -/
theorem after_tile (f : Fin 4352 → EReal) (r : Fin 256) (e : EReal)
    (he : ∀ h : ¬ (t.val % 17 = 0 ∨ t.val % 17 = 16), e = f ⟨min (t.val % 17 * 32 + 32) 543 * 8, by omega⟩) :
    (if r.val = 255 then (if ¬ (t.val % 17 = 0 ∨ t.val % 17 = 16) then e else 0) else f (row t ⟨(r.val + 256 - 255) % 256, by omega⟩)) = after f (row t r) := by
  have ht := t_lt t
  unfold after row
  dsimp only
  by_cases h0 : r.val = 255
  · rw [if_pos h0]
    by_cases h1 : t.val % 17 = 0 ∨ t.val % 17 = 16
    · rw [if_neg (not_not.mpr h1), dif_pos (by omega)]
    · rw [if_pos h1, dif_neg (by omega), he h1]
      exact congrArg f (Fin.ext (by dsimp only; omega))
  · rw [if_neg h0, dif_neg (by omega)]
    exact congrArg f (Fin.ext (by dsimp only; omega))

/-! The tile's quantities. -/

/-- The tile of the convolution's operand. -/
abbrev tileU : FVec Ideal S256x1024 .f32 := k0_pay6 (iblk m c 0 t)
/-- The operand one row up. -/
abbrev tileUp : FVec Ideal S256x1024 .f32 := k0_pay9 (tileU m c t) (k0_pay7 (grid0.coords t) (iblk m c 1 t))
/-- The operand one row down. -/
abbrev tileDn : FVec Ideal S256x1024 .f32 :=
  k0_pay10 (tileU m c t) (Scalar.andi (Scalar.cmpi .ne (BitVec.ofNat 32 (grid0.coords t 1).val) 0#32) (Scalar.cmpi .ne (BitVec.ofNat 32 (grid0.coords t 1).val) 16#32))
    (k0_pay8 (iblk m c 2 t)) (FloatOps.ofBits FTy.f32 0#32)
/-- The tile of the gradient of the convolution's result. -/
abbrev tileDC : FVec Ideal S256x1024 .f32 := k0_pay12 (k0_pay3 (iblk m c 0 t)) (iblk m c 4 t)

variable (r : Fin 256) (k : Fin 1024)

theorem tileU_apply : tileU m c t (ix2 r k) = prod (argZ m c) (bat t) k (row t r) := by
  pointwise [tileU, k0_pay6, k0_pay5, k0_pay4, k0_pay2]
  rw [blkZ, blkZ]
  rfl

theorem tileDC_apply : tileDC m c t (ix2 r k) = dconv (argZ m c) (argY m c) (bat t) k (row t r) := by
  pointwise [tileDC, k0_pay12, k0_pay11, k0_pay3, k0_pay2]
  rw [blkZ, blkY]
  rfl

theorem tileUp_apply : tileUp m c t (ix2 r k) = before (prod (argZ m c) (bat t) k) (row t r) := by
  rw [← before_tile t (prod (argZ m c) (bat t) k) r (@HMul.hMul EReal EReal EReal instHMul (iblk m c 1 t (ix3 0 7 ⟨1024 + k.val, by omega⟩)) (iblk m c 1 t (ix3 0 7 ⟨2048 + k.val, by omega⟩)))
    (fun h => by
      rw [blkZprev, blkZprev]; unfold prod facC facV
      congr 3 <;> exact Fin.ext (by dsimp only; omega))]
  rw [← tileU_apply, ← sel_bool, ← sel_bool, ← firstRow, ← flagPrev]
  pointwise [tileUp, k0_pay9, k0_pay7]

theorem tileDn_apply : tileDn m c t (ix2 r k) = after (prod (argZ m c) (bat t) k) (row t r) := by
  rw [← after_tile t (prod (argZ m c) (bat t) k) r (@HMul.hMul EReal EReal EReal instHMul (iblk m c 2 t (ix3 0 0 ⟨1024 + k.val, by omega⟩)) (iblk m c 2 t (ix3 0 0 ⟨2048 + k.val, by omega⟩)))
    (fun h => by
      rw [blkZnext, blkZnext]; unfold prod facC facV
      congr 3 <;> exact Fin.ext (by dsimp only; omega))]
  rw [← tileU_apply, ← sel_bool, ← sel_bool, ← lastRow, ← flagNext]
  pointwise [tileDn, k0_pay10, k0_pay8]

/-- The taps, each a row of the block of `w`. -/
abbrev tap0 : FVec Ideal S1x1024 .f32 := View.ld (iblk m c 3 t) (Rect.unit ![0, 0] ![1, 1024] inb_S3x1024_S1x1024_0_0)
abbrev tap1 : FVec Ideal S1x1024 .f32 := View.ld (iblk m c 3 t) (Rect.unit ![1, 0] ![1, 1024] inb_S3x1024_S1x1024_1_0)
abbrev tap2 : FVec Ideal S1x1024 .f32 := View.ld (iblk m c 3 t) (Rect.unit ![2, 0] ![1, 1024] inb_S3x1024_S1x1024_2_0)

theorem tap0_apply : tap0 m c t (ix2 0 k) = argW m c (ix2 0 k) := by
  rw [← blkW m c t 0 k]; pointwise [tap0]
theorem tap1_apply : tap1 m c t (ix2 0 k) = argW m c (ix2 1 k) := by
  rw [← blkW m c t 1 k]; pointwise [tap1]
theorem tap2_apply : tap2 m c t (ix2 0 k) = argW m c (ix2 2 k) := by
  rw [← blkW m c t 2 k]; pointwise [tap2]

/-- The tile of the gradient of the convolution's operand. -/
abbrev tileDU : FVec Ideal S256x1024 .f32 :=
  k0_pay15 (Scalar.andi (Scalar.cmpi .ne (BitVec.ofNat 32 (grid0.coords t 1).val) 0#32) (Scalar.cmpi .ne (BitVec.ofNat 32 (grid0.coords t 1).val) 1#32))
    (Scalar.andi (Scalar.cmpi .ne (BitVec.ofNat 32 (grid0.coords t 1).val) 0#32) (Scalar.cmpi .ne (BitVec.ofNat 32 (grid0.coords t 1).val) 16#32))
    (tap0 m c t) (tap1 m c t) (tap2 m c t) (tileDC m c t) (k0_pay13 (iblk m c 2 t)) (k0_pay14 (iblk m c 1 t) (iblk m c 5 t)) (iblk m c 6 t)

theorem tileDU_apply : tileDU m c t (ix2 r k) = dprod (argZ m c) (argW m c) (argY m c) (bat t) k (row t r) := by
  unfold dprod
  rw [← before_tile t (dconv (argZ m c) (argY m c) (bat t) k) r (@HMul.hMul EReal EReal EReal instHMul (iblk m c 5 t (ix3 0 7 k)) (iblk m c 1 t (ix3 0 7 ⟨k.val, by omega⟩)))
    (fun h => by
      rw [blkZprev, blkYprev]; unfold dconv gate
      congr 3 <;> exact Fin.ext (by dsimp only; omega)),
    ← after_tile t (dconv (argZ m c) (argY m c) (bat t) k) r (@HMul.hMul EReal EReal EReal instHMul (iblk m c 6 t (ix3 0 0 k)) (iblk m c 2 t (ix3 0 0 ⟨k.val, by omega⟩)))
    (fun h => by
      rw [blkZnext, blkYnext]; unfold dconv gate
      congr 3 <;> exact Fin.ext (by dsimp only; omega))]
  rw [← tileDC_apply, ← tileDC_apply, ← tileDC_apply, ← tap0_apply m c t, ← tap1_apply m c t, ← tap2_apply m c t, ← sel_bool, ← sel_bool,
    ← sel_bool, ← sel_bool, ← lastRow, ← flagNext, ← firstRow, ← flagPrev]
  pointwise [tileDU, k0_pay15, k0_pay13, k0_pay14]

/-! What the tile's three stores hold. -/

theorem storeB : k0_pay16 (tileU m c t) (tileUp m c t) (tileDn m c t) (tap0 m c t) (tap1 m c t) (tap2 m c t) (k0_pay11 (iblk m c 4 t)) (ix3 0 r k)
    = argY m c (ix3 (bat t) (row t r) k) * conv (argZ m c) (argW m c) (bat t) k (row t r) := by
  unfold conv
  rw [← blkY, ← tap0_apply m c t, ← tap1_apply m c t, ← tap2_apply m c t, ← tileU_apply, ← tileUp_apply, ← tileDn_apply]
  pointwise [k0_pay16, k0_pay11]

theorem storeC : k0_pay17 (k0_pay5 (iblk m c 0 t)) (tileDU m c t) (ix3 0 r k)
    = dprod (argZ m c) (argW m c) (argY m c) (bat t) k (row t r) * facV (argZ m c) (bat t) k (row t r) := by
  unfold facV
  rw [← tileDU_apply, ← blkZ]
  pointwise [k0_pay17, k0_pay5, k0_pay2]

theorem storeV : k0_pay18 (k0_pay4 (iblk m c 0 t)) (tileDU m c t) (ix3 0 r k)
    = dprod (argZ m c) (argW m c) (argY m c) (bat t) k (row t r) * facC (argZ m c) (bat t) k (row t r) := by
  unfold facC
  rw [← tileDU_apply, ← blkZ]
  pointwise [k0_pay18, k0_pay4, k0_pay2]

end Cert.Proof.Conv

end
-- ==== Proof.ConvValue.lean ====
/- What the convolution's gradient leaves in its two results. -/
module

public import proofs.«01_k».proof.Proof.ConvPoint
public import Idealize.ShloMosaic.Lib.Pipeline.ReadBack

@[expose] public section

set_option maxRecDepth 16384

noncomputable section

namespace Cert.Proof.Conv

open Cert.ConvIdeal Cert.ConvIdeal.Gen Idealize.ShloMosaic Idealize.ShloMosaic.TcCoe Idealize.SL.Sem

variable (m : (ℓ : Loc nD τ sig) → Buf (Elt Ideal) ℓ) (c : Dev nD)

/-- The tile's three stores side by side are a block of the gradient. -/
theorem tile_gradZ (t : Fin cfg0.N) (y : S1x256x3072.Idx) :
    View.canon (Val := Elt Ideal) (s := S1x256x3072) (e := .bf16) [⟨Rect.unit ![0, 0, 2048] ![1, 256, 1024] inb_S1x256x3072_S1x256x1024_0_0_2048, k0_pay18 (k0_pay4 (iblk m c 0 t)) (tileDU m c t)⟩,
        ⟨Rect.unit ![0, 0, 1024] ![1, 256, 1024] inb_S1x256x3072_S1x256x1024_0_0_1024, k0_pay17 (k0_pay5 (iblk m c 0 t)) (tileDU m c t)⟩,
        ⟨Rect.unit ![0, 0, 0] ![1, 256, 1024] inb_S1x256x3072_S1x256x1024_0_0_0, k0_pay16 (tileU m c t) (tileUp m c t) (tileDn m c t) (tap0 m c t) (tap1 m c t) (tap2 m c t) (k0_pay11 (iblk m c 4 t))⟩] y
      = gradZ (argZ m c) (argW m c) (argY m c) (bat t) (row t (y 1)) (y 2) := by
  canon_tiles x h
  all_goals obtain ⟨a, r, k, rfl⟩ : ∃ a r k, x = ix3 a r k := ⟨x 0, x 1, x 2, eq_ix3 x⟩
  all_goals obtain rfl : a = 0 := Subsingleton.elim _ _
  all_goals replace h1 : (y 1 : Fin 256) = r := Fin.ext h1
  all_goals rw [h1]
  · rw [storeV]; unfold gradZ
    rw [dif_neg (by omega), dif_neg (by omega)]
    simp only [show (y 2).val - 2048 = k.val by have e : (y 2).val = 2048 + k.val := h2; omega]
  · rw [storeC]; unfold gradZ
    rw [dif_neg (by omega), dif_pos (by omega)]
    simp only [show (y 2).val - 1024 = k.val by have e : (y 2).val = 1024 + k.val := h2; omega]
  · rw [storeB]; unfold gradZ
    rw [dif_pos (by omega)]
    simp only [show (y 2).val = k.val from h2]

/-- Where a tile's entry lies in the array. -/
theorem place (t : Fin cfg0.N) (y : S1x256x3072.Idx) (f : Fin 2 → Fin 4352 → Fin 3072 → EReal) :
    f (bat t) (row t (y 1)) (y 2) = f (((View.whole main_v0_0).slice (win0_7.rect t)).emb y 0) (((View.whole main_v0_0).slice (win0_7.rect t)).emb y 1)
      (((View.whole main_v0_0).slice (win0_7.rect t)).emb y 2) := by
  have e : ((View.whole main_v0_0).slice (win0_7.rect t)).emb y = ix3 (bat t) (row t (y 1)) (y 2) := by blk_ext [idx t, bat, row]
  rw [e]
  rfl

theorem final7 : (dats m 0 c).arrAt 7 (cfgs 0).N = fun i => gradZ (argZ m c) (argW m c) (argY m c) (i 0) (i 1) (i 2) := by
  refine (dats m 0 c).arrAt_eq_of_covers 7 _ (by decide +kernel) fun t _ y => ?_
  blk_simp
  rw [after0_7]
  by_cases h : t.val % 34 = 0
  · rw [outsAt0_A m c t h]; frame_out
    refine (tile_gradZ m c t y).trans ?_
    exact place t y _
  · rw [outsAt0_B m c t h]; frame_out
    exact (tile_gradZ m c t y).trans (place t y _)

/-- The row rectangles of the taps' gradient. -/
abbrev tapRow0 : Rect S3x1024 := Rect.unit (s := S3x1024) ![0, 0] ![1, 1024] inb_S3x1024_S1x1024_0_0
abbrev tapRow1 : Rect S3x1024 := Rect.unit (s := S3x1024) ![1, 0] ![1, 1024] inb_S3x1024_S1x1024_1_0
abbrev tapRow2 : Rect S3x1024 := Rect.unit (s := S3x1024) ![2, 0] ![1, 1024] inb_S3x1024_S1x1024_2_0

theorem row0_emb (k : Fin 1024) : ix2 (0 : Fin 3) k = tapRow0.emb (ix2 0 k) := by blk_ext
theorem row1_emb (k : Fin 1024) : ix2 (1 : Fin 3) k = tapRow1.emb (ix2 0 k) := by blk_ext
theorem row2_emb (k : Fin 1024) : ix2 (2 : Fin 3) k = tapRow2.emb (ix2 0 k) := by blk_ext

theorem row0_off2 (k : Fin 1024) : tapRow0.emb (ix2 0 k) ∉ tapRow2.set := LoadRect.idx_not_mem_of_disj (B := tapRow0.toLoadRect) (by decide) (ix2 0 k)
theorem row0_off1 (k : Fin 1024) : tapRow0.emb (ix2 0 k) ∉ tapRow1.set := LoadRect.idx_not_mem_of_disj (B := tapRow0.toLoadRect) (by decide) (ix2 0 k)
theorem row1_off2 (k : Fin 1024) : tapRow1.emb (ix2 0 k) ∉ tapRow2.set := LoadRect.idx_not_mem_of_disj (B := tapRow1.toLoadRect) (by decide) (ix2 0 k)

section rows
variable (L : List (View.Piece (Elt Ideal) S3x1024 .f32)) (P2 P1 P0 : FVec Ideal S1x1024 .f32) (k : Fin 1024)

/-- Three row stores over earlier ones, read at each row. -/
abbrev rowStores : S3x1024.Idx → EReal := View.canon (Val := Elt Ideal) (s := S3x1024) (e := .f32) (⟨tapRow2, P2⟩ :: ⟨tapRow1, P1⟩ :: ⟨tapRow0, P0⟩ :: L)

theorem rowStores_0 : rowStores L P2 P1 P0 (ix2 0 k) = P0 (ix2 0 k) :=
  (congrArg (rowStores L P2 P1 P0) (row0_emb k)).trans
    ((View.canon_cons_of_not_mem (Val := Elt Ideal) (e := .f32) ⟨tapRow2, P2⟩ (⟨tapRow1, P1⟩ :: ⟨tapRow0, P0⟩ :: L) (row0_off2 k)).trans
      ((View.canon_cons_of_not_mem (Val := Elt Ideal) (e := .f32) ⟨tapRow1, P1⟩ (⟨tapRow0, P0⟩ :: L) (row0_off1 k)).trans
        (View.canon_cons_emb (Val := Elt Ideal) (e := .f32) tapRow0 P0 L (ix2 0 k))))
theorem rowStores_1 : rowStores L P2 P1 P0 (ix2 1 k) = P1 (ix2 0 k) :=
  (congrArg (rowStores L P2 P1 P0) (row1_emb k)).trans
    ((View.canon_cons_of_not_mem (Val := Elt Ideal) (e := .f32) ⟨tapRow2, P2⟩ (⟨tapRow1, P1⟩ :: ⟨tapRow0, P0⟩ :: L) (row1_off2 k)).trans
      (View.canon_cons_emb (Val := Elt Ideal) (e := .f32) tapRow1 P1 (⟨tapRow0, P0⟩ :: L) (ix2 0 k)))
theorem rowStores_2 : rowStores L P2 P1 P0 (ix2 2 k) = P2 (ix2 0 k) :=
  (congrArg (rowStores L P2 P1 P0) (row2_emb k)).trans
    (View.canon_cons_emb (Val := Elt Ideal) (e := .f32) tapRow2 P2 (⟨tapRow1, P1⟩ :: ⟨tapRow0, P0⟩ :: L) (ix2 0 k))
end rows

/-- What the point adds to entry `(j, k)` of the taps' gradient. -/
def part (t : Fin cfg0.N) (i : S3x1024.Idx) : EReal :=
  ∑ r : Fin 256, dconv (argZ m c) (argY m c) (bat t) (i 1) (row t r) * tapped (argZ m c) (i 0) (bat t) (i 1) (row t r)

/-- Adding to a block `X` what the point's rows contribute. -/
theorem rows_add (t : Fin cfg0.N) (X : FVec Ideal S3x1024 .f32) (L : List (View.Piece (Elt Ideal) S3x1024 .f32)) (i : S3x1024.Idx) :
    rowStores L (k0_pay1 (k0_pay22 (View.ld (Val := Elt Ideal) (S := S3x1024) (e' := .f32) X tapRow2)) (k0_pay23 (tileDn m c t) (tileDC m c t)))
      (k0_pay21 (tileU m c t) (tileDC m c t) (View.ld (Val := Elt Ideal) (S := S3x1024) (e' := .f32) X tapRow1))
      (k0_pay20 (tileUp m c t) (tileDC m c t) (View.ld (Val := Elt Ideal) (S := S3x1024) (e' := .f32) X tapRow0)) i = X i + part m c t i := by
  obtain ⟨j, k, rfl⟩ : ∃ j k, i = ix2 j k := ⟨i 0, i 1, eq_ix2 i⟩
  match j with
  | ⟨0, _⟩ =>
    refine (rowStores_0 _ _ _ _ k).trans ?_
    pointwise [k0_pay20]
    refine congrArg (_ + ·) (Finset.sum_congr rfl fun r _ => ?_)
    rw [tileDC_apply, tileUp_apply]; rfl
  | ⟨1, _⟩ =>
    refine (rowStores_1 _ _ _ _ k).trans ?_
    pointwise [k0_pay21]
    refine congrArg (_ + ·) (Finset.sum_congr rfl fun r _ => ?_)
    rw [tileDC_apply, tileU_apply]; rfl
  | ⟨2, _⟩ =>
    refine (rowStores_2 _ _ _ _ k).trans ?_
    pointwise [k0_pay1, k0_pay22, k0_pay23]
    refine congrArg (_ + ·) (Finset.sum_congr rfl fun r _ => ?_)
    rw [tileDC_apply, tileDn_apply]; rfl

theorem out_step (t : Fin cfg0.N) (h : ¬ t.val % 34 = 0) (i : S3x1024.Idx) :
    (outsAt0 m c t.val t.isLt).2 i = (outsAt0 m c (t.val - 1) (Nat.lt_of_le_of_lt (Nat.sub_le _ _) t.isLt)).2 i + part m c t i := by
  rw [outsAt0_B m c t h]; frame_out
  exact rows_add m c t _ _ i

theorem out_first (t : Fin cfg0.N) (h : t.val % 34 = 0) (i : S3x1024.Idx) : (outsAt0 m c t.val t.isLt).2 i = 0 + part m c t i := by
  rw [outsAt0_A m c t h]; frame_out
  simp (disch := first | rfl | decide) only [↓View.readCov_skip, ↓View.readCov_fill]
  refine (rows_add m c t _ _ i).trans (congrArg (· + _) ?_)
  pointwise [k0_pay19]

/-- The last point, which writes the taps' gradient back. -/
def lastPoint : Fin cfg0.N := ⟨33, by decide⟩

theorem final8 : (dats m 0 c).arrAt 8 (cfgs 0).N = fun i => gradW (argZ m c) (argY m c) (i 0) (i 1) := by
  refine (dats m 0 c).arrAt_eq_of_after_last 8 lastPoint (by decide +kernel) _ fun j => ?_
  blk_simp
  rw [after0_8]
  refine (Pipeline.eq_sum_fin_of_reset_step_apply_last (fun n h => (outsAt0 m c n h).2) 34 (fun _ => 0) (part m c)
    (out_first m c) (out_step m c) (by decide) lastPoint rfl _).trans ?_
  rw [zero_add]
  exact Fin.sum_points_lanes_fin 17 (fun b r => dconv (argZ m c) (argY m c) b (j 1) r * tapped (argZ m c) (j 0) b (j 1) r)

end Cert.Proof.Conv

end
-- ==== Proof.lean ====
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpRefIdeal
public import proofs.«01_k».proof.Proof.Gen.MlpRefIdeal.Run
public import proofs.«01_k».proof.Proof.Gen.MlpRefIdeal.Read
public import proofs.«01_k».proof.Proof.ConvRef
public import proofs.«01_k».proof.Proof.Gen.Linear
public import proofs.«01_k».proof.Proof.Gen.Linear.Frame
public import proofs.«01_k».proof.Proof.Gen.LinearIdeal
public import proofs.«01_k».proof.Proof.Gen.LinearIdeal.Frame
public import proofs.«01_k».proof.Proof.Gen.LinearRefIdeal
public import proofs.«01_k».proof.Proof.Gen.LinearRefIdeal.Run
public import proofs.«01_k».proof.Proof.Gen.LinearRefIdeal.Read
public import proofs.«01_k».proof.Proof.Gen.Adamw
public import proofs.«01_k».proof.Proof.Gen.Adamw.Frame
public import proofs.«01_k».proof.Proof.Gen.AdamwIdeal
public import proofs.«01_k».proof.Proof.Gen.AdamwIdeal.Frame
public import proofs.«01_k».proof.Proof.Gen.AdamwRefIdeal
public import proofs.«01_k».proof.Proof.Gen.AdamwRefIdeal.Run
public import proofs.«01_k».proof.Proof.Gen.AdamwRefIdeal.Read
public import proofs.«01_k».proof.Proof.MlpRef
public import proofs.«01_k».proof.Proof.MlpRun
public import proofs.«01_k».proof.Proof.LinearRef
public import proofs.«01_k».proof.Proof.Gen.Ada
public import proofs.«01_k».proof.Proof.Gen.Ada.Frame
public import proofs.«01_k».proof.Proof.Gen.AdaIdeal
public import proofs.«01_k».proof.Proof.Gen.AdaIdeal.Frame
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Readout
public import proofs.«01_k».proof.Proof.Gen.Readout.Frame
public import proofs.«01_k».proof.Proof.Gen.ReadoutIdeal
public import proofs.«01_k».proof.Proof.Gen.ReadoutIdeal.Frame
public import proofs.«01_k».proof.Proof.Gen.ReadoutRefIdeal
public import proofs.«01_k».proof.Proof.Gen.ReadoutRefIdeal.Run
public import proofs.«01_k».proof.Proof.Gen.ReadoutRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Skeleton
public import proofs.«01_k».proof.Proof.Gen.NormRefIdeal
public import proofs.«01_k».proof.Proof.Gen.NormRefIdeal.Run
public import proofs.«01_k».proof.Proof.Gen.NormRefIdeal.Read
public import proofs.«01_k».proof.Proof.NormRun
public import proofs.«01_k».proof.Proof.NormRef
public import proofs.«01_k».proof.Proof.AdaRun
public import proofs.«01_k».proof.Proof.AdaRef
public import proofs.«01_k».proof.Proof.ReadoutRun
public import proofs.«01_k».proof.Proof.ReadoutRef
public import proofs.«01_k».proof.Proof.AdamwRun
public import proofs.«01_k».proof.Proof.AdamwRef
public import proofs.«01_k».proof.Proof.LinearRun
public import proofs.«01_k».proof.Proof.ConvValue
public import Idealize.ShloMosaic.Adequacy
public import Idealize.ShloMosaic.Init

@[expose] public section

noncomputable section

namespace Cert.Proof

open Idealize.ShloMosaic Idealize.SL.Sem Cert.Conv

/-- The reference ends with its arguments unchanged and every counter at zero. -/
theorem conv_ref_frame : Cert.quiescent_ConvRefIdeal := fun m g _ =>
  θ_run_mono (Cert.ConvRefIdeal.Value.run m g) fun r h => ⟨fun c => (h c).2.2, sem_eq_zero_of_no_sems (by decide) r.2⟩

/-- Over the extended reals the convolution's backward call and the derivative of the plain convolution end with the
    same two gradients. -/
theorem conv_algebraic : Cert.algebraic_ConvIdeal_ConvRefIdeal := by
  pair_intro
  · run_from Cert.ConvIdeal.Value.run_blocks m g
  · refine θ_run_mono (Cert.ConvRefIdeal.Value.run m' g') fun r hr c => ?_
    obtain ⟨hz, hw, h0, h1, h2⟩ := hr c
    obtain ⟨e0, e1, e2⟩ := hagree c
    refine ⟨hz.trans ?_, hw.trans ?_, h0, h1, h2⟩
    · rw [Cert.ConvRefIdeal.Read.val_main_v82_eq, e0, e1, e2]
      refine Eq.trans ?_ (Conv.final7 m c).symm
      funext i
      rw [eq_ix3 i]
      exact Conv.ref_gradZ _ _ _ _ _ _
    · rw [Cert.ConvRefIdeal.Read.val_main_v62_eq, e0, e2]
      refine Eq.trans ?_ (Conv.final8 m c).symm
      funext i
      rw [eq_ix2 i]
      exact Conv.ref_gradW _ _ _ _

theorem mlp_ref_frame : Cert.quiescent_MlpRefIdeal := fun m g _ =>
  θ_run_mono (Cert.MlpRefIdeal.Value.run m g) fun r h => ⟨fun c => (h c).2.2.2.2, sem_eq_zero_of_no_sems (by decide) r.2⟩

/-- The six calls of the multilayer perceptron compute it and its three gradients. -/
theorem mlp_algebraic : Cert.algebraic_MlpIdeal_MlpRefIdeal := by
  pair_intro
  · run_from Mlp.run m g
  · refine θ_run_mono (Cert.MlpRefIdeal.Value.run m' g') fun r hr c => ?_
    obtain ⟨hy, hdh, hdw1, hdw2, h0, h1, h2, h3⟩ := hr c
    obtain ⟨e0, e1, e2, e3⟩ := hagree c
    refine ⟨hy.trans ?_, hdh.trans ?_, hdw1.trans ?_, hdw2.trans ?_, h0, h1, h2, h3⟩
    · refine Eq.trans ?_ (Mlp.final_y m g c).symm
      rw [e0, e1, e2]; exact Mlp.ref_y _ _ _
    · refine Eq.trans ?_ (Mlp.final_dh m g c).symm
      rw [e0, e1, e2, e3]; exact Mlp.ref_dh _ _ _ _
    · refine Eq.trans ?_ (Mlp.final_dw1 m g c).symm
      rw [e0, e1, e2, e3]; exact Mlp.ref_dw1 _ _ _ _
    · refine Eq.trans ?_ (Mlp.final_dw2 m g c).symm
      rw [e0, e1, e3]; exact Mlp.ref_dw2 _ _ _

theorem linear_ref_frame : Cert.quiescent_LinearRefIdeal := fun m g _ =>
  θ_run_mono (Cert.LinearRefIdeal.Value.run m g) fun r h => ⟨fun c => (h c).2.2.2.2.2.2.2.2.2.2.2.2, sem_eq_zero_of_no_sems (by decide) r.2⟩

/-- The projections' calls compute them and the gradients of their arguments and weights. -/
theorem linear_algebraic : Cert.algebraic_LinearIdeal_LinearRefIdeal := by
  pair_intro
  · run_from Linear.ends m g
  · refine θ_run_mono (Cert.LinearRefIdeal.Value.run m' g') fun r hr c => ?_
    obtain ⟨y3, dx3, dw3, y1, dx1, dw1, y5, dx5, dw5, y2, dx2, dw2, args⟩ := hr c
    obtain ⟨e0, e1, e2, e3, e4, e5, e6, e7, e8, e9, e10, e11⟩ := hagree c
    refine ⟨y3.trans ?_, dx3.trans ?_, dw3.trans ?_, y1.trans ?_, dx1.trans ?_, dw1.trans ?_, y5.trans ?_, dx5.trans ?_, dw5.trans ?_,
      y2.trans ?_, dx2.trans ?_, dw2.trans ?_, args⟩
    · refine Eq.trans ?_ (Linear.final0 m g c).symm; rw [e0, e1]; exact Linear.ref_y3 _ _
    · refine Eq.trans ?_ (Linear.final1 m g c).symm; rw [e1, e2]; exact Linear.ref_dx3 _ _
    · refine Eq.trans ?_ (Linear.final2 m g c).symm; rw [e0, e2]; exact Linear.ref_dw3 _ _
    · refine Eq.trans ?_ (Linear.final3 m g c).symm; rw [e3, e4]; exact Linear.ref_y1 _ _
    · refine Eq.trans ?_ (Linear.final4 m g c).symm; rw [e4, e5]; exact Linear.ref_dx1 _ _
    · refine Eq.trans ?_ (Linear.final5 m g c).symm; rw [e3, e5]; exact Linear.ref_dw1 _ _
    · refine Eq.trans ?_ (Linear.final6 m g c).symm; rw [e6, e7]; exact Linear.ref_y5 _ _
    · refine Eq.trans ?_ (Linear.final7 m g c).symm; rw [e7, e8]; exact Linear.ref_dx5 _ _
    · refine Eq.trans ?_ (Linear.final8 m g c).symm; rw [e6, e8]; exact Linear.ref_dw5 _ _
    · refine Eq.trans ?_ (Linear.final9 m g c).symm; rw [e9, e10]; exact Linear.ref_y2 _ _
    · refine Eq.trans ?_ (Linear.final10 m g c).symm; rw [e10, e11]; exact Linear.ref_dx2 _ _
    · refine Eq.trans ?_ (Linear.final11 m g c).symm; rw [e9, e11]; exact Linear.ref_dw2 _ _

theorem adamw_ref_frame : Cert.quiescent_AdamwRefIdeal := fun m g _ =>
  θ_run_mono (Cert.AdamwRefIdeal.Value.run m g) fun r h => ⟨fun c => (h c).2.2.2.2.2.2.2.2.2.2.2.2.2.2.2.2.2.2.2.2.2, sem_eq_zero_of_no_sems (by decide) r.2⟩

/-- The optimiser's calls compute its step: the changes of the weights and the new moments. -/
theorem adamw_algebraic : Cert.algebraic_AdamwIdeal_AdamwRefIdeal := by
  pair_intro
  · run_from Adamw.ends m g
  · refine θ_run_mono (Cert.AdamwRefIdeal.Value.run m' g') fun r hr c => ?_
    obtain ⟨d0, m0, v0, d1, m1, v1, d2, m2, v2, d3, m3, v3, d4, m4, v4, d5, m5, v5, d6, m6, v6, args⟩ := hr c
    obtain ⟨e0, e1, e2, e3, e4, e5, e6, e7, e8, e9, e10, e11, e12, e13, e14, e15, e16, e17, e18, e19, e20, e21, e22, e23, e24, e25, e26, e27⟩ := hagree c
    refine ⟨d0.trans ?_, m0.trans ?_, v0.trans ?_, d1.trans ?_, m1.trans ?_, v1.trans ?_, d2.trans ?_, m2.trans ?_, v2.trans ?_, d3.trans ?_, m3.trans ?_, v3.trans ?_, d4.trans ?_, m4.trans ?_, v4.trans ?_, d5.trans ?_, m5.trans ?_, v5.trans ?_, d6.trans ?_, m6.trans ?_, v6.trans ?_, args⟩
    · refine Eq.trans ?_ (Adamw.final0 m g c).1.symm; exact (Adamw.ref_delta0 _ _ _ _).trans (Adamw.delta_of_eq e0 e1 e2 e3)
    · refine Eq.trans ?_ (Adamw.final0 m g c).2.1.symm; exact (Adamw.ref_newM0 _ _).trans (congrArg₂ _ e1 e2)
    · refine Eq.trans ?_ (Adamw.final0 m g c).2.2.symm; exact (Adamw.ref_newV0 _ _).trans (congrArg₂ _ e1 e3)
    · refine Eq.trans ?_ (Adamw.final1 m g c).1.symm; exact (Adamw.ref_delta1 _ _ _ _).trans (Adamw.delta_of_eq e4 e5 e6 e7)
    · refine Eq.trans ?_ (Adamw.final1 m g c).2.1.symm; exact (Adamw.ref_newM1 _ _).trans (congrArg₂ _ e5 e6)
    · refine Eq.trans ?_ (Adamw.final1 m g c).2.2.symm; exact (Adamw.ref_newV1 _ _).trans (congrArg₂ _ e5 e7)
    · refine Eq.trans ?_ (Adamw.final2 m g c).1.symm; exact (Adamw.ref_delta2 _ _ _ _).trans (Adamw.delta_of_eq e8 e9 e10 e11)
    · refine Eq.trans ?_ (Adamw.final2 m g c).2.1.symm; exact (Adamw.ref_newM2 _ _).trans (congrArg₂ _ e9 e10)
    · refine Eq.trans ?_ (Adamw.final2 m g c).2.2.symm; exact (Adamw.ref_newV2 _ _).trans (congrArg₂ _ e9 e11)
    · refine Eq.trans ?_ (Adamw.final3 m g c).1.symm; exact (Adamw.ref_delta3 _ _ _ _).trans (Adamw.delta_of_eq e12 e13 e14 e15)
    · refine Eq.trans ?_ (Adamw.final3 m g c).2.1.symm; exact (Adamw.ref_newM3 _ _).trans (congrArg₂ _ e13 e14)
    · refine Eq.trans ?_ (Adamw.final3 m g c).2.2.symm; exact (Adamw.ref_newV3 _ _).trans (congrArg₂ _ e13 e15)
    · refine Eq.trans ?_ (Adamw.final4 m g c).1.symm; exact (Adamw.ref_delta4 _ _ _ _).trans (Adamw.delta_of_eq e16 e17 e18 e19)
    · refine Eq.trans ?_ (Adamw.final4 m g c).2.1.symm; exact (Adamw.ref_newM4 _ _).trans (congrArg₂ _ e17 e18)
    · refine Eq.trans ?_ (Adamw.final4 m g c).2.2.symm; exact (Adamw.ref_newV4 _ _).trans (congrArg₂ _ e17 e19)
    · refine Eq.trans ?_ (Adamw.final5 m g c).1.symm; exact (Adamw.ref_delta5 _ _ _ _).trans (Adamw.delta_of_eq e20 e21 e22 e23)
    · refine Eq.trans ?_ (Adamw.final5 m g c).2.1.symm; exact (Adamw.ref_newM5 _ _).trans (congrArg₂ _ e21 e22)
    · refine Eq.trans ?_ (Adamw.final5 m g c).2.2.symm; exact (Adamw.ref_newV5 _ _).trans (congrArg₂ _ e21 e23)
    · refine Eq.trans ?_ (Adamw.final6 m g c).1.symm; exact (Adamw.ref_delta6 _ _ _ _).trans (Adamw.delta_of_eq e24 e25 e26 e27)
    · refine Eq.trans ?_ (Adamw.final6 m g c).2.1.symm; exact (Adamw.ref_newM6 _ _).trans (congrArg₂ _ e25 e26)
    · refine Eq.trans ?_ (Adamw.final6 m g c).2.2.symm; exact (Adamw.ref_newV6 _ _).trans (congrArg₂ _ e25 e27)

theorem ada_ref_frame : Cert.quiescent_AdaRefIdeal := fun m g _ =>
  θ_run_mono (Cert.AdaRefIdeal.Value.run m g) fun r h => ⟨fun c => (h c).2.2.2.2.2.2, sem_eq_zero_of_no_sems (by decide) r.2⟩

/-- The modulation's calls compute it and its gradients, and the sums their parts' sums. -/
theorem ada_algebraic : Cert.algebraic_AdaIdeal_AdaRefIdeal := by
  pair_intro
  · run_from Ada.ends m g
  · refine θ_run_mono (Cert.AdaRefIdeal.Value.run m' g') fun r hr c => ?_
    obtain ⟨mod, dw, ds, rows, cond, parts, args⟩ := hr c
    obtain ⟨e0, e1, e2, e3, e4, e5⟩ := hagree c
    refine ⟨mod.trans ?_, dw.trans ?_, ds.trans ?_, rows.trans ?_, cond.trans ?_, parts.trans ?_, args⟩
    · exact ((Ada.ref_mod _ _).trans (congrArg₂ _ e0 e1)).trans (Ada.final0 m g c).symm
    · exact ((Ada.ref_dw _ _).trans (congrArg₂ _ e0 e2)).trans (Ada.final1 m g c).symm
    · exact ((Ada.ref_ds _ _).trans (congrArg₂ _ e2 e1)).trans (Ada.final2 m g c).symm
    · exact ((Ada.ref_rows _).trans (congrArg _ e3)).trans (Ada.final3 m g c).symm
    · exact ((Ada.ref_cond _).trans (congrArg _ e4)).trans (Ada.final4 m g c).symm
    · exact ((Ada.ref_parts _).trans (congrArg _ e5)).trans (Ada.final5 m g c).symm

theorem readout_ref_frame : Cert.quiescent_ReadoutRefIdeal := fun m g _ =>
  θ_run_mono (Cert.ReadoutRefIdeal.Value.run m g) fun r h => ⟨fun c => (h c).2.2.2.2, sem_eq_zero_of_no_sems (by decide) r.2⟩

/-- The readout's calls compute it and its three gradients. -/
theorem readout_algebraic : Cert.algebraic_ReadoutIdeal_ReadoutRefIdeal := by
  pair_intro
  · run_from Readout.ends m g
  · refine θ_run_mono (Cert.ReadoutRefIdeal.Value.run m' g') fun r hr c => ?_
    obtain ⟨y, dx, da, dw, args⟩ := hr c
    obtain ⟨e0, e1, e2, e3⟩ := hagree c
    refine ⟨y.trans ?_, dx.trans ?_, da.trans ?_, dw.trans ?_, args⟩
    · refine Eq.trans ?_ (Readout.final_output m g c).symm; rw [e0, e1, e2]; exact Readout.ref_output _ _ _
    · refine Eq.trans ?_ (Readout.final_head m g c).symm; rw [Cert.ReadoutRefIdeal.Read.val_main_v48_eq, e0, e1, e2, e3]; exact Readout.ref_head _ _ _ _
    · refine Eq.trans ?_ (Readout.final_gate m g c).symm; rw [e0, e1, e2, e3]; exact Readout.ref_gate _ _ _ _
    · refine Eq.trans ?_ (Readout.final_weight m g c).symm; rw [e0, e1, e3]; exact Readout.ref_weight _ _ _

theorem norm_ref_frame : Cert.quiescent_NormRefIdeal := fun m g _ =>
  θ_run_mono (Cert.NormRefIdeal.Value.run m g) fun r h => ⟨fun c => (h c).2.2.2, sem_eq_zero_of_no_sems (by decide) r.2⟩

/-- The norm's backward call computes the gradients of the tokens, of the gain, and of the shifts and scales. -/
theorem norm_algebraic : Cert.algebraic_NormIdeal_NormRefIdeal := by
  pair_intro
  · run_from Norm.ends m g
  · refine θ_run_mono (Cert.NormRefIdeal.Value.run m' g') fun r hr c => ?_
    obtain ⟨dx, dg, ds, args⟩ := hr c
    obtain ⟨e0, e1, e2, e3, e4, e5⟩ := hagree c
    refine ⟨dx.trans ?_, dg.trans ?_, ds.trans ?_, args⟩
    · refine Eq.trans ?_ (Norm.final_x m c).symm
      rw [Cert.NormRefIdeal.Read.val_main_v126_eq, e0, e2, e3, e4, e5]; exact Norm.ref_x _ _ _ _ _ _
    · refine Eq.trans ?_ (Norm.final_gain m c).symm; rw [e0, e1, e3, e4]; exact Norm.ref_gain _ _ _ _
    · refine Eq.trans ?_ (Norm.final_mod m c).symm; rw [e0, e1, e2, e4]; exact Norm.ref_mod _ _ _ _

theorem claim : Cert.Claim := ⟨Cert.Conv.Gen.facts, Cert.ConvIdeal.Gen.facts, Cert.ConvRefIdeal.Gen.facts,
  Cert.Mlp.Gen.facts, Cert.MlpIdeal.Gen.facts, Cert.MlpRefIdeal.Gen.facts,
  Cert.Linear.Gen.facts, Cert.LinearIdeal.Gen.facts, Cert.LinearRefIdeal.Gen.facts,
  Cert.Adamw.Gen.facts, Cert.AdamwIdeal.Gen.facts, Cert.AdamwRefIdeal.Gen.facts,
  Cert.Ada.Gen.facts, Cert.AdaIdeal.Gen.facts, Cert.AdaRefIdeal.Gen.facts,
  Cert.Readout.Gen.facts, Cert.ReadoutIdeal.Gen.facts, Cert.ReadoutRefIdeal.Gen.facts,
  Cert.Norm.Gen.facts, Cert.NormIdeal.Gen.facts, Cert.NormRefIdeal.Gen.facts,
  fun m ρ _ => Cert.Conv.Gen.frame m ρ, fun m ρ _ => Cert.ConvIdeal.Gen.frame m ρ, conv_ref_frame,
  fun m ρ _ => Cert.Mlp.Gen.frame m ρ, fun m ρ _ => Cert.MlpIdeal.Gen.frame m ρ, mlp_ref_frame,
  fun m ρ _ => Cert.Linear.Gen.frame m ρ, fun m ρ _ => Cert.LinearIdeal.Gen.frame m ρ, linear_ref_frame,
  fun m ρ _ => Cert.Adamw.Gen.frame m ρ, fun m ρ _ => Cert.AdamwIdeal.Gen.frame m ρ, adamw_ref_frame,
  fun m ρ _ => Cert.Ada.Gen.frame m ρ, fun m ρ _ => Cert.AdaIdeal.Gen.frame m ρ, ada_ref_frame,
  fun m ρ _ => Cert.Readout.Gen.frame m ρ, fun m ρ _ => Cert.ReadoutIdeal.Gen.frame m ρ, readout_ref_frame,
  Norm.frame_norm, fun m ρ _ => Cert.NormIdeal.Gen.frame (F := Ideal) m ρ, norm_ref_frame,
  trivial, conv_algebraic, trivial, mlp_algebraic, trivial, linear_algebraic, trivial, adamw_algebraic,
  trivial, ada_algebraic, trivial, readout_algebraic, trivial, norm_algebraic⟩

end Cert.Proof

end
